-- ==== Defs.lean ====
def Pre_Attn0 (m : (ℓ : Loc Cert.Attn0.nD Cert.Attn0.τ Cert.Attn0.sig) → Buf (Elt Bits) ℓ) : Prop :=
  True

def Pre_Attn0Ideal (m : (ℓ : Loc Cert.Attn0Ideal.nD Cert.Attn0Ideal.τ Cert.Attn0Ideal.sig) → Buf (Elt Ideal) ℓ) : Prop :=
  True

def Pre_Attn0Ideal_finite_qk_0 [hPre_finite_qk_0 : Cert.Pre_finite_qk_0.Facts] (m : (ℓ : Loc Cert.Attn0Ideal.nD Cert.Attn0Ideal.τ Cert.Attn0Ideal.sig) → Buf (Elt Ideal) ℓ) : Prop :=
  ∀ c : Dev Cert.Attn0Ideal.nD,
    (Cert.Pre_finite_qk_0.fn (F := Ideal) (m ((c.tc : Thread Cert.Attn0Ideal.nD Cert.Attn0Ideal.τ).loc Cert.Attn0Ideal.main_arg0))) = (fun _ => 1#1)

def Pre_AttnRef0Ideal (m : (ℓ : Loc Cert.AttnRef0Ideal.nD Cert.AttnRef0Ideal.τ Cert.AttnRef0Ideal.sig) → Buf (Elt Ideal) ℓ) : Prop :=
  True

def Pre_AttnRef0Ideal_finite_qk_0 [hPre_finite_qk_0 : Cert.Pre_finite_qk_0.Facts] (m : (ℓ : Loc Cert.AttnRef0Ideal.nD Cert.AttnRef0Ideal.τ Cert.AttnRef0Ideal.sig) → Buf (Elt Ideal) ℓ) : Prop :=
  ∀ c : Dev Cert.AttnRef0Ideal.nD,
    (Cert.Pre_finite_qk_0.fn (F := Ideal) (m ((c.tc : Thread Cert.AttnRef0Ideal.nD Cert.AttnRef0Ideal.τ).loc Cert.AttnRef0Ideal.main_arg0))) = (fun _ => 1#1)

def Pre_Attn1 (m : (ℓ : Loc Cert.Attn1.nD Cert.Attn1.τ Cert.Attn1.sig) → Buf (Elt Bits) ℓ) : Prop :=
  True

def Pre_Attn1Ideal (m : (ℓ : Loc Cert.Attn1Ideal.nD Cert.Attn1Ideal.τ Cert.Attn1Ideal.sig) → Buf (Elt Ideal) ℓ) : Prop :=
  True

def Pre_Attn1Ideal_finite_qk_1 [hPre_finite_qk_1 : Cert.Pre_finite_qk_1.Facts] (m : (ℓ : Loc Cert.Attn1Ideal.nD Cert.Attn1Ideal.τ Cert.Attn1Ideal.sig) → Buf (Elt Ideal) ℓ) : Prop :=
  ∀ c : Dev Cert.Attn1Ideal.nD,
    (Cert.Pre_finite_qk_1.fn (F := Ideal) (m ((c.tc : Thread Cert.Attn1Ideal.nD Cert.Attn1Ideal.τ).loc Cert.Attn1Ideal.main_arg0))) = (fun _ => 1#1)

def Pre_AttnRef1Ideal (m : (ℓ : Loc Cert.AttnRef1Ideal.nD Cert.AttnRef1Ideal.τ Cert.AttnRef1Ideal.sig) → Buf (Elt Ideal) ℓ) : Prop :=
  True

def Pre_AttnRef1Ideal_finite_qk_1 [hPre_finite_qk_1 : Cert.Pre_finite_qk_1.Facts] (m : (ℓ : Loc Cert.AttnRef1Ideal.nD Cert.AttnRef1Ideal.τ Cert.AttnRef1Ideal.sig) → Buf (Elt Ideal) ℓ) : Prop :=
  ∀ c : Dev Cert.AttnRef1Ideal.nD,
    (Cert.Pre_finite_qk_1.fn (F := Ideal) (m ((c.tc : Thread Cert.AttnRef1Ideal.nD Cert.AttnRef1Ideal.τ).loc Cert.AttnRef1Ideal.main_arg0))) = (fun _ => 1#1)

def Pre_Attn2 (m : (ℓ : Loc Cert.Attn2.nD Cert.Attn2.τ Cert.Attn2.sig) → Buf (Elt Bits) ℓ) : Prop :=
  True

def Pre_Attn2Ideal (m : (ℓ : Loc Cert.Attn2Ideal.nD Cert.Attn2Ideal.τ Cert.Attn2Ideal.sig) → Buf (Elt Ideal) ℓ) : Prop :=
  True

def Pre_Attn2Ideal_finite_qk_2 [hPre_finite_qk_2 : Cert.Pre_finite_qk_2.Facts] (m : (ℓ : Loc Cert.Attn2Ideal.nD Cert.Attn2Ideal.τ Cert.Attn2Ideal.sig) → Buf (Elt Ideal) ℓ) : Prop :=
  ∀ c : Dev Cert.Attn2Ideal.nD,
    (Cert.Pre_finite_qk_2.fn (F := Ideal) (m ((c.tc : Thread Cert.Attn2Ideal.nD Cert.Attn2Ideal.τ).loc Cert.Attn2Ideal.main_arg0))) = (fun _ => 1#1)

def Pre_AttnRef2Ideal (m : (ℓ : Loc Cert.AttnRef2Ideal.nD Cert.AttnRef2Ideal.τ Cert.AttnRef2Ideal.sig) → Buf (Elt Ideal) ℓ) : Prop :=
  True

def Pre_AttnRef2Ideal_finite_qk_2 [hPre_finite_qk_2 : Cert.Pre_finite_qk_2.Facts] (m : (ℓ : Loc Cert.AttnRef2Ideal.nD Cert.AttnRef2Ideal.τ Cert.AttnRef2Ideal.sig) → Buf (Elt Ideal) ℓ) : Prop :=
  ∀ c : Dev Cert.AttnRef2Ideal.nD,
    (Cert.Pre_finite_qk_2.fn (F := Ideal) (m ((c.tc : Thread Cert.AttnRef2Ideal.nD Cert.AttnRef2Ideal.τ).loc Cert.AttnRef2Ideal.main_arg0))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Proj0 (m : (ℓ : Loc Cert.Proj0.nD Cert.Proj0.τ Cert.Proj0.sig) → Buf (Elt Bits) ℓ) : Prop :=
  True

def Pre_Proj0Ideal (m : (ℓ : Loc Cert.Proj0Ideal.nD Cert.Proj0Ideal.τ Cert.Proj0Ideal.sig) → Buf (Elt Ideal) ℓ) : Prop :=
  True

def Pre_ProjRef0Ideal (m : (ℓ : Loc Cert.ProjRef0Ideal.nD Cert.ProjRef0Ideal.τ Cert.ProjRef0Ideal.sig) → Buf (Elt Ideal) ℓ) : Prop :=
  True

def Pre_Proj1 (m : (ℓ : Loc Cert.Proj1.nD Cert.Proj1.τ Cert.Proj1.sig) → Buf (Elt Bits) ℓ) : Prop :=
  True

def Pre_Proj1Ideal (m : (ℓ : Loc Cert.Proj1Ideal.nD Cert.Proj1Ideal.τ Cert.Proj1Ideal.sig) → Buf (Elt Ideal) ℓ) : Prop :=
  True

def Pre_ProjRef1Ideal (m : (ℓ : Loc Cert.ProjRef1Ideal.nD Cert.ProjRef1Ideal.τ Cert.ProjRef1Ideal.sig) → Buf (Elt Ideal) ℓ) : Prop :=
  True

def Pre_Proj2 (m : (ℓ : Loc Cert.Proj2.nD Cert.Proj2.τ Cert.Proj2.sig) → Buf (Elt Bits) ℓ) : Prop :=
  True

def Pre_Proj2Ideal (m : (ℓ : Loc Cert.Proj2Ideal.nD Cert.Proj2Ideal.τ Cert.Proj2Ideal.sig) → Buf (Elt Ideal) ℓ) : Prop :=
  True

def Pre_ProjRef2Ideal (m : (ℓ : Loc Cert.ProjRef2Ideal.nD Cert.ProjRef2Ideal.τ Cert.ProjRef2Ideal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def quiescent_Attn0 [hAttn0 : Cert.Attn0.Facts] : Prop :=
  ∀ (m : (ℓ : Loc Cert.Attn0.nD Cert.Attn0.τ Cert.Attn0.sig) → Buf (Elt Bits) ℓ) (g : Dev Cert.Attn0.nD → PrngReg), Pre_Attn0 m →
    θ_run (Cert.Attn0.defs (F := Bits)) (onTc (τ := Cert.Attn0.τ) (Cert.Attn0.main (F := Bits))) ⟨m, fun _ => 0, g⟩ (fun r => (∀ c : Dev Cert.Attn0.nD,
      r.2.mem ((c.tc : Thread Cert.Attn0.nD Cert.Attn0.τ).loc Cert.Attn0.main_arg0) = m ((c.tc : Thread Cert.Attn0.nD Cert.Attn0.τ).loc Cert.Attn0.main_arg0))
      ∧ r.2.sem = fun _ => 0)

def quiescent_Attn0Ideal [hAttn0Ideal : Cert.Attn0Ideal.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0))
      ∧ r.2.sem = fun _ => 0)

def quiescent_Attn0Ideal_pre_finite_qk_0 [hAttn0Ideal : Cert.Attn0Ideal.Facts] [hPre_finite_qk_0 : Cert.Pre_finite_qk_0.Facts] : Prop :=
  ∀ (m : (ℓ : Loc Cert.Attn0Ideal.nD Cert.Attn0Ideal.τ Cert.Attn0Ideal.sig) → Buf (Elt Ideal) ℓ) (g : Dev Cert.Attn0Ideal.nD → PrngReg), Pre_Attn0Ideal_finite_qk_0 m →
    θ_run (Cert.Attn0Ideal.defs (F := Ideal)) (onTc (τ := Cert.Attn0Ideal.τ) (Cert.Attn0Ideal.main (F := Ideal))) ⟨m, fun _ => 0, g⟩ (fun r => (∀ c : Dev Cert.Attn0Ideal.nD,
      r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0))
      ∧ r.2.sem = fun _ => 0)

def quiescent_AttnRef0Ideal [hAttnRef0Ideal : Cert.AttnRef0Ideal.Facts] : Prop :=
  ∀ (m : (ℓ : Loc Cert.AttnRef0Ideal.nD Cert.AttnRef0Ideal.τ Cert.AttnRef0Ideal.sig) → Buf (Elt Ideal) ℓ) (g : Dev Cert.AttnRef0Ideal.nD → PrngReg), Pre_AttnRef0Ideal m →
    θ_run (Cert.AttnRef0Ideal.defs (F := Ideal)) (onTc (τ := Cert.AttnRef0Ideal.τ) (Cert.AttnRef0Ideal.main (F := Ideal))) ⟨m, fun _ => 0, g⟩ (fun r => (∀ c : Dev Cert.AttnRef0Ideal.nD,
      r.2.mem ((c.tc : Thread Cert.AttnRef0Ideal.nD Cert.AttnRef0Ideal.τ).loc Cert.AttnRef0Ideal.main_arg0) = m ((c.tc : Thread Cert.AttnRef0Ideal.nD Cert.AttnRef0Ideal.τ).loc Cert.AttnRef0Ideal.main_arg0))
      ∧ r.2.sem = fun _ => 0)

def quiescent_AttnRef0Ideal_pre_finite_qk_0 [hAttnRef0Ideal : Cert.AttnRef0Ideal.Facts] [hPre_finite_qk_0 : Cert.Pre_finite_qk_0.Facts] : Prop :=
  ∀ (m : (ℓ : Loc Cert.AttnRef0Ideal.nD Cert.AttnRef0Ideal.τ Cert.AttnRef0Ideal.sig) → Buf (Elt Ideal) ℓ) (g : Dev Cert.AttnRef0Ideal.nD → PrngReg), Pre_AttnRef0Ideal_finite_qk_0 m →
    θ_run (Cert.AttnRef0Ideal.defs (F := Ideal)) (onTc (τ := Cert.AttnRef0Ideal.τ) (Cert.AttnRef0Ideal.main (F := Ideal))) ⟨m, fun _ => 0, g⟩ (fun r => (∀ c : Dev Cert.AttnRef0Ideal.nD,
      r.2.mem ((c.tc : Thread Cert.AttnRef0Ideal.nD Cert.AttnRef0Ideal.τ).loc Cert.AttnRef0Ideal.main_arg0) = m ((c.tc : Thread Cert.AttnRef0Ideal.nD Cert.AttnRef0Ideal.τ).loc Cert.AttnRef0Ideal.main_arg0))
      ∧ r.2.sem = fun _ => 0)

def quiescent_Attn1 [hAttn1 : Cert.Attn1.Facts] : Prop :=
  ∀ (m : (ℓ : Loc Cert.Attn1.nD Cert.Attn1.τ Cert.Attn1.sig) → Buf (Elt Bits) ℓ) (g : Dev Cert.Attn1.nD → PrngReg), Pre_Attn1 m →
    θ_run (Cert.Attn1.defs (F := Bits)) (onTc (τ := Cert.Attn1.τ) (Cert.Attn1.main (F := Bits))) ⟨m, fun _ => 0, g⟩ (fun r => (∀ c : Dev Cert.Attn1.nD,
      r.2.mem ((c.tc : Thread Cert.Attn1.nD Cert.Attn1.τ).loc Cert.Attn1.main_arg0) = m ((c.tc : Thread Cert.Attn1.nD Cert.Attn1.τ).loc Cert.Attn1.main_arg0))
      ∧ r.2.sem = fun _ => 0)

def quiescent_Attn1Ideal [hAttn1Ideal : Cert.Attn1Ideal.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_Attn1Ideal_pre_finite_qk_1 [hAttn1Ideal : Cert.Attn1Ideal.Facts] [hPre_finite_qk_1 : Cert.Pre_finite_qk_1.Facts] : Prop :=
  ∀ (m : (ℓ : Loc Cert.Attn1Ideal.nD Cert.Attn1Ideal.τ Cert.Attn1Ideal.sig) → Buf (Elt Ideal) ℓ) (g : Dev Cert.Attn1Ideal.nD → PrngReg), Pre_Attn1Ideal_finite_qk_1 m →
    θ_run (Cert.Attn1Ideal.defs (F := Ideal)) (onTc (τ := Cert.Attn1Ideal.τ) (Cert.Attn1Ideal.main (F := Ideal))) ⟨m, fun _ => 0, g⟩ (fun r => (∀ c : Dev Cert.Attn1Ideal.nD,
      r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ r.2.sem = fun _ => 0)

def quiescent_AttnRef1Ideal [hAttnRef1Ideal : Cert.AttnRef1Ideal.Facts] : Prop :=
  ∀ (m : (ℓ : Loc Cert.AttnRef1Ideal.nD Cert.AttnRef1Ideal.τ Cert.AttnRef1Ideal.sig) → Buf (Elt Ideal) ℓ) (g : Dev Cert.AttnRef1Ideal.nD → PrngReg), Pre_AttnRef1Ideal m →
    θ_run (Cert.AttnRef1Ideal.defs (F := Ideal)) (onTc (τ := Cert.AttnRef1Ideal.τ) (Cert.AttnRef1Ideal.main (F := Ideal))) ⟨m, fun _ => 0, g⟩ (fun r => (∀ c : Dev Cert.AttnRef1Ideal.nD,
      r.2.mem ((c.tc : Thread Cert.AttnRef1Ideal.nD Cert.AttnRef1Ideal.τ).loc Cert.AttnRef1Ideal.main_arg0) = m ((c.tc : Thread Cert.AttnRef1Ideal.nD Cert.AttnRef1Ideal.τ).loc Cert.AttnRef1Ideal.main_arg0))
      ∧ r.2.sem = fun _ => 0)

def quiescent_AttnRef1Ideal_pre_finite_qk_1 [hAttnRef1Ideal : Cert.AttnRef1Ideal.Facts] [hPre_finite_qk_1 : Cert.Pre_finite_qk_1.Facts] : Prop :=
  ∀ (m : (ℓ : Loc Cert.AttnRef1Ideal.nD Cert.AttnRef1Ideal.τ Cert.AttnRef1Ideal.sig) → Buf (Elt Ideal) ℓ) (g : Dev Cert.AttnRef1Ideal.nD → PrngReg), Pre_AttnRef1Ideal_finite_qk_1 m →
    θ_run (Cert.AttnRef1Ideal.defs (F := Ideal)) (onTc (τ := Cert.AttnRef1Ideal.τ) (Cert.AttnRef1Ideal.main (F := Ideal))) ⟨m, fun _ => 0, g⟩ (fun r => (∀ c : Dev Cert.AttnRef1Ideal.nD,
      r.2.mem ((c.tc : Thread Cert.AttnRef1Ideal.nD Cert.AttnRef1Ideal.τ).loc Cert.AttnRef1Ideal.main_arg0) = m ((c.tc : Thread Cert.AttnRef1Ideal.nD Cert.AttnRef1Ideal.τ).loc Cert.AttnRef1Ideal.main_arg0))
      ∧ r.2.sem = fun _ => 0)

def quiescent_Attn2 [hAttn2 : Cert.Attn2.Facts] : Prop :=
  ∀ (m : (ℓ : Loc Cert.Attn2.nD Cert.Attn2.τ Cert.Attn2.sig) → Buf (Elt Bits) ℓ) (g : Dev Cert.Attn2.nD → PrngReg), Pre_Attn2 m →
    θ_run (Cert.Attn2.defs (F := Bits)) (onTc (τ := Cert.Attn2.τ) (Cert.Attn2.main (F := Bits))) ⟨m, fun _ => 0, g⟩ (fun r => (∀ c : Dev Cert.Attn2.nD,
      r.2.mem ((c.tc : Thread Cert.Attn2.nD Cert.Attn2.τ).loc Cert.Attn2.main_arg0) = m ((c.tc : Thread Cert.Attn2.nD Cert.Attn2.τ).loc Cert.Attn2.main_arg0))
      ∧ r.2.sem = fun _ => 0)

def quiescent_Attn2Ideal [hAttn2Ideal : Cert.Attn2Ideal.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0))
      ∧ r.2.sem = fun _ => 0)

def quiescent_Attn2Ideal_pre_finite_qk_2 [hAttn2Ideal : Cert.Attn2Ideal.Facts] [hPre_finite_qk_2 : Cert.Pre_finite_qk_2.Facts] : Prop :=
  ∀ (m : (ℓ : Loc Cert.Attn2Ideal.nD Cert.Attn2Ideal.τ Cert.Attn2Ideal.sig) → Buf (Elt Ideal) ℓ) (g : Dev Cert.Attn2Ideal.nD → PrngReg), Pre_Attn2Ideal_finite_qk_2 m →
    θ_run (Cert.Attn2Ideal.defs (F := Ideal)) (onTc (τ := Cert.Attn2Ideal.τ) (Cert.Attn2Ideal.main (F := Ideal))) ⟨m, fun _ => 0, g⟩ (fun r => (∀ c : Dev Cert.Attn2Ideal.nD,
      r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0))
      ∧ r.2.sem = fun _ => 0)

def quiescent_AttnRef2Ideal [hAttnRef2Ideal : Cert.AttnRef2Ideal.Facts] : Prop :=
  ∀ (m : (ℓ : Loc Cert.AttnRef2Ideal.nD Cert.AttnRef2Ideal.τ Cert.AttnRef2Ideal.sig) → Buf (Elt Ideal) ℓ) (g : Dev Cert.AttnRef2Ideal.nD → PrngReg), Pre_AttnRef2Ideal m →
    θ_run (Cert.AttnRef2Ideal.defs (F := Ideal)) (onTc (τ := Cert.AttnRef2Ideal.τ) (Cert.AttnRef2Ideal.main (F := Ideal))) ⟨m, fun _ => 0, g⟩ (fun r => (∀ c : Dev Cert.AttnRef2Ideal.nD,
      r.2.mem ((c.tc : Thread Cert.AttnRef2Ideal.nD Cert.AttnRef2Ideal.τ).loc Cert.AttnRef2Ideal.main_arg0) = m ((c.tc : Thread Cert.AttnRef2Ideal.nD Cert.AttnRef2Ideal.τ).loc Cert.AttnRef2Ideal.main_arg0))
      ∧ r.2.sem = fun _ => 0)

def quiescent_AttnRef2Ideal_pre_finite_qk_2 [hAttnRef2Ideal : Cert.AttnRef2Ideal.Facts] [hPre_finite_qk_2 : Cert.Pre_finite_qk_2.Facts] : Prop :=
  ∀ (m : (ℓ : Loc Cert.AttnRef2Ideal.nD Cert.AttnRef2Ideal.τ Cert.AttnRef2Ideal.sig) → Buf (Elt Ideal) ℓ) (g : Dev Cert.AttnRef2Ideal.nD → PrngReg), Pre_AttnRef2Ideal_finite_qk_2 m →
    θ_run (Cert.AttnRef2Ideal.defs (F := Ideal)) (onTc (τ := Cert.AttnRef2Ideal.τ) (Cert.AttnRef2Ideal.main (F := Ideal))) ⟨m, fun _ => 0, g⟩ (fun r => (∀ c : Dev Cert.AttnRef2Ideal.nD,
      r.2.mem ((c.tc : Thread Cert.AttnRef2Ideal.nD Cert.AttnRef2Ideal.τ).loc Cert.AttnRef2Ideal.main_arg0) = m ((c.tc : Thread Cert.AttnRef2Ideal.nD Cert.AttnRef2Ideal.τ).loc Cert.AttnRef2Ideal.main_arg0))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4))
      ∧ r.2.sem = fun _ => 0)

def quiescent_Proj0 [hProj0 : Cert.Proj0.Facts] : Prop :=
  ∀ (m : (ℓ : Loc Cert.Proj0.nD Cert.Proj0.τ Cert.Proj0.sig) → Buf (Elt Bits) ℓ) (g : Dev Cert.Proj0.nD → PrngReg), Pre_Proj0 m →
    θ_run (Cert.Proj0.defs (F := Bits)) (onTc (τ := Cert.Proj0.τ) (Cert.Proj0.main (F := Bits))) ⟨m, fun _ => 0, g⟩ (fun r => (∀ c : Dev Cert.Proj0.nD,
      r.2.mem ((c.tc : Thread Cert.Proj0.nD Cert.Proj0.τ).loc Cert.Proj0.main_arg0) = m ((c.tc : Thread Cert.Proj0.nD Cert.Proj0.τ).loc Cert.Proj0.main_arg0)
      ∧ r.2.mem ((c.tc : Thread Cert.Proj0.nD Cert.Proj0.τ).loc Cert.Proj0.main_arg1) = m ((c.tc : Thread Cert.Proj0.nD Cert.Proj0.τ).loc Cert.Proj0.main_arg1)
      ∧ r.2.mem ((c.tc : Thread Cert.Proj0.nD Cert.Proj0.τ).loc Cert.Proj0.main_arg2) = m ((c.tc : Thread Cert.Proj0.nD Cert.Proj0.τ).loc Cert.Proj0.main_arg2)
      ∧ r.2.mem ((c.tc : Thread Cert.Proj0.nD Cert.Proj0.τ).loc Cert.Proj0.main_arg3) = m ((c.tc : Thread Cert.Proj0.nD Cert.Proj0.τ).loc Cert.Proj0.main_arg3)
      ∧ r.2.mem ((c.tc : Thread Cert.Proj0.nD Cert.Proj0.τ).loc Cert.Proj0.main_arg4) = m ((c.tc : Thread Cert.Proj0.nD Cert.Proj0.τ).loc Cert.Proj0.main_arg4))
      ∧ r.2.sem = fun _ => 0)

def quiescent_Proj0Ideal [hProj0Ideal : Cert.Proj0Ideal.Facts] : Prop :=
  ∀ (m : (ℓ : Loc Cert.Proj0Ideal.nD Cert.Proj0Ideal.τ Cert.Proj0Ideal.sig) → Buf (Elt Ideal) ℓ) (g : Dev Cert.Proj0Ideal.nD → PrngReg), Pre_Proj0Ideal m →
    θ_run (Cert.Proj0Ideal.defs (F := Ideal)) (onTc (τ := Cert.Proj0Ideal.τ) (Cert.Proj0Ideal.main (F := Ideal))) ⟨m, fun _ => 0, g⟩ (fun r => (∀ c : Dev Cert.Proj0Ideal.nD,
      r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
      ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1)
      ∧ r.2.mem ((c.tc : Thread Cert.Proj0Ideal.nD Cert.Proj0Ideal.τ).loc Cert.Proj0Ideal.main_arg2) = m ((c.tc : Thread Cert.Proj0Ideal.nD Cert.Proj0Ideal.τ).loc Cert.Proj0Ideal.main_arg2)
      ∧ r.2.mem ((c.tc : Thread Cert.Proj0Ideal.nD Cert.Proj0Ideal.τ).loc Cert.Proj0Ideal.main_arg3) = m ((c.tc : Thread Cert.Proj0Ideal.nD Cert.Proj0Ideal.τ).loc Cert.Proj0Ideal.main_arg3)
      ∧ r.2.mem ((c.tc : Thread Cert.Proj0Ideal.nD Cert.Proj0Ideal.τ).loc Cert.Proj0Ideal.main_arg4) = m ((c.tc : Thread Cert.Proj0Ideal.nD Cert.Proj0Ideal.τ).loc Cert.Proj0Ideal.main_arg4))
      ∧ r.2.sem = fun _ => 0)

def quiescent_ProjRef0Ideal [hProjRef0Ideal : Cert.ProjRef0Ideal.Facts] : Prop :=
  ∀ (m : (ℓ : Loc Cert.ProjRef0Ideal.nD Cert.ProjRef0Ideal.τ Cert.ProjRef0Ideal.sig) → Buf (Elt Ideal) ℓ) (g : Dev Cert.ProjRef0Ideal.nD → PrngReg), Pre_ProjRef0Ideal m →
    θ_run (Cert.ProjRef0Ideal.defs (F := Ideal)) (onTc (τ := Cert.ProjRef0Ideal.τ) (Cert.ProjRef0Ideal.main (F := Ideal))) ⟨m, fun _ => 0, g⟩ (fun r => (∀ c : Dev Cert.ProjRef0Ideal.nD,
      r.2.mem ((c.tc : Thread Cert.ProjRef0Ideal.nD Cert.ProjRef0Ideal.τ).loc Cert.ProjRef0Ideal.main_arg0) = m ((c.tc : Thread Cert.ProjRef0Ideal.nD Cert.ProjRef0Ideal.τ).loc Cert.ProjRef0Ideal.main_arg0)
      ∧ r.2.mem ((c.tc : Thread Cert.ProjRef0Ideal.nD Cert.ProjRef0Ideal.τ).loc Cert.ProjRef0Ideal.main_arg1) = m ((c.tc : Thread Cert.ProjRef0Ideal.nD Cert.ProjRef0Ideal.τ).loc Cert.ProjRef0Ideal.main_arg1)
      ∧ r.2.mem ((c.tc : Thread Cert.ProjRef0Ideal.nD Cert.ProjRef0Ideal.τ).loc Cert.ProjRef0Ideal.main_arg2) = m ((c.tc : Thread Cert.ProjRef0Ideal.nD Cert.ProjRef0Ideal.τ).loc Cert.ProjRef0Ideal.main_arg2)
      ∧ r.2.mem ((c.tc : Thread Cert.ProjRef0Ideal.nD Cert.ProjRef0Ideal.τ).loc Cert.ProjRef0Ideal.main_arg3) = m ((c.tc : Thread Cert.ProjRef0Ideal.nD Cert.ProjRef0Ideal.τ).loc Cert.ProjRef0Ideal.main_arg3)
      ∧ r.2.mem ((c.tc : Thread Cert.ProjRef0Ideal.nD Cert.ProjRef0Ideal.τ).loc Cert.ProjRef0Ideal.main_arg4) = m ((c.tc : Thread Cert.ProjRef0Ideal.nD Cert.ProjRef0Ideal.τ).loc Cert.ProjRef0Ideal.main_arg4))
      ∧ r.2.sem = fun _ => 0)

def quiescent_Proj1 [hProj1 : Cert.Proj1.Facts] : Prop :=
  ∀ (m : (ℓ : Loc Cert.Proj1.nD Cert.Proj1.τ Cert.Proj1.sig) → Buf (Elt Bits) ℓ) (g : Dev Cert.Proj1.nD → PrngReg), Pre_Proj1 m →
    θ_run (Cert.Proj1.defs (F := Bits)) (onTc (τ := Cert.Proj1.τ) (Cert.Proj1.main (F := Bits))) ⟨m, fun _ => 0, g⟩ (fun r => (∀ c : Dev Cert.Proj1.nD,
      r.2.mem ((c.tc : Thread Cert.Proj1.nD Cert.Proj1.τ).loc Cert.Proj1.main_arg0) = m ((c.tc : Thread Cert.Proj1.nD Cert.Proj1.τ).loc Cert.Proj1.main_arg0)
      ∧ r.2.mem ((c.tc : Thread Cert.Proj1.nD Cert.Proj1.τ).loc Cert.Proj1.main_arg1) = m ((c.tc : Thread Cert.Proj1.nD Cert.Proj1.τ).loc Cert.Proj1.main_arg1)
      ∧ r.2.mem ((c.tc : Thread Cert.Proj1.nD Cert.Proj1.τ).loc Cert.Proj1.main_arg2) = m ((c.tc : Thread Cert.Proj1.nD Cert.Proj1.τ).loc Cert.Proj1.main_arg2)
      ∧ r.2.mem ((c.tc : Thread Cert.Proj1.nD Cert.Proj1.τ).loc Cert.Proj1.main_arg3) = m ((c.tc : Thread Cert.Proj1.nD Cert.Proj1.τ).loc Cert.Proj1.main_arg3)
      ∧ r.2.mem ((c.tc : Thread Cert.Proj1.nD Cert.Proj1.τ).loc Cert.Proj1.main_arg4) = m ((c.tc : Thread Cert.Proj1.nD Cert.Proj1.τ).loc Cert.Proj1.main_arg4))
      ∧ r.2.sem = fun _ => 0)

def quiescent_Proj1Ideal [hProj1Ideal : Cert.Proj1Ideal.Facts] : Prop :=
  ∀ (m : (ℓ : Loc Cert.Proj1Ideal.nD Cert.Proj1Ideal.τ Cert.Proj1Ideal.sig) → Buf (Elt Ideal) ℓ) (g : Dev Cert.Proj1Ideal.nD → PrngReg), Pre_Proj1Ideal m →
    θ_run (Cert.Proj1Ideal.defs (F := Ideal)) (onTc (τ := Cert.Proj1Ideal.τ) (Cert.Proj1Ideal.main (F := Ideal))) ⟨m, fun _ => 0, g⟩ (fun r => (∀ c : Dev Cert.Proj1Ideal.nD,
      r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
      ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1)
      ∧ r.2.mem ((c.tc : Thread Cert.Proj1Ideal.nD Cert.Proj1Ideal.τ).loc Cert.Proj1Ideal.main_arg2) = m ((c.tc : Thread Cert.Proj1Ideal.nD Cert.Proj1Ideal.τ).loc Cert.Proj1Ideal.main_arg2)
      ∧ r.2.mem ((c.tc : Thread Cert.Proj1Ideal.nD Cert.Proj1Ideal.τ).loc Cert.Proj1Ideal.main_arg3) = m ((c.tc : Thread Cert.Proj1Ideal.nD Cert.Proj1Ideal.τ).loc Cert.Proj1Ideal.main_arg3)
      ∧ r.2.mem ((c.tc : Thread Cert.Proj1Ideal.nD Cert.Proj1Ideal.τ).loc Cert.Proj1Ideal.main_arg4) = m ((c.tc : Thread Cert.Proj1Ideal.nD Cert.Proj1Ideal.τ).loc Cert.Proj1Ideal.main_arg4))
      ∧ r.2.sem = fun _ => 0)

def quiescent_ProjRef1Ideal [hProjRef1Ideal : Cert.ProjRef1Ideal.Facts] : Prop :=
  ∀ (m : (ℓ : Loc Cert.ProjRef1Ideal.nD Cert.ProjRef1Ideal.τ Cert.ProjRef1Ideal.sig) → Buf (Elt Ideal) ℓ) (g : Dev Cert.ProjRef1Ideal.nD → PrngReg), Pre_ProjRef1Ideal m →
    θ_run (Cert.ProjRef1Ideal.defs (F := Ideal)) (onTc (τ := Cert.ProjRef1Ideal.τ) (Cert.ProjRef1Ideal.main (F := Ideal))) ⟨m, fun _ => 0, g⟩ (fun r => (∀ c : Dev Cert.ProjRef1Ideal.nD,
      r.2.mem ((c.tc : Thread Cert.ProjRef1Ideal.nD Cert.ProjRef1Ideal.τ).loc Cert.ProjRef1Ideal.main_arg0) = m ((c.tc : Thread Cert.ProjRef1Ideal.nD Cert.ProjRef1Ideal.τ).loc Cert.ProjRef1Ideal.main_arg0)
      ∧ r.2.mem ((c.tc : Thread Cert.ProjRef1Ideal.nD Cert.ProjRef1Ideal.τ).loc Cert.ProjRef1Ideal.main_arg1) = m ((c.tc : Thread Cert.ProjRef1Ideal.nD Cert.ProjRef1Ideal.τ).loc Cert.ProjRef1Ideal.main_arg1)
      ∧ r.2.mem ((c.tc : Thread Cert.ProjRef1Ideal.nD Cert.ProjRef1Ideal.τ).loc Cert.ProjRef1Ideal.main_arg2) = m ((c.tc : Thread Cert.ProjRef1Ideal.nD Cert.ProjRef1Ideal.τ).loc Cert.ProjRef1Ideal.main_arg2)
      ∧ r.2.mem ((c.tc : Thread Cert.ProjRef1Ideal.nD Cert.ProjRef1Ideal.τ).loc Cert.ProjRef1Ideal.main_arg3) = m ((c.tc : Thread Cert.ProjRef1Ideal.nD Cert.ProjRef1Ideal.τ).loc Cert.ProjRef1Ideal.main_arg3)
      ∧ r.2.mem ((c.tc : Thread Cert.ProjRef1Ideal.nD Cert.ProjRef1Ideal.τ).loc Cert.ProjRef1Ideal.main_arg4) = m ((c.tc : Thread Cert.ProjRef1Ideal.nD Cert.ProjRef1Ideal.τ).loc Cert.ProjRef1Ideal.main_arg4))
      ∧ r.2.sem = fun _ => 0)

def quiescent_Proj2 [hProj2 : Cert.Proj2.Facts] : Prop :=
  ∀ (m : (ℓ : Loc Cert.Proj2.nD Cert.Proj2.τ Cert.Proj2.sig) → Buf (Elt Bits) ℓ) (g : Dev Cert.Proj2.nD → PrngReg), Pre_Proj2 m →
    θ_run (Cert.Proj2.defs (F := Bits)) (onTc (τ := Cert.Proj2.τ) (Cert.Proj2.main (F := Bits))) ⟨m, fun _ => 0, g⟩ (fun r => (∀ c : Dev Cert.Proj2.nD,
      r.2.mem ((c.tc : Thread Cert.Proj2.nD Cert.Proj2.τ).loc Cert.Proj2.main_arg0) = m ((c.tc : Thread Cert.Proj2.nD Cert.Proj2.τ).loc Cert.Proj2.main_arg0)
      ∧ r.2.mem ((c.tc : Thread Cert.Proj2.nD Cert.Proj2.τ).loc Cert.Proj2.main_arg1) = m ((c.tc : Thread Cert.Proj2.nD Cert.Proj2.τ).loc Cert.Proj2.main_arg1)
      ∧ r.2.mem ((c.tc : Thread Cert.Proj2.nD Cert.Proj2.τ).loc Cert.Proj2.main_arg2) = m ((c.tc : Thread Cert.Proj2.nD Cert.Proj2.τ).loc Cert.Proj2.main_arg2)
      ∧ r.2.mem ((c.tc : Thread Cert.Proj2.nD Cert.Proj2.τ).loc Cert.Proj2.main_arg3) = m ((c.tc : Thread Cert.Proj2.nD Cert.Proj2.τ).loc Cert.Proj2.main_arg3)
      ∧ r.2.mem ((c.tc : Thread Cert.Proj2.nD Cert.Proj2.τ).loc Cert.Proj2.main_arg4) = m ((c.tc : Thread Cert.Proj2.nD Cert.Proj2.τ).loc Cert.Proj2.main_arg4))
      ∧ r.2.sem = fun _ => 0)

def quiescent_Proj2Ideal [hProj2Ideal : Cert.Proj2Ideal.Facts] : Prop :=
  ∀ (m : (ℓ : Loc Cert.Proj2Ideal.nD Cert.Proj2Ideal.τ Cert.Proj2Ideal.sig) → Buf (Elt Ideal) ℓ) (g : Dev Cert.Proj2Ideal.nD → PrngReg), Pre_Proj2Ideal m →
    θ_run (Cert.Proj2Ideal.defs (F := Ideal)) (onTc (τ := Cert.Proj2Ideal.τ) (Cert.Proj2Ideal.main (F := Ideal))) ⟨m, fun _ => 0, g⟩ (fun r => (∀ c : Dev Cert.Proj2Ideal.nD,
      r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
      ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1)
      ∧ r.2.mem ((c.tc : Thread Cert.Proj2Ideal.nD Cert.Proj2Ideal.τ).loc Cert.Proj2Ideal.main_arg2) = m ((c.tc : Thread Cert.Proj2Ideal.nD Cert.Proj2Ideal.τ).loc Cert.Proj2Ideal.main_arg2)
      ∧ r.2.mem ((c.tc : Thread Cert.Proj2Ideal.nD Cert.Proj2Ideal.τ).loc Cert.Proj2Ideal.main_arg3) = m ((c.tc : Thread Cert.Proj2Ideal.nD Cert.Proj2Ideal.τ).loc Cert.Proj2Ideal.main_arg3)
      ∧ r.2.mem ((c.tc : Thread Cert.Proj2Ideal.nD Cert.Proj2Ideal.τ).loc Cert.Proj2Ideal.main_arg4) = m ((c.tc : Thread Cert.Proj2Ideal.nD Cert.Proj2Ideal.τ).loc Cert.Proj2Ideal.main_arg4))
      ∧ r.2.sem = fun _ => 0)

def quiescent_ProjRef2Ideal [hProjRef2Ideal : Cert.ProjRef2Ideal.Facts] : Prop :=
  ∀ (m : (ℓ : Loc Cert.ProjRef2Ideal.nD Cert.ProjRef2Ideal.τ Cert.ProjRef2Ideal.sig) → Buf (Elt Ideal) ℓ) (g : Dev Cert.ProjRef2Ideal.nD → PrngReg), Pre_ProjRef2Ideal m →
    θ_run (Cert.ProjRef2Ideal.defs (F := Ideal)) (onTc (τ := Cert.ProjRef2Ideal.τ) (Cert.ProjRef2Ideal.main (F := Ideal))) ⟨m, fun _ => 0, g⟩ (fun r => (∀ c : Dev Cert.ProjRef2Ideal.nD,
      r.2.mem ((c.tc : Thread Cert.ProjRef2Ideal.nD Cert.ProjRef2Ideal.τ).loc Cert.ProjRef2Ideal.main_arg0) = m ((c.tc : Thread Cert.ProjRef2Ideal.nD Cert.ProjRef2Ideal.τ).loc Cert.ProjRef2Ideal.main_arg0)
      ∧ r.2.mem ((c.tc : Thread Cert.ProjRef2Ideal.nD Cert.ProjRef2Ideal.τ).loc Cert.ProjRef2Ideal.main_arg1) = m ((c.tc : Thread Cert.ProjRef2Ideal.nD Cert.ProjRef2Ideal.τ).loc Cert.ProjRef2Ideal.main_arg1)
      ∧ r.2.mem ((c.tc : Thread Cert.ProjRef2Ideal.nD Cert.ProjRef2Ideal.τ).loc Cert.ProjRef2Ideal.main_arg2) = m ((c.tc : Thread Cert.ProjRef2Ideal.nD Cert.ProjRef2Ideal.τ).loc Cert.ProjRef2Ideal.main_arg2)
      ∧ r.2.mem ((c.tc : Thread Cert.ProjRef2Ideal.nD Cert.ProjRef2Ideal.τ).loc Cert.ProjRef2Ideal.main_arg3) = m ((c.tc : Thread Cert.ProjRef2Ideal.nD Cert.ProjRef2Ideal.τ).loc Cert.ProjRef2Ideal.main_arg3)
      ∧ r.2.mem ((c.tc : Thread Cert.ProjRef2Ideal.nD Cert.ProjRef2Ideal.τ).loc Cert.ProjRef2Ideal.main_arg4) = m ((c.tc : Thread Cert.ProjRef2Ideal.nD Cert.ProjRef2Ideal.τ).loc Cert.ProjRef2Ideal.main_arg4))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def preserves_Attn0_Attn0Ideal : Prop :=
  True

def algebraic_Attn0Ideal_AttnRef0Ideal_pre_finite_qk_0 [hAttn0Ideal : Cert.Attn0Ideal.Facts] [hAttnRef0Ideal : Cert.AttnRef0Ideal.Facts] [hPre_finite_qk_0 : Cert.Pre_finite_qk_0.Facts] : Prop :=
  ∀ (m : (ℓ : Loc Cert.Attn0Ideal.nD Cert.Attn0Ideal.τ Cert.Attn0Ideal.sig) → Buf (Elt Ideal) ℓ) (g : Dev Cert.Attn0Ideal.nD → PrngReg)
    (m' : (ℓ : Loc Cert.AttnRef0Ideal.nD Cert.AttnRef0Ideal.τ Cert.AttnRef0Ideal.sig) → Buf (Elt Ideal) ℓ) (g' : Dev Cert.AttnRef0Ideal.nD → PrngReg), Pre_Attn0Ideal_finite_qk_0 m →
    (∀ c : Dev Cert.Attn0Ideal.nD,
      m' ((c.tc : Thread Cert.AttnRef0Ideal.nD Cert.AttnRef0Ideal.τ).loc Cert.AttnRef0Ideal.main_arg0) = m ((c.tc : Thread Cert.Attn0Ideal.nD Cert.Attn0Ideal.τ).loc Cert.Attn0Ideal.main_arg0)) →
    ∃ (v0 : (c : Dev Cert.Attn0Ideal.nD) → Buf (Elt Ideal) ((c.tc : Thread Cert.Attn0Ideal.nD Cert.Attn0Ideal.τ).loc Cert.Attn0Ideal.main_v0)),
      θ_run (Cert.Attn0Ideal.defs (F := Ideal)) (onTc (τ := Cert.Attn0Ideal.τ) (Cert.Attn0Ideal.main (F := Ideal))) ⟨m, fun _ => 0, g⟩ (fun r => ∀ c : Dev Cert.Attn0Ideal.nD,
          r.2.mem ((c.tc : Thread Cert.Attn0Ideal.nD Cert.Attn0Ideal.τ).loc Cert.Attn0Ideal.main_v0) = v0 c
          ∧ r.2.mem ((c.tc : Thread Cert.Attn0Ideal.nD Cert.Attn0Ideal.τ).loc Cert.Attn0Ideal.main_arg0) = m ((c.tc : Thread Cert.Attn0Ideal.nD Cert.Attn0Ideal.τ).loc Cert.Attn0Ideal.main_arg0))
      ∧ θ_run (Cert.AttnRef0Ideal.defs (F := Ideal)) (onTc (τ := Cert.AttnRef0Ideal.τ) (Cert.AttnRef0Ideal.main (F := Ideal))) ⟨m', fun _ => 0, g'⟩ (fun r => ∀ c : Dev Cert.AttnRef0Ideal.nD,
          r.2.mem ((c.tc : Thread Cert.AttnRef0Ideal.nD Cert.AttnRef0Ideal.τ).loc Cert.AttnRef0Ideal.main_v88) = v0 c
          ∧ r.2.mem ((c.tc : Thread Cert.AttnRef0Ideal.nD Cert.AttnRef0Ideal.τ).loc Cert.AttnRef0Ideal.main_arg0) = m' ((c.tc : Thread Cert.AttnRef0Ideal.nD Cert.AttnRef0Ideal.τ).loc Cert.AttnRef0Ideal.main_arg0))

def preserves_Attn1_Attn1Ideal : Prop :=
  True

def algebraic_Attn1Ideal_AttnRef1Ideal_pre_finite_qk_1 [hAttn1Ideal : Cert.Attn1Ideal.Facts] [hAttnRef1Ideal : Cert.AttnRef1Ideal.Facts] [hPre_finite_qk_1 : Cert.Pre_finite_qk_1.Facts] : Prop :=
  ∀ (m : (ℓ : Loc Cert.Attn1Ideal.nD Cert.Attn1Ideal.τ Cert.Attn1Ideal.sig) → Buf (Elt Ideal) ℓ) (g : Dev Cert.Attn1Ideal.nD → PrngReg)
    (m' : (ℓ : Loc Cert.AttnRef1Ideal.nD Cert.AttnRef1Ideal.τ Cert.AttnRef1Ideal.sig) → Buf (Elt Ideal) ℓ) (g' : Dev Cert.AttnRef1Ideal.nD → PrngReg), Pre_Attn1Ideal_finite_qk_1 m →
    (∀ c : Dev Cert.Attn1Ideal.nD,
      m' ((c.tc : Thread Cert.AttnRef1Ideal.nD Cert.AttnRef1Ideal.τ).loc Cert.AttnRef1Ideal.main_arg0) = m ((c.tc : Thread Cert.Attn1Ideal.nD Cert.Attn1Ideal.τ).loc Cert.Attn1Ideal.main_arg0)) →
    ∃ (v0 : (c : Dev Cert.Attn1Ideal.nD) → Buf (Elt Ideal) ((c.tc : Thread Cert.Attn1Ideal.nD Cert.Attn1Ideal.τ).loc Cert.Attn1Ideal.main_v0)),
      θ_run (Cert.Attn1Ideal.defs (F := Ideal)) (onTc (τ := Cert.Attn1Ideal.τ) (Cert.Attn1Ideal.main (F := Ideal))) ⟨m, fun _ => 0, g⟩ (fun r => ∀ c : Dev Cert.Attn1Ideal.nD,
          r.2.mem ((c.tc : Thread Cert.Attn1Ideal.nD Cert.Attn1Ideal.τ).loc Cert.Attn1Ideal.main_v0) = v0 c
          ∧ r.2.mem ((c.tc : Thread Cert.Attn1Ideal.nD Cert.Attn1Ideal.τ).loc Cert.Attn1Ideal.main_arg0) = m ((c.tc : Thread Cert.Attn1Ideal.nD Cert.Attn1Ideal.τ).loc Cert.Attn1Ideal.main_arg0))
      ∧ θ_run (Cert.AttnRef1Ideal.defs (F := Ideal)) (onTc (τ := Cert.AttnRef1Ideal.τ) (Cert.AttnRef1Ideal.main (F := Ideal))) ⟨m', fun _ => 0, g'⟩ (fun r => ∀ c : Dev Cert.AttnRef1Ideal.nD,
          r.2.mem ((c.tc : Thread Cert.AttnRef1Ideal.nD Cert.AttnRef1Ideal.τ).loc Cert.AttnRef1Ideal.main_v88) = v0 c
          ∧ r.2.mem ((c.tc : Thread Cert.AttnRef1Ideal.nD Cert.AttnRef1Ideal.τ).loc Cert.AttnRef1Ideal.main_arg0) = m' ((c.tc : Thread Cert.AttnRef1Ideal.nD Cert.AttnRef1Ideal.τ).loc Cert.AttnRef1Ideal.main_arg0))

def preserves_Attn2_Attn2Ideal : Prop :=
  True

def algebraic_Attn2Ideal_AttnRef2Ideal_pre_finite_qk_2 [hAttn2Ideal : Cert.Attn2Ideal.Facts] [hAttnRef2Ideal : Cert.AttnRef2Ideal.Facts] [hPre_finite_qk_2 : Cert.Pre_finite_qk_2.Facts] : Prop :=
  ∀ (m : (ℓ : Loc Cert.Attn2Ideal.nD Cert.Attn2Ideal.τ Cert.Attn2Ideal.sig) → Buf (Elt Ideal) ℓ) (g : Dev Cert.Attn2Ideal.nD → PrngReg)
    (m' : (ℓ : Loc Cert.AttnRef2Ideal.nD Cert.AttnRef2Ideal.τ Cert.AttnRef2Ideal.sig) → Buf (Elt Ideal) ℓ) (g' : Dev Cert.AttnRef2Ideal.nD → PrngReg), Pre_Attn2Ideal_finite_qk_2 m →
    (∀ c : Dev Cert.Attn2Ideal.nD,
      m' ((c.tc : Thread Cert.AttnRef2Ideal.nD Cert.AttnRef2Ideal.τ).loc Cert.AttnRef2Ideal.main_arg0) = m ((c.tc : Thread Cert.Attn2Ideal.nD Cert.Attn2Ideal.τ).loc Cert.Attn2Ideal.main_arg0)) →
    ∃ (v0 : (c : Dev Cert.Attn2Ideal.nD) → Buf (Elt Ideal) ((c.tc : Thread Cert.Attn2Ideal.nD Cert.Attn2Ideal.τ).loc Cert.Attn2Ideal.main_v0)),
      θ_run (Cert.Attn2Ideal.defs (F := Ideal)) (onTc (τ := Cert.Attn2Ideal.τ) (Cert.Attn2Ideal.main (F := Ideal))) ⟨m, fun _ => 0, g⟩ (fun r => ∀ c : Dev Cert.Attn2Ideal.nD,
          r.2.mem ((c.tc : Thread Cert.Attn2Ideal.nD Cert.Attn2Ideal.τ).loc Cert.Attn2Ideal.main_v0) = v0 c
          ∧ r.2.mem ((c.tc : Thread Cert.Attn2Ideal.nD Cert.Attn2Ideal.τ).loc Cert.Attn2Ideal.main_arg0) = m ((c.tc : Thread Cert.Attn2Ideal.nD Cert.Attn2Ideal.τ).loc Cert.Attn2Ideal.main_arg0))
      ∧ θ_run (Cert.AttnRef2Ideal.defs (F := Ideal)) (onTc (τ := Cert.AttnRef2Ideal.τ) (Cert.AttnRef2Ideal.main (F := Ideal))) ⟨m', fun _ => 0, g'⟩ (fun r => ∀ c : Dev Cert.AttnRef2Ideal.nD,
          r.2.mem ((c.tc : Thread Cert.AttnRef2Ideal.nD Cert.AttnRef2Ideal.τ).loc Cert.AttnRef2Ideal.main_v88) = v0 c
          ∧ r.2.mem ((c.tc : Thread Cert.AttnRef2Ideal.nD Cert.AttnRef2Ideal.τ).loc Cert.AttnRef2Ideal.main_arg0) = m' ((c.tc : Thread Cert.AttnRef2Ideal.nD Cert.AttnRef2Ideal.τ).loc Cert.AttnRef2Ideal.main_arg0))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)) →
    ∃ (v0 : (c : Dev Cert.ProjIdeal.nD) → Buf (Elt Ideal) ((c.tc : Thread Cert.ProjIdeal.nD Cert.ProjIdeal.τ).loc Cert.ProjIdeal.main_v6)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v6) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v24) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4))

def preserves_Proj0_Proj0Ideal : Prop :=
  True

def algebraic_Proj0Ideal_ProjRef0Ideal [hProj0Ideal : Cert.Proj0Ideal.Facts] [hProjRef0Ideal : Cert.ProjRef0Ideal.Facts] : Prop :=
  ∀ (m : (ℓ : Loc Cert.Proj0Ideal.nD Cert.Proj0Ideal.τ Cert.Proj0Ideal.sig) → Buf (Elt Ideal) ℓ) (g : Dev Cert.Proj0Ideal.nD → PrngReg)
    (m' : (ℓ : Loc Cert.ProjRef0Ideal.nD Cert.ProjRef0Ideal.τ Cert.ProjRef0Ideal.sig) → Buf (Elt Ideal) ℓ) (g' : Dev Cert.ProjRef0Ideal.nD → PrngReg), Pre_Proj0Ideal m →
    (∀ c : Dev Cert.Proj0Ideal.nD,
      m' ((c.tc : Thread Cert.ProjRef0Ideal.nD Cert.ProjRef0Ideal.τ).loc Cert.ProjRef0Ideal.main_arg0) = m ((c.tc : Thread Cert.Proj0Ideal.nD Cert.Proj0Ideal.τ).loc Cert.Proj0Ideal.main_arg0)
      ∧ m' ((c.tc : Thread Cert.ProjRef0Ideal.nD Cert.ProjRef0Ideal.τ).loc Cert.ProjRef0Ideal.main_arg1) = m ((c.tc : Thread Cert.Proj0Ideal.nD Cert.Proj0Ideal.τ).loc Cert.Proj0Ideal.main_arg1)
      ∧ m' ((c.tc : Thread Cert.ProjRef0Ideal.nD Cert.ProjRef0Ideal.τ).loc Cert.ProjRef0Ideal.main_arg2) = m ((c.tc : Thread Cert.Proj0Ideal.nD Cert.Proj0Ideal.τ).loc Cert.Proj0Ideal.main_arg2)
      ∧ m' ((c.tc : Thread Cert.ProjRef0Ideal.nD Cert.ProjRef0Ideal.τ).loc Cert.ProjRef0Ideal.main_arg3) = m ((c.tc : Thread Cert.Proj0Ideal.nD Cert.Proj0Ideal.τ).loc Cert.Proj0Ideal.main_arg3)
      ∧ m' ((c.tc : Thread Cert.ProjRef0Ideal.nD Cert.ProjRef0Ideal.τ).loc Cert.ProjRef0Ideal.main_arg4) = m ((c.tc : Thread Cert.Proj0Ideal.nD Cert.Proj0Ideal.τ).loc Cert.Proj0Ideal.main_arg4)) →
    ∃ (v0 : (c : Dev Cert.Proj0Ideal.nD) → Buf (Elt Ideal) ((c.tc : Thread Cert.Proj0Ideal.nD Cert.Proj0Ideal.τ).loc Cert.Proj0Ideal.main_v9)),
      θ_run (Cert.Proj0Ideal.defs (F := Ideal)) (onTc (τ := Cert.Proj0Ideal.τ) (Cert.Proj0Ideal.main (F := Ideal))) ⟨m, fun _ => 0, g⟩ (fun r => ∀ c : Dev Cert.Proj0Ideal.nD,
          r.2.mem ((c.tc : Thread Cert.Proj0Ideal.nD Cert.Proj0Ideal.τ).loc Cert.Proj0Ideal.main_v9) = v0 c
          ∧ r.2.mem ((c.tc : Thread Cert.Proj0Ideal.nD Cert.Proj0Ideal.τ).loc Cert.Proj0Ideal.main_arg0) = m ((c.tc : Thread Cert.Proj0Ideal.nD Cert.Proj0Ideal.τ).loc Cert.Proj0Ideal.main_arg0)
          ∧ r.2.mem ((c.tc : Thread Cert.Proj0Ideal.nD Cert.Proj0Ideal.τ).loc Cert.Proj0Ideal.main_arg1) = m ((c.tc : Thread Cert.Proj0Ideal.nD Cert.Proj0Ideal.τ).loc Cert.Proj0Ideal.main_arg1)
          ∧ r.2.mem ((c.tc : Thread Cert.Proj0Ideal.nD Cert.Proj0Ideal.τ).loc Cert.Proj0Ideal.main_arg2) = m ((c.tc : Thread Cert.Proj0Ideal.nD Cert.Proj0Ideal.τ).loc Cert.Proj0Ideal.main_arg2)
          ∧ r.2.mem ((c.tc : Thread Cert.Proj0Ideal.nD Cert.Proj0Ideal.τ).loc Cert.Proj0Ideal.main_arg3) = m ((c.tc : Thread Cert.Proj0Ideal.nD Cert.Proj0Ideal.τ).loc Cert.Proj0Ideal.main_arg3)
          ∧ r.2.mem ((c.tc : Thread Cert.Proj0Ideal.nD Cert.Proj0Ideal.τ).loc Cert.Proj0Ideal.main_arg4) = m ((c.tc : Thread Cert.Proj0Ideal.nD Cert.Proj0Ideal.τ).loc Cert.Proj0Ideal.main_arg4))
      ∧ θ_run (Cert.ProjRef0Ideal.defs (F := Ideal)) (onTc (τ := Cert.ProjRef0Ideal.τ) (Cert.ProjRef0Ideal.main (F := Ideal))) ⟨m', fun _ => 0, g'⟩ (fun r => ∀ c : Dev Cert.ProjRef0Ideal.nD,
          r.2.mem ((c.tc : Thread Cert.ProjRef0Ideal.nD Cert.ProjRef0Ideal.τ).loc Cert.ProjRef0Ideal.main_v33) = v0 c
          ∧ r.2.mem ((c.tc : Thread Cert.ProjRef0Ideal.nD Cert.ProjRef0Ideal.τ).loc Cert.ProjRef0Ideal.main_arg0) = m' ((c.tc : Thread Cert.ProjRef0Ideal.nD Cert.ProjRef0Ideal.τ).loc Cert.ProjRef0Ideal.main_arg0)
          ∧ r.2.mem ((c.tc : Thread Cert.ProjRef0Ideal.nD Cert.ProjRef0Ideal.τ).loc Cert.ProjRef0Ideal.main_arg1) = m' ((c.tc : Thread Cert.ProjRef0Ideal.nD Cert.ProjRef0Ideal.τ).loc Cert.ProjRef0Ideal.main_arg1)
          ∧ r.2.mem ((c.tc : Thread Cert.ProjRef0Ideal.nD Cert.ProjRef0Ideal.τ).loc Cert.ProjRef0Ideal.main_arg2) = m' ((c.tc : Thread Cert.ProjRef0Ideal.nD Cert.ProjRef0Ideal.τ).loc Cert.ProjRef0Ideal.main_arg2)
          ∧ r.2.mem ((c.tc : Thread Cert.ProjRef0Ideal.nD Cert.ProjRef0Ideal.τ).loc Cert.ProjRef0Ideal.main_arg3) = m' ((c.tc : Thread Cert.ProjRef0Ideal.nD Cert.ProjRef0Ideal.τ).loc Cert.ProjRef0Ideal.main_arg3)
          ∧ r.2.mem ((c.tc : Thread Cert.ProjRef0Ideal.nD Cert.ProjRef0Ideal.τ).loc Cert.ProjRef0Ideal.main_arg4) = m' ((c.tc : Thread Cert.ProjRef0Ideal.nD Cert.ProjRef0Ideal.τ).loc Cert.ProjRef0Ideal.main_arg4))

def preserves_Proj1_Proj1Ideal : Prop :=
  True

def algebraic_Proj1Ideal_ProjRef1Ideal [hProj1Ideal : Cert.Proj1Ideal.Facts] [hProjRef1Ideal : Cert.ProjRef1Ideal.Facts] : Prop :=
  ∀ (m : (ℓ : Loc Cert.Proj1Ideal.nD Cert.Proj1Ideal.τ Cert.Proj1Ideal.sig) → Buf (Elt Ideal) ℓ) (g : Dev Cert.Proj1Ideal.nD → PrngReg)
    (m' : (ℓ : Loc Cert.ProjRef1Ideal.nD Cert.ProjRef1Ideal.τ Cert.ProjRef1Ideal.sig) → Buf (Elt Ideal) ℓ) (g' : Dev Cert.ProjRef1Ideal.nD → PrngReg), Pre_Proj1Ideal m →
    (∀ c : Dev Cert.Proj1Ideal.nD,
      m' ((c.tc : Thread Cert.ProjRef1Ideal.nD Cert.ProjRef1Ideal.τ).loc Cert.ProjRef1Ideal.main_arg0) = m ((c.tc : Thread Cert.Proj1Ideal.nD Cert.Proj1Ideal.τ).loc Cert.Proj1Ideal.main_arg0)
      ∧ m' ((c.tc : Thread Cert.ProjRef1Ideal.nD Cert.ProjRef1Ideal.τ).loc Cert.ProjRef1Ideal.main_arg1) = m ((c.tc : Thread Cert.Proj1Ideal.nD Cert.Proj1Ideal.τ).loc Cert.Proj1Ideal.main_arg1)
      ∧ m' ((c.tc : Thread Cert.ProjRef1Ideal.nD Cert.ProjRef1Ideal.τ).loc Cert.ProjRef1Ideal.main_arg2) = m ((c.tc : Thread Cert.Proj1Ideal.nD Cert.Proj1Ideal.τ).loc Cert.Proj1Ideal.main_arg2)
      ∧ m' ((c.tc : Thread Cert.ProjRef1Ideal.nD Cert.ProjRef1Ideal.τ).loc Cert.ProjRef1Ideal.main_arg3) = m ((c.tc : Thread Cert.Proj1Ideal.nD Cert.Proj1Ideal.τ).loc Cert.Proj1Ideal.main_arg3)
      ∧ m' ((c.tc : Thread Cert.ProjRef1Ideal.nD Cert.ProjRef1Ideal.τ).loc Cert.ProjRef1Ideal.main_arg4) = m ((c.tc : Thread Cert.Proj1Ideal.nD Cert.Proj1Ideal.τ).loc Cert.Proj1Ideal.main_arg4)) →
    ∃ (v0 : (c : Dev Cert.Proj1Ideal.nD) → Buf (Elt Ideal) ((c.tc : Thread Cert.Proj1Ideal.nD Cert.Proj1Ideal.τ).loc Cert.Proj1Ideal.main_v9)),
      θ_run (Cert.Proj1Ideal.defs (F := Ideal)) (onTc (τ := Cert.Proj1Ideal.τ) (Cert.Proj1Ideal.main (F := Ideal))) ⟨m, fun _ => 0, g⟩ (fun r => ∀ c : Dev Cert.Proj1Ideal.nD,
          r.2.mem ((c.tc : Thread Cert.Proj1Ideal.nD Cert.Proj1Ideal.τ).loc Cert.Proj1Ideal.main_v9) = v0 c
          ∧ r.2.mem ((c.tc : Thread Cert.Proj1Ideal.nD Cert.Proj1Ideal.τ).loc Cert.Proj1Ideal.main_arg0) = m ((c.tc : Thread Cert.Proj1Ideal.nD Cert.Proj1Ideal.τ).loc Cert.Proj1Ideal.main_arg0)
          ∧ r.2.mem ((c.tc : Thread Cert.Proj1Ideal.nD Cert.Proj1Ideal.τ).loc Cert.Proj1Ideal.main_arg1) = m ((c.tc : Thread Cert.Proj1Ideal.nD Cert.Proj1Ideal.τ).loc Cert.Proj1Ideal.main_arg1)
          ∧ r.2.mem ((c.tc : Thread Cert.Proj1Ideal.nD Cert.Proj1Ideal.τ).loc Cert.Proj1Ideal.main_arg2) = m ((c.tc : Thread Cert.Proj1Ideal.nD Cert.Proj1Ideal.τ).loc Cert.Proj1Ideal.main_arg2)
          ∧ r.2.mem ((c.tc : Thread Cert.Proj1Ideal.nD Cert.Proj1Ideal.τ).loc Cert.Proj1Ideal.main_arg3) = m ((c.tc : Thread Cert.Proj1Ideal.nD Cert.Proj1Ideal.τ).loc Cert.Proj1Ideal.main_arg3)
          ∧ r.2.mem ((c.tc : Thread Cert.Proj1Ideal.nD Cert.Proj1Ideal.τ).loc Cert.Proj1Ideal.main_arg4) = m ((c.tc : Thread Cert.Proj1Ideal.nD Cert.Proj1Ideal.τ).loc Cert.Proj1Ideal.main_arg4))
      ∧ θ_run (Cert.ProjRef1Ideal.defs (F := Ideal)) (onTc (τ := Cert.ProjRef1Ideal.τ) (Cert.ProjRef1Ideal.main (F := Ideal))) ⟨m', fun _ => 0, g'⟩ (fun r => ∀ c : Dev Cert.ProjRef1Ideal.nD,
          r.2.mem ((c.tc : Thread Cert.ProjRef1Ideal.nD Cert.ProjRef1Ideal.τ).loc Cert.ProjRef1Ideal.main_v32) = v0 c
          ∧ r.2.mem ((c.tc : Thread Cert.ProjRef1Ideal.nD Cert.ProjRef1Ideal.τ).loc Cert.ProjRef1Ideal.main_arg0) = m' ((c.tc : Thread Cert.ProjRef1Ideal.nD Cert.ProjRef1Ideal.τ).loc Cert.ProjRef1Ideal.main_arg0)
          ∧ r.2.mem ((c.tc : Thread Cert.ProjRef1Ideal.nD Cert.ProjRef1Ideal.τ).loc Cert.ProjRef1Ideal.main_arg1) = m' ((c.tc : Thread Cert.ProjRef1Ideal.nD Cert.ProjRef1Ideal.τ).loc Cert.ProjRef1Ideal.main_arg1)
          ∧ r.2.mem ((c.tc : Thread Cert.ProjRef1Ideal.nD Cert.ProjRef1Ideal.τ).loc Cert.ProjRef1Ideal.main_arg2) = m' ((c.tc : Thread Cert.ProjRef1Ideal.nD Cert.ProjRef1Ideal.τ).loc Cert.ProjRef1Ideal.main_arg2)
          ∧ r.2.mem ((c.tc : Thread Cert.ProjRef1Ideal.nD Cert.ProjRef1Ideal.τ).loc Cert.ProjRef1Ideal.main_arg3) = m' ((c.tc : Thread Cert.ProjRef1Ideal.nD Cert.ProjRef1Ideal.τ).loc Cert.ProjRef1Ideal.main_arg3)
          ∧ r.2.mem ((c.tc : Thread Cert.ProjRef1Ideal.nD Cert.ProjRef1Ideal.τ).loc Cert.ProjRef1Ideal.main_arg4) = m' ((c.tc : Thread Cert.ProjRef1Ideal.nD Cert.ProjRef1Ideal.τ).loc Cert.ProjRef1Ideal.main_arg4))

def preserves_Proj2_Proj2Ideal : Prop :=
  True

def algebraic_Proj2Ideal_ProjRef2Ideal [hProj2Ideal : Cert.Proj2Ideal.Facts] [hProjRef2Ideal : Cert.ProjRef2Ideal.Facts] : Prop :=
  ∀ (m : (ℓ : Loc Cert.Proj2Ideal.nD Cert.Proj2Ideal.τ Cert.Proj2Ideal.sig) → Buf (Elt Ideal) ℓ) (g : Dev Cert.Proj2Ideal.nD → PrngReg)
    (m' : (ℓ : Loc Cert.ProjRef2Ideal.nD Cert.ProjRef2Ideal.τ Cert.ProjRef2Ideal.sig) → Buf (Elt Ideal) ℓ) (g' : Dev Cert.ProjRef2Ideal.nD → PrngReg), Pre_Proj2Ideal m →
    (∀ c : Dev Cert.Proj2Ideal.nD,
      m' ((c.tc : Thread Cert.ProjRef2Ideal.nD Cert.ProjRef2Ideal.τ).loc Cert.ProjRef2Ideal.main_arg0) = m ((c.tc : Thread Cert.Proj2Ideal.nD Cert.Proj2Ideal.τ).loc Cert.Proj2Ideal.main_arg0)
      ∧ m' ((c.tc : Thread Cert.ProjRef2Ideal.nD Cert.ProjRef2Ideal.τ).loc Cert.ProjRef2Ideal.main_arg1) = m ((c.tc : Thread Cert.Proj2Ideal.nD Cert.Proj2Ideal.τ).loc Cert.Proj2Ideal.main_arg1)
      ∧ m' ((c.tc : Thread Cert.ProjRef2Ideal.nD Cert.ProjRef2Ideal.τ).loc Cert.ProjRef2Ideal.main_arg2) = m ((c.tc : Thread Cert.Proj2Ideal.nD Cert.Proj2Ideal.τ).loc Cert.Proj2Ideal.main_arg2)
      ∧ m' ((c.tc : Thread Cert.ProjRef2Ideal.nD Cert.ProjRef2Ideal.τ).loc Cert.ProjRef2Ideal.main_arg3) = m ((c.tc : Thread Cert.Proj2Ideal.nD Cert.Proj2Ideal.τ).loc Cert.Proj2Ideal.main_arg3)
      ∧ m' ((c.tc : Thread Cert.ProjRef2Ideal.nD Cert.ProjRef2Ideal.τ).loc Cert.ProjRef2Ideal.main_arg4) = m ((c.tc : Thread Cert.Proj2Ideal.nD Cert.Proj2Ideal.τ).loc Cert.Proj2Ideal.main_arg4)) →
    ∃ (v0 : (c : Dev Cert.Proj2Ideal.nD) → Buf (Elt Ideal) ((c.tc : Thread Cert.Proj2Ideal.nD Cert.Proj2Ideal.τ).loc Cert.Proj2Ideal.main_v9)),
      θ_run (Cert.Proj2Ideal.defs (F := Ideal)) (onTc (τ := Cert.Proj2Ideal.τ) (Cert.Proj2Ideal.main (F := Ideal))) ⟨m, fun _ => 0, g⟩ (fun r => ∀ c : Dev Cert.Proj2Ideal.nD,
          r.2.mem ((c.tc : Thread Cert.Proj2Ideal.nD Cert.Proj2Ideal.τ).loc Cert.Proj2Ideal.main_v9) = v0 c
          ∧ r.2.mem ((c.tc : Thread Cert.Proj2Ideal.nD Cert.Proj2Ideal.τ).loc Cert.Proj2Ideal.main_arg0) = m ((c.tc : Thread Cert.Proj2Ideal.nD Cert.Proj2Ideal.τ).loc Cert.Proj2Ideal.main_arg0)
          ∧ r.2.mem ((c.tc : Thread Cert.Proj2Ideal.nD Cert.Proj2Ideal.τ).loc Cert.Proj2Ideal.main_arg1) = m ((c.tc : Thread Cert.Proj2Ideal.nD Cert.Proj2Ideal.τ).loc Cert.Proj2Ideal.main_arg1)
          ∧ r.2.mem ((c.tc : Thread Cert.Proj2Ideal.nD Cert.Proj2Ideal.τ).loc Cert.Proj2Ideal.main_arg2) = m ((c.tc : Thread Cert.Proj2Ideal.nD Cert.Proj2Ideal.τ).loc Cert.Proj2Ideal.main_arg2)
          ∧ r.2.mem ((c.tc : Thread Cert.Proj2Ideal.nD Cert.Proj2Ideal.τ).loc Cert.Proj2Ideal.main_arg3) = m ((c.tc : Thread Cert.Proj2Ideal.nD Cert.Proj2Ideal.τ).loc Cert.Proj2Ideal.main_arg3)
          ∧ r.2.mem ((c.tc : Thread Cert.Proj2Ideal.nD Cert.Proj2Ideal.τ).loc Cert.Proj2Ideal.main_arg4) = m ((c.tc : Thread Cert.Proj2Ideal.nD Cert.Proj2Ideal.τ).loc Cert.Proj2Ideal.main_arg4))
      ∧ θ_run (Cert.ProjRef2Ideal.defs (F := Ideal)) (onTc (τ := Cert.ProjRef2Ideal.τ) (Cert.ProjRef2Ideal.main (F := Ideal))) ⟨m', fun _ => 0, g'⟩ (fun r => ∀ c : Dev Cert.ProjRef2Ideal.nD,
          r.2.mem ((c.tc : Thread Cert.ProjRef2Ideal.nD Cert.ProjRef2Ideal.τ).loc Cert.ProjRef2Ideal.main_v32) = v0 c
          ∧ r.2.mem ((c.tc : Thread Cert.ProjRef2Ideal.nD Cert.ProjRef2Ideal.τ).loc Cert.ProjRef2Ideal.main_arg0) = m' ((c.tc : Thread Cert.ProjRef2Ideal.nD Cert.ProjRef2Ideal.τ).loc Cert.ProjRef2Ideal.main_arg0)
          ∧ r.2.mem ((c.tc : Thread Cert.ProjRef2Ideal.nD Cert.ProjRef2Ideal.τ).loc Cert.ProjRef2Ideal.main_arg1) = m' ((c.tc : Thread Cert.ProjRef2Ideal.nD Cert.ProjRef2Ideal.τ).loc Cert.ProjRef2Ideal.main_arg1)
          ∧ r.2.mem ((c.tc : Thread Cert.ProjRef2Ideal.nD Cert.ProjRef2Ideal.τ).loc Cert.ProjRef2Ideal.main_arg2) = m' ((c.tc : Thread Cert.ProjRef2Ideal.nD Cert.ProjRef2Ideal.τ).loc Cert.ProjRef2Ideal.main_arg2)
          ∧ r.2.mem ((c.tc : Thread Cert.ProjRef2Ideal.nD Cert.ProjRef2Ideal.τ).loc Cert.ProjRef2Ideal.main_arg3) = m' ((c.tc : Thread Cert.ProjRef2Ideal.nD Cert.ProjRef2Ideal.τ).loc Cert.ProjRef2Ideal.main_arg3)
          ∧ r.2.mem ((c.tc : Thread Cert.ProjRef2Ideal.nD Cert.ProjRef2Ideal.τ).loc Cert.ProjRef2Ideal.main_arg4) = m' ((c.tc : Thread Cert.ProjRef2Ideal.nD Cert.ProjRef2Ideal.τ).loc Cert.ProjRef2Ideal.main_arg4))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)) →
    ∃ (v0 : (c : Dev Cert.OutIdeal.nD) → Buf (Elt Ideal) ((c.tc : Thread Cert.OutIdeal.nD Cert.OutIdeal.τ).loc Cert.OutIdeal.main_v7_0)) (v1 : (c : Dev Cert.OutIdeal.nD) → Buf (Elt Ideal) ((c.tc : Thread Cert.OutIdeal.nD Cert.OutIdeal.τ).loc Cert.OutIdeal.main_v7_1)) (v2 : (c : Dev Cert.OutIdeal.nD) → Buf (Elt Ideal) ((c.tc : Thread Cert.OutIdeal.nD Cert.OutIdeal.τ).loc Cert.OutIdeal.main_v7_2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v7_0) = v0 c
          ∧ r.2.mem ((c.tc : Thread Cert.OutIdeal.nD Cert.OutIdeal.τ).loc Cert.OutIdeal.main_v7_1) = v1 c
          ∧ r.2.mem ((c.tc : Thread Cert.OutIdeal.nD Cert.OutIdeal.τ).loc Cert.OutIdeal.main_v7_2) = v2 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v42) = v0 c
          ∧ r.2.mem ((c.tc : Thread Cert.OutRefIdeal.nD Cert.OutRefIdeal.τ).loc Cert.OutRefIdeal.main_v43) = v1 c
          ∧ r.2.mem ((c.tc : Thread Cert.OutRefIdeal.nD Cert.OutRefIdeal.τ).loc Cert.OutRefIdeal.main_v44) = v2 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v70) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def Claim : Prop :=
  ∃ (hAttn0 : Cert.Attn0.Facts) (hAttn0Ideal : Cert.Attn0Ideal.Facts) (hAttnRef0Ideal : Cert.AttnRef0Ideal.Facts) (hAttn1 : Cert.Attn1.Facts) (hAttn1Ideal : Cert.Attn1Ideal.Facts) (hAttnRef1Ideal : Cert.AttnRef1Ideal.Facts) (hAttn2 : Cert.Attn2.Facts) (hAttn2Ideal : Cert.Attn2Ideal.Facts) (hAttnRef2Ideal : Cert.AttnRef2Ideal.Facts) (hProj : Cert.Proj.Facts) (hProjIdeal : Cert.ProjIdeal.Facts) (hProjRefIdeal : Cert.ProjRefIdeal.Facts) (hProj0 : Cert.Proj0.Facts) (hProj0Ideal : Cert.Proj0Ideal.Facts) (hProjRef0Ideal : Cert.ProjRef0Ideal.Facts) (hProj1 : Cert.Proj1.Facts) (hProj1Ideal : Cert.Proj1Ideal.Facts) (hProjRef1Ideal : Cert.ProjRef1Ideal.Facts) (hProj2 : Cert.Proj2.Facts) (hProj2Ideal : Cert.Proj2Ideal.Facts) (hProjRef2Ideal : Cert.ProjRef2Ideal.Facts) (hOut : Cert.Out.Facts) (hOutIdeal : Cert.OutIdeal.Facts) (hOutRefIdeal : Cert.OutRefIdeal.Facts) (hMerge : Cert.Merge.Facts) (hMergeIdeal : Cert.MergeIdeal.Facts) (hMergeRefIdeal : Cert.MergeRefIdeal.Facts) (hPre_finite_qk_0 : Cert.Pre_finite_qk_0.Facts) (hPre_finite_qk_1 : Cert.Pre_finite_qk_1.Facts) (hPre_finite_qk_2 : Cert.Pre_finite_qk_2.Facts),
    quiescent_Attn0 (hAttn0 := hAttn0)
    ∧ quiescent_Attn0Ideal (hAttn0Ideal := hAttn0Ideal)
    ∧ quiescent_Attn0Ideal_pre_finite_qk_0 (hAttn0Ideal := hAttn0Ideal) (hPre_finite_qk_0 := hPre_finite_qk_0)
    ∧ quiescent_AttnRef0Ideal (hAttnRef0Ideal := hAttnRef0Ideal)
    ∧ quiescent_AttnRef0Ideal_pre_finite_qk_0 (hAttnRef0Ideal := hAttnRef0Ideal) (hPre_finite_qk_0 := hPre_finite_qk_0)
    ∧ quiescent_Attn1 (hAttn1 := hAttn1)
    ∧ quiescent_Attn1Ideal (hAttn1Ideal := hAttn1Ideal)
    ∧ quiescent_Attn1Ideal_pre_finite_qk_1 (hAttn1Ideal := hAttn1Ideal) (hPre_finite_qk_1 := hPre_finite_qk_1)
    ∧ quiescent_AttnRef1Ideal (hAttnRef1Ideal := hAttnRef1Ideal)
    ∧ quiescent_AttnRef1Ideal_pre_finite_qk_1 (hAttnRef1Ideal := hAttnRef1Ideal) (hPre_finite_qk_1 := hPre_finite_qk_1)
    ∧ quiescent_Attn2 (hAttn2 := hAttn2)
    ∧ quiescent_Attn2Ideal (hAttn2Ideal := hAttn2Ideal)
    ∧ quiescent_Attn2Ideal_pre_finite_qk_2 (hAttn2Ideal := hAttn2Ideal) (hPre_finite_qk_2 := hPre_finite_qk_2)
    ∧ quiescent_AttnRef2Ideal (hAttnRef2Ideal := hAttnRef2Ideal)
    ∧ quiescent_AttnRef2Ideal_pre_finite_qk_2 (hAttnRef2Ideal := hAttnRef2Ideal) (hPre_finite_qk_2 := hPre_finite_qk_2)
    ∧ quiescent_Proj (hProj := hProj)
    ∧ quiescent_ProjIdeal (hProjIdeal := hProjIdeal)
    ∧ quiescent_ProjRefIdeal (hProjRefIdeal := hProjRefIdeal)
    ∧ quiescent_Proj0 (hProj0 := hProj0)
    ∧ quiescent_Proj0Ideal (hProj0Ideal := hProj0Ideal)
    ∧ quiescent_ProjRef0Ideal (hProjRef0Ideal := hProjRef0Ideal)
    ∧ quiescent_Proj1 (hProj1 := hProj1)
    ∧ quiescent_Proj1Ideal (hProj1Ideal := hProj1Ideal)
    ∧ quiescent_ProjRef1Ideal (hProjRef1Ideal := hProjRef1Ideal)
    ∧ quiescent_Proj2 (hProj2 := hProj2)
    ∧ quiescent_Proj2Ideal (hProj2Ideal := hProj2Ideal)
    ∧ quiescent_ProjRef2Ideal (hProjRef2Ideal := hProjRef2Ideal)
    ∧ quiescent_Out (hOut := hOut)
    ∧ quiescent_OutIdeal (hOutIdeal := hOutIdeal)
    ∧ quiescent_OutRefIdeal (hOutRefIdeal := hOutRefIdeal)
    ∧ quiescent_Merge (hMerge := hMerge)
    ∧ quiescent_MergeIdeal (hMergeIdeal := hMergeIdeal)
    ∧ quiescent_MergeRefIdeal (hMergeRefIdeal := hMergeRefIdeal)
    ∧ preserves_Attn0_Attn0Ideal
    ∧ algebraic_Attn0Ideal_AttnRef0Ideal_pre_finite_qk_0 (hAttn0Ideal := hAttn0Ideal) (hAttnRef0Ideal := hAttnRef0Ideal) (hPre_finite_qk_0 := hPre_finite_qk_0)
    ∧ preserves_Attn1_Attn1Ideal
    ∧ algebraic_Attn1Ideal_AttnRef1Ideal_pre_finite_qk_1 (hAttn1Ideal := hAttn1Ideal) (hAttnRef1Ideal := hAttnRef1Ideal) (hPre_finite_qk_1 := hPre_finite_qk_1)
    ∧ preserves_Attn2_Attn2Ideal
    ∧ algebraic_Attn2Ideal_AttnRef2Ideal_pre_finite_qk_2 (hAttn2Ideal := hAttn2Ideal) (hAttnRef2Ideal := hAttnRef2Ideal) (hPre_finite_qk_2 := hPre_finite_qk_2)
    ∧ preserves_Proj_ProjIdeal
    ∧ algebraic_ProjIdeal_ProjRefIdeal (hProjIdeal := hProjIdeal) (hProjRefIdeal := hProjRefIdeal)
    ∧ preserves_Proj0_Proj0Ideal
    ∧ algebraic_Proj0Ideal_ProjRef0Ideal (hProj0Ideal := hProj0Ideal) (hProjRef0Ideal := hProjRef0Ideal)
    ∧ preserves_Proj1_Proj1Ideal
    ∧ algebraic_Proj1Ideal_ProjRef1Ideal (hProj1Ideal := hProj1Ideal) (hProjRef1Ideal := hProjRef1Ideal)
    ∧ preserves_Proj2_Proj2Ideal
    ∧ algebraic_Proj2Ideal_ProjRef2Ideal (hProj2Ideal := hProj2Ideal) (hProjRef2Ideal := hProjRef2Ideal)
    ∧ preserves_Out_OutIdeal
    ∧ algebraic_OutIdeal_OutRefIdeal (hOutIdeal := hOutIdeal) (hOutRefIdeal := hOutRefIdeal)
    ∧ preserves_Merge_MergeIdeal
    ∧ algebraic_MergeIdeal_MergeRefIdeal (hMergeIdeal := hMergeIdeal) (hMergeRefIdeal := hMergeRefIdeal)
-- ==== Pre_finite_qk_0.lean ====
abbrev S4x1x4096x1536 : Shape := ⟨4, ![4, 1, 4096, 1536]⟩
abbrev S4x1x4096x1024 : Shape := ⟨4, ![4, 1, 4096, 1024]⟩
abbrev S_ : Shape := ⟨0, ![]⟩

class Facts : Prop where
  slices_S4x1x4096x1536_S4x1x4096x1024_0_0_0_0 : S4x1x4096x1536.Slices ![0, 0, 0, 0] S4x1x4096x1024
  bitsLt_bf16_f32 : FTy.bits .bf16 < FTy.bits .f32
  bcast_S_S4x1x4096x1024 : S_.BroadcastsInDim S4x1x4096x1024 (![] : Fin 0 → Fin S4x1x4096x1024.rank)
  reducesTo_S4x1x4096x1024_S_d0_1_2_3 : S4x1x4096x1024.ReducesTo [0, 1, 2, 3] S_
  h_S_ : 0 < S_.numel

variable [Facts]

def fn {F : FTy → Type} [FloatOps F] (main_arg0 : FVec F S4x1x4096x1536 .bf16) : IVec S_ 1 :=
  let main_v0 : FVec F S4x1x4096x1024 .bf16 := (extractStridedSlice S4x1x4096x1024 ![0, 0, 0, 0] · slices_S4x1x4096x1536_S4x1x4096x1024_0_0_0_0) main_arg0
  let main_v1 : FVec F S4x1x4096x1024 .f32 := (extf .f32 · bitsLt_bf16_f32) main_v0
  let main_v2 : FVec F S4x1x4096x1024 .f32 := Host.absf main_v1
  let main_cst : FVec F S_ .f32 := constant S_ .f32 0x7F800000#32
  let main_v3 : FVec F S4x1x4096x1024 .f32 := broadcastInDim S4x1x4096x1024 ![] bcast_S_S4x1x4096x1024 main_cst
  let main_v4 : IVec S4x1x4096x1024 1 := cmpf .olt main_v2 main_v3
  let main_c : IVec S_ 1 := constantI S_ 1 1#1
  let main_v5 : IVec S_ 1 := (fun x v => Host.reduce IntOp.andi x v reducesTo_S4x1x4096x1024_S_d0_1_2_3 h_S_) main_v4 main_c
  main_v5
-- ==== Pre_finite_qk_1.lean ====
abbrev S4x4x1024x1536 : Shape := ⟨4, ![4, 4, 1024, 1536]⟩
abbrev S4x4x1024x1024 : Shape := ⟨4, ![4, 4, 1024, 1024]⟩
abbrev S_ : Shape := ⟨0, ![]⟩

class Facts : Prop where
  slices_S4x4x1024x1536_S4x4x1024x1024_0_0_0_0 : S4x4x1024x1536.Slices ![0, 0, 0, 0] S4x4x1024x1024
  bitsLt_bf16_f32 : FTy.bits .bf16 < FTy.bits .f32
  bcast_S_S4x4x1024x1024 : S_.BroadcastsInDim S4x4x1024x1024 (![] : Fin 0 → Fin S4x4x1024x1024.rank)
  reducesTo_S4x4x1024x1024_S_d0_1_2_3 : S4x4x1024x1024.ReducesTo [0, 1, 2, 3] S_
  h_S_ : 0 < S_.numel

variable [Facts]

def fn {F : FTy → Type} [FloatOps F] (main_arg0 : FVec F S4x4x1024x1536 .bf16) : IVec S_ 1 :=
  let main_v0 : FVec F S4x4x1024x1024 .bf16 := (extractStridedSlice S4x4x1024x1024 ![0, 0, 0, 0] · slices_S4x4x1024x1536_S4x4x1024x1024_0_0_0_0) main_arg0
  let main_v1 : FVec F S4x4x1024x1024 .f32 := (extf .f32 · bitsLt_bf16_f32) main_v0
  let main_v2 : FVec F S4x4x1024x1024 .f32 := Host.absf main_v1
  let main_cst : FVec F S_ .f32 := constant S_ .f32 0x7F800000#32
  let main_v3 : FVec F S4x4x1024x1024 .f32 := broadcastInDim S4x4x1024x1024 ![] bcast_S_S4x4x1024x1024 main_cst
  let main_v4 : IVec S4x4x1024x1024 1 := cmpf .olt main_v2 main_v3
  let main_c : IVec S_ 1 := constantI S_ 1 1#1
  let main_v5 : IVec S_ 1 := (fun x v => Host.reduce IntOp.andi x v reducesTo_S4x4x1024x1024_S_d0_1_2_3 h_S_) main_v4 main_c
  main_v5
-- ==== Pre_finite_qk_2.lean ====
abbrev S4x16x256x1536 : Shape := ⟨4, ![4, 16, 256, 1536]⟩
abbrev S4x16x256x1024 : Shape := ⟨4, ![4, 16, 256, 1024]⟩
abbrev S_ : Shape := ⟨0, ![]⟩

class Facts : Prop where
  slices_S4x16x256x1536_S4x16x256x1024_0_0_0_0 : S4x16x256x1536.Slices ![0, 0, 0, 0] S4x16x256x1024
  bitsLt_bf16_f32 : FTy.bits .bf16 < FTy.bits .f32
  bcast_S_S4x16x256x1024 : S_.BroadcastsInDim S4x16x256x1024 (![] : Fin 0 → Fin S4x16x256x1024.rank)
  reducesTo_S4x16x256x1024_S_d0_1_2_3 : S4x16x256x1024.ReducesTo [0, 1, 2, 3] S_
  h_S_ : 0 < S_.numel

variable [Facts]

def fn {F : FTy → Type} [FloatOps F] (main_arg0 : FVec F S4x16x256x1536 .bf16) : IVec S_ 1 :=
  let main_v0 : FVec F S4x16x256x1024 .bf16 := (extractStridedSlice S4x16x256x1024 ![0, 0, 0, 0] · slices_S4x16x256x1536_S4x16x256x1024_0_0_0_0) main_arg0
  let main_v1 : FVec F S4x16x256x1024 .f32 := (extf .f32 · bitsLt_bf16_f32) main_v0
  let main_v2 : FVec F S4x16x256x1024 .f32 := Host.absf main_v1
  let main_cst : FVec F S_ .f32 := constant S_ .f32 0x7F800000#32
  let main_v3 : FVec F S4x16x256x1024 .f32 := broadcastInDim S4x16x256x1024 ![] bcast_S_S4x16x256x1024 main_cst
  let main_v4 : IVec S4x16x256x1024 1 := cmpf .olt main_v2 main_v3
  let main_c : IVec S_ 1 := constantI S_ 1 1#1
  let main_v5 : IVec S_ 1 := (fun x v => Host.reduce IntOp.andi x v reducesTo_S4x16x256x1024_S_d0_1_2_3 h_S_) main_v4 main_c
  main_v5
-- ==== Attn0.lean ====
abbrev S4x1x4096x1536 : Shape := ⟨4, ![4, 1, 4096, 1536]⟩
abbrev S4x1x4096x640 : Shape := ⟨4, ![4, 1, 4096, 640]⟩
abbrev S1x1x512x512 : Shape := ⟨4, ![1, 1, 512, 512]⟩
abbrev S1x1x128x512 : Shape := ⟨4, ![1, 1, 128, 512]⟩
abbrev S1x1x512x640 : Shape := ⟨4, ![1, 1, 512, 640]⟩
abbrev S128x128 : Shape := ⟨2, ![128, 128]⟩
abbrev S1x1x128x128 : Shape := ⟨4, ![1, 1, 128, 128]⟩
abbrev S128 : Shape := ⟨1, ![128]⟩
abbrev S128x1 : Shape := ⟨2, ![128, 1]⟩
abbrev S128x256 : Shape := ⟨2, ![128, 256]⟩

abbrev nBuf : Space → Nat
  | .hbm => 2
  | .vmem => 12
  | .smem => 0
  | _ => 0

abbrev bufTy : (tb : Table) → Fin (tcTables nBuf tb) → BufTy
  | .hbm, ⟨0, _⟩ => ⟨S4x1x4096x1536, .bf16⟩
  | .hbm, ⟨1, _⟩ => ⟨S4x1x4096x640, .f32⟩
  | .local _ .vmem, ⟨0, _⟩ => ⟨S1x1x512x512, .bf16⟩
  | .local _ .vmem, ⟨1, _⟩ => ⟨S1x1x512x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1x1x512x512, .bf16⟩
  | .local _ .vmem, ⟨5, _⟩ => ⟨S1x1x512x512, .bf16⟩
  | .local _ .vmem, ⟨6, _⟩ => ⟨S1x1x128x512, .bf16⟩
  | .local _ .vmem, ⟨7, _⟩ => ⟨S1x1x128x512, .bf16⟩
  | .local _ .vmem, ⟨8, _⟩ => ⟨S1x1x512x512, .bf16⟩
  | .local _ .vmem, ⟨9, _⟩ => ⟨S1x1x512x512, .bf16⟩
  | .local _ .vmem, ⟨10, _⟩ => ⟨S1x1x512x640, .f32⟩
  | .local _ .vmem, ⟨11, _⟩ => ⟨S1x1x512x640, .f32⟩
  | _, _ => ⟨S4x1x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRef0Ideal.lean ====
abbrev S4x1x4096x1536 : Shape := ⟨4, ![4, 1, 4096, 1536]⟩
abbrev S_ : Shape := ⟨0, ![]⟩
abbrev S1 : Shape := ⟨1, ![1]⟩
abbrev S4 : Shape := ⟨1, ![4]⟩
abbrev S4x1x4096x512 : Shape := ⟨4, ![4, 1, 4096, 512]⟩
abbrev S4x1x4096x4x128 : Shape := ⟨5, ![4, 1, 4096, 4, 128]⟩
abbrev S4x4x1x4096x128 : Shape := ⟨5, ![4, 4, 1, 4096, 128]⟩
abbrev S4x4x1x32x128x128 : Shape := ⟨6, ![4, 4, 1, 32, 128, 128]⟩
abbrev S4x4x1x31x128x128 : Shape := ⟨6, ![4, 4, 1, 31, 128, 128]⟩
abbrev S4x4x1x32x256x128 : Shape := ⟨6, ![4, 4, 1, 32, 256, 128]⟩
abbrev S4x4x1x32x128x256 : Shape := ⟨6, ![4, 4, 1, 32, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S1x4x1x1x1x1 : Shape := ⟨6, ![1, 4, 1, 1, 1, 1]⟩
abbrev S1x1x1x1x128x256 : Shape := ⟨6, ![1, 1, 1, 1, 128, 256]⟩
abbrev S1x4x1x1x128x256 : Shape := ⟨6, ![1, 4, 1, 1, 128, 256]⟩
abbrev S4x4x1x32x128 : Shape := ⟨5, ![4, 4, 1, 32, 128]⟩
abbrev S4x4x1x32x128x1 : Shape := ⟨6, ![4, 4, 1, 32, 128, 1]⟩
abbrev S4x4x1x4096 : Shape := ⟨4, ![4, 4, 1, 4096]⟩
abbrev S4x1x4096x4 : Shape := ⟨4, ![4, 1, 4096, 4]⟩
abbrev S4x1x4096x4x32 : Shape := ⟨5, ![4, 1, 4096, 4, 32]⟩
abbrev S4x1x4096x128 : Shape := ⟨4, ![4, 1, 4096, 128]⟩
abbrev S4x1x4096x640 : Shape := ⟨4, ![4, 1, 4096, 640]⟩

abbrev nBuf : Space → Nat
  | .hbm => 112
  | .vmem => 0
  | .smem => 0
  | _ => 0

abbrev bufTy : (tb : Table) → Fin (tcTables nBuf tb) → BufTy
  | .hbm, ⟨0, _⟩ => ⟨S4x1x4096x1536, .bf16⟩
  | .hbm, ⟨1, _⟩ => ⟨S_, .f32⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S4, .f32⟩
  | .hbm, ⟨10, _⟩ => ⟨S4x1x4096x1536, .f32⟩
  | .hbm, ⟨11, _⟩ => ⟨S4x1x4096x512, .f32⟩
  | .hbm, ⟨12, _⟩ => ⟨S4x1x4096x512, .f32⟩
  | .hbm, ⟨13, _⟩ => ⟨S4x1x4096x512, .f32⟩
  | .hbm, ⟨14, _⟩ => ⟨S4x1x4096x4x128, .f32⟩
  | .hbm, ⟨15, _⟩ => ⟨S4x4x1x4096x128, .f32⟩
  | .hbm, ⟨16, _⟩ => ⟨S4x4x1x32x128x128, .f32⟩
  | .hbm, ⟨17, _⟩ => ⟨S4x1x4096x4x128, .f32⟩
  | .hbm, ⟨18, _⟩ => ⟨S4x4x1x4096x128, .f32⟩
  | .hbm, ⟨19, _⟩ => ⟨S4x4x1x32x128x128, .f32⟩
  | .hbm, ⟨20, _⟩ => ⟨S4x1x4096x4x128, .f32⟩
  | .hbm, ⟨21, _⟩ => ⟨S4x4x1x4096x128, .f32⟩
  | .hbm, ⟨22, _⟩ => ⟨S4x4x1x32x128x128, .f32⟩
  | .hbm, ⟨23, _⟩ => ⟨S4x4x1x31x128x128, .f32⟩
  | .hbm, ⟨24, _⟩ => ⟨S_, .i32⟩
  | .hbm, ⟨25, _⟩ => ⟨S_, .f32⟩
  | .hbm, ⟨26, _⟩ => ⟨S4x4x1x32x128x128, .f32⟩
  | .hbm, ⟨27, _⟩ => ⟨S4x4x1x32x256x128, .f32⟩
  | .hbm, ⟨28, _⟩ => ⟨S4x4x1x31x128x128, .f32⟩
  | .hbm, ⟨29, _⟩ => ⟨S_, .i32⟩
  | .hbm, ⟨30, _⟩ => ⟨S_, .f32⟩
  | .hbm, ⟨31, _⟩ => ⟨S4x4x1x32x128x128, .f32⟩
  | .hbm, ⟨32, _⟩ => ⟨S4x4x1x32x256x128, .f32⟩
  | .hbm, ⟨33, _⟩ => ⟨S4x4x1x32x128x256, .f32⟩
  | .hbm, ⟨34, _⟩ => ⟨S_, .f32⟩
  | .hbm, ⟨35, _⟩ => ⟨S4x4x1x32x128x256, .f32⟩
  | .hbm, ⟨36, _⟩ => ⟨S4x4x1x32x128x256, .f32⟩
  | .hbm, ⟨37, _⟩ => ⟨S128, .i32⟩
  | .hbm, ⟨38, _⟩ => ⟨S128x1, .i32⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S32, .i32⟩
  | .hbm, ⟨48, _⟩ => ⟨S32x1x1, .i32⟩
  | .hbm, ⟨49, _⟩ => ⟨S_, .i32⟩
  | .hbm, ⟨50, _⟩ => ⟨S32x1x1, .i32⟩
  | .hbm, ⟨51, _⟩ => ⟨S32x1x1, .i32⟩
  | .hbm, ⟨52, _⟩ => ⟨S1x1x256, .i32⟩
  | .hbm, ⟨53, _⟩ => ⟨S32x1x256, .i32⟩
  | .hbm, ⟨54, _⟩ => ⟨S32x1x256, .i32⟩
  | .hbm, ⟨55, _⟩ => ⟨S32x1x256, .i32⟩
  | .hbm, ⟨56, _⟩ => ⟨S_, .i32⟩
  | .hbm, ⟨57, _⟩ => ⟨S32x1x256, .i32⟩
  | .hbm, ⟨58, _⟩ => ⟨S32x1x256, .i32⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S_, .i32⟩
  | .hbm, ⟨63, _⟩ => ⟨S128x256, .i32⟩
  | .hbm, ⟨64, _⟩ => ⟨S128x256, .i1⟩
  | .hbm, ⟨65, _⟩ => ⟨S128x256, .i1⟩
  | .hbm, ⟨66, _⟩ => ⟨S_, .i32⟩
  | .hbm, ⟨67, _⟩ => ⟨S32x1x256, .i32⟩
  | .hbm, ⟨68, _⟩ => ⟨S32x1x256, .i1⟩
  | .hbm, ⟨69, _⟩ => ⟨S1x128x256, .i1⟩
  | .hbm, ⟨70, _⟩ => ⟨S32x128x256, .i1⟩
  | .hbm, ⟨71, _⟩ => ⟨S32x128x256, .i1⟩
  | .hbm, ⟨72, _⟩ => ⟨S32x128x256, .i1⟩
  | .hbm, ⟨73, _⟩ => ⟨S_, .i32⟩
  | .hbm, ⟨74, _⟩ => ⟨S128x256, .i32⟩
  | .hbm, ⟨75, _⟩ => ⟨S128x256, .i32⟩
  | .hbm, ⟨76, _⟩ => ⟨S128x256, .f32⟩
  | .hbm, ⟨77, _⟩ => ⟨S1x4x1x1x1x1, .f32⟩
  | .hbm, ⟨78, _⟩ => ⟨S1x1x1x1x128x256, .f32⟩
  | .hbm, ⟨79, _⟩ => ⟨S1x4x1x1x128x256, .f32⟩
  | .hbm, ⟨80, _⟩ => ⟨S1x4x1x1x128x256, .f32⟩
  | .hbm, ⟨81, _⟩ => ⟨S1x4x1x1x128x256, .f32⟩
  | .hbm, ⟨82, _⟩ => ⟨S4x4x1x32x128x256, .f32⟩
  | .hbm, ⟨83, _⟩ => ⟨S4x4x1x32x128x256, .f32⟩
  | .hbm, ⟨84, _⟩ => ⟨S_, .f32⟩
  | .hbm, ⟨85, _⟩ => ⟨S_, .f32⟩
  | .hbm, ⟨86, _⟩ => ⟨S4x4x1x32x128x256, .i1⟩
  | .hbm, ⟨87, _⟩ => ⟨S4x4x1x32x128x256, .f32⟩
  | .hbm, ⟨88, _⟩ => ⟨S4x4x1x32x128x256, .f32⟩
  | .hbm, ⟨89, _⟩ => ⟨S_, .f32⟩
  | .hbm, ⟨90, _⟩ => ⟨S4x4x1x32x128, .f32⟩
  | .hbm, ⟨91, _⟩ => ⟨S4x4x1x32x128x1, .f32⟩
  | .hbm, ⟨92, _⟩ => ⟨S4x4x1x32x128x256, .f32⟩
  | .hbm, ⟨93, _⟩ => ⟨S4x4x1x32x128x256, .f32⟩
  | .hbm, ⟨94, _⟩ => ⟨S4x4x1x32x128x256, .f32⟩
  | .hbm, ⟨95, _⟩ => ⟨S_, .f32⟩
  | .hbm, ⟨96, _⟩ => ⟨S4x4x1x32x128, .f32⟩
  | .hbm, ⟨97, _⟩ => ⟨S4x4x1x32x128, .f32⟩
  | .hbm, ⟨98, _⟩ => ⟨S4x4x1x32x128, .f32⟩
  | .hbm, ⟨99, _⟩ => ⟨S4x4x1x32x128x1, .f32⟩
  | .hbm, ⟨100, _⟩ => ⟨S4x4x1x32x128x256, .f32⟩
  | .hbm, ⟨101, _⟩ => ⟨S4x4x1x32x128x256, .f32⟩
  | .hbm, ⟨102, _⟩ => ⟨S4x4x1x32x128x256, .f32⟩
  | .hbm, ⟨103, _⟩ => ⟨S4x4x1x32x128x128, .f32⟩
  | .hbm, ⟨104, _⟩ => ⟨S4x4x1x4096x128, .f32⟩
  | .hbm, ⟨105, _⟩ => ⟨S4x1x4096x4x128, .f32⟩
  | .hbm, ⟨106, _⟩ => ⟨S4x1x4096x512, .f32⟩
  | .hbm, ⟨107, _⟩ => ⟨S4x4x1x4096, .f32⟩
  | .hbm, ⟨108, _⟩ => ⟨S4x1x4096x4, .f32⟩
  | .hbm, ⟨109, _⟩ => ⟨S4x1x4096x4x32, .f32⟩
  | .hbm, ⟨110, _⟩ => ⟨S4x1x4096x128, .f32⟩
  | .hbm, ⟨111, _⟩ => ⟨S4x1x4096x640, .f32⟩
  | _, _ => ⟨S4x1x4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_call1_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Attn1.lean ====
abbrev S4x4x1024x1536 : Shape := ⟨4, ![4, 4, 1024, 1536]⟩
abbrev S4x4x1024x640 : Shape := ⟨4, ![4, 4, 1024, 640]⟩
abbrev S1x1x512x512 : Shape := ⟨4, ![1, 1, 512, 512]⟩
abbrev S1x1x128x512 : Shape := ⟨4, ![1, 1, 128, 512]⟩
abbrev S1x1x512x640 : Shape := ⟨4, ![1, 1, 512, 640]⟩
abbrev S128x128 : Shape := ⟨2, ![128, 128]⟩
abbrev S1x1x128x128 : Shape := ⟨4, ![1, 1, 128, 128]⟩
abbrev S128 : Shape := ⟨1, ![128]⟩
abbrev S128x1 : Shape := ⟨2, ![128, 1]⟩
abbrev S128x256 : Shape := ⟨2, ![128, 256]⟩

abbrev nBuf : Space → Nat
  | .hbm => 2
  | .vmem => 12
  | .smem => 0
  | _ => 0

abbrev bufTy : (tb : Table) → Fin (tcTables nBuf tb) → BufTy
  | .hbm, ⟨0, _⟩ => ⟨S4x4x1024x1536, .bf16⟩
  | .hbm, ⟨1, _⟩ => ⟨S4x4x1024x640, .f32⟩
  | .local _ .vmem, ⟨0, _⟩ => ⟨S1x1x512x512, .bf16⟩
  | .local _ .vmem, ⟨1, _⟩ => ⟨S1x1x512x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1x1x512x512, .bf16⟩
  | .local _ .vmem, ⟨5, _⟩ => ⟨S1x1x512x512, .bf16⟩
  | .local _ .vmem, ⟨6, _⟩ => ⟨S1x1x128x512, .bf16⟩
  | .local _ .vmem, ⟨7, _⟩ => ⟨S1x1x128x512, .bf16⟩
  | .local _ .vmem, ⟨8, _⟩ => ⟨S1x1x512x512, .bf16⟩
  | .local _ .vmem, ⟨9, _⟩ => ⟨S1x1x512x512, .bf16⟩
  | .local _ .vmem, ⟨10, _⟩ => ⟨S1x1x512x640, .f32⟩
  | .local _ .vmem, ⟨11, _⟩ => ⟨S1x1x512x640, .f32⟩
  | _, _ => ⟨S4x4x1024x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRef1Ideal.lean ====
abbrev S4x4x1024x1536 : Shape := ⟨4, ![4, 4, 1024, 1536]⟩
abbrev S_ : Shape := ⟨0, ![]⟩
abbrev S1 : Shape := ⟨1, ![1]⟩
abbrev S4 : Shape := ⟨1, ![4]⟩
abbrev S4x4x1024x512 : Shape := ⟨4, ![4, 4, 1024, 512]⟩
abbrev S4x4x1024x4x128 : Shape := ⟨5, ![4, 4, 1024, 4, 128]⟩
abbrev S4x4x4x1024x128 : Shape := ⟨5, ![4, 4, 4, 1024, 128]⟩
abbrev S4x4x4x8x128x128 : Shape := ⟨6, ![4, 4, 4, 8, 128, 128]⟩
abbrev S4x4x4x7x128x128 : Shape := ⟨6, ![4, 4, 4, 7, 128, 128]⟩
abbrev S4x4x4x8x256x128 : Shape := ⟨6, ![4, 4, 4, 8, 256, 128]⟩
abbrev S4x4x4x8x128x256 : Shape := ⟨6, ![4, 4, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x4x1x1x1x1 : Shape := ⟨6, ![1, 4, 1, 1, 1, 1]⟩
abbrev S1x1x1x1x128x256 : Shape := ⟨6, ![1, 1, 1, 1, 128, 256]⟩
abbrev S1x4x1x1x128x256 : Shape := ⟨6, ![1, 4, 1, 1, 128, 256]⟩
abbrev S4x4x4x8x128 : Shape := ⟨5, ![4, 4, 4, 8, 128]⟩
abbrev S4x4x4x8x128x1 : Shape := ⟨6, ![4, 4, 4, 8, 128, 1]⟩
abbrev S4x4x4x1024 : Shape := ⟨4, ![4, 4, 4, 1024]⟩
abbrev S4x4x1024x4 : Shape := ⟨4, ![4, 4, 1024, 4]⟩
abbrev S4x4x1024x4x32 : Shape := ⟨5, ![4, 4, 1024, 4, 32]⟩
abbrev S4x4x1024x128 : Shape := ⟨4, ![4, 4, 1024, 128]⟩
abbrev S4x4x1024x640 : Shape := ⟨4, ![4, 4, 1024, 640]⟩

abbrev nBuf : Space → Nat
  | .hbm => 112
  | .vmem => 0
  | .smem => 0
  | _ => 0

abbrev bufTy : (tb : Table) → Fin (tcTables nBuf tb) → BufTy
  | .hbm, ⟨0, _⟩ => ⟨S4x4x1024x1536, .bf16⟩
  | .hbm, ⟨1, _⟩ => ⟨S_, .f32⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S4, .f32⟩
  | .hbm, ⟨10, _⟩ => ⟨S4x4x1024x1536, .f32⟩
  | .hbm, ⟨11, _⟩ => ⟨S4x4x1024x512, .f32⟩
  | .hbm, ⟨12, _⟩ => ⟨S4x4x1024x512, .f32⟩
  | .hbm, ⟨13, _⟩ => ⟨S4x4x1024x512, .f32⟩
  | .hbm, ⟨14, _⟩ => ⟨S4x4x1024x4x128, .f32⟩
  | .hbm, ⟨15, _⟩ => ⟨S4x4x4x1024x128, .f32⟩
  | .hbm, ⟨16, _⟩ => ⟨S4x4x4x8x128x128, .f32⟩
  | .hbm, ⟨17, _⟩ => ⟨S4x4x1024x4x128, .f32⟩
  | .hbm, ⟨18, _⟩ => ⟨S4x4x4x1024x128, .f32⟩
  | .hbm, ⟨19, _⟩ => ⟨S4x4x4x8x128x128, .f32⟩
  | .hbm, ⟨20, _⟩ => ⟨S4x4x1024x4x128, .f32⟩
  | .hbm, ⟨21, _⟩ => ⟨S4x4x4x1024x128, .f32⟩
  | .hbm, ⟨22, _⟩ => ⟨S4x4x4x8x128x128, .f32⟩
  | .hbm, ⟨23, _⟩ => ⟨S4x4x4x7x128x128, .f32⟩
  | .hbm, ⟨24, _⟩ => ⟨S_, .i32⟩
  | .hbm, ⟨25, _⟩ => ⟨S_, .f32⟩
  | .hbm, ⟨26, _⟩ => ⟨S4x4x4x8x128x128, .f32⟩
  | .hbm, ⟨27, _⟩ => ⟨S4x4x4x8x256x128, .f32⟩
  | .hbm, ⟨28, _⟩ => ⟨S4x4x4x7x128x128, .f32⟩
  | .hbm, ⟨29, _⟩ => ⟨S_, .i32⟩
  | .hbm, ⟨30, _⟩ => ⟨S_, .f32⟩
  | .hbm, ⟨31, _⟩ => ⟨S4x4x4x8x128x128, .f32⟩
  | .hbm, ⟨32, _⟩ => ⟨S4x4x4x8x256x128, .f32⟩
  | .hbm, ⟨33, _⟩ => ⟨S4x4x4x8x128x256, .f32⟩
  | .hbm, ⟨34, _⟩ => ⟨S_, .f32⟩
  | .hbm, ⟨35, _⟩ => ⟨S4x4x4x8x128x256, .f32⟩
  | .hbm, ⟨36, _⟩ => ⟨S4x4x4x8x128x256, .f32⟩
  | .hbm, ⟨37, _⟩ => ⟨S128, .i32⟩
  | .hbm, ⟨38, _⟩ => ⟨S128x1, .i32⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S8, .i32⟩
  | .hbm, ⟨48, _⟩ => ⟨S8x1x1, .i32⟩
  | .hbm, ⟨49, _⟩ => ⟨S_, .i32⟩
  | .hbm, ⟨50, _⟩ => ⟨S8x1x1, .i32⟩
  | .hbm, ⟨51, _⟩ => ⟨S8x1x1, .i32⟩
  | .hbm, ⟨52, _⟩ => ⟨S1x1x256, .i32⟩
  | .hbm, ⟨53, _⟩ => ⟨S8x1x256, .i32⟩
  | .hbm, ⟨54, _⟩ => ⟨S8x1x256, .i32⟩
  | .hbm, ⟨55, _⟩ => ⟨S8x1x256, .i32⟩
  | .hbm, ⟨56, _⟩ => ⟨S_, .i32⟩
  | .hbm, ⟨57, _⟩ => ⟨S8x1x256, .i32⟩
  | .hbm, ⟨58, _⟩ => ⟨S8x1x256, .i32⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S_, .i32⟩
  | .hbm, ⟨63, _⟩ => ⟨S128x256, .i32⟩
  | .hbm, ⟨64, _⟩ => ⟨S128x256, .i1⟩
  | .hbm, ⟨65, _⟩ => ⟨S128x256, .i1⟩
  | .hbm, ⟨66, _⟩ => ⟨S_, .i32⟩
  | .hbm, ⟨67, _⟩ => ⟨S8x1x256, .i32⟩
  | .hbm, ⟨68, _⟩ => ⟨S8x1x256, .i1⟩
  | .hbm, ⟨69, _⟩ => ⟨S1x128x256, .i1⟩
  | .hbm, ⟨70, _⟩ => ⟨S8x128x256, .i1⟩
  | .hbm, ⟨71, _⟩ => ⟨S8x128x256, .i1⟩
  | .hbm, ⟨72, _⟩ => ⟨S8x128x256, .i1⟩
  | .hbm, ⟨73, _⟩ => ⟨S_, .i32⟩
  | .hbm, ⟨74, _⟩ => ⟨S128x256, .i32⟩
  | .hbm, ⟨75, _⟩ => ⟨S128x256, .i32⟩
  | .hbm, ⟨76, _⟩ => ⟨S128x256, .f32⟩
  | .hbm, ⟨77, _⟩ => ⟨S1x4x1x1x1x1, .f32⟩
  | .hbm, ⟨78, _⟩ => ⟨S1x1x1x1x128x256, .f32⟩
  | .hbm, ⟨79, _⟩ => ⟨S1x4x1x1x128x256, .f32⟩
  | .hbm, ⟨80, _⟩ => ⟨S1x4x1x1x128x256, .f32⟩
  | .hbm, ⟨81, _⟩ => ⟨S1x4x1x1x128x256, .f32⟩
  | .hbm, ⟨82, _⟩ => ⟨S4x4x4x8x128x256, .f32⟩
  | .hbm, ⟨83, _⟩ => ⟨S4x4x4x8x128x256, .f32⟩
  | .hbm, ⟨84, _⟩ => ⟨S_, .f32⟩
  | .hbm, ⟨85, _⟩ => ⟨S_, .f32⟩
  | .hbm, ⟨86, _⟩ => ⟨S4x4x4x8x128x256, .i1⟩
  | .hbm, ⟨87, _⟩ => ⟨S4x4x4x8x128x256, .f32⟩
  | .hbm, ⟨88, _⟩ => ⟨S4x4x4x8x128x256, .f32⟩
  | .hbm, ⟨89, _⟩ => ⟨S_, .f32⟩
  | .hbm, ⟨90, _⟩ => ⟨S4x4x4x8x128, .f32⟩
  | .hbm, ⟨91, _⟩ => ⟨S4x4x4x8x128x1, .f32⟩
  | .hbm, ⟨92, _⟩ => ⟨S4x4x4x8x128x256, .f32⟩
  | .hbm, ⟨93, _⟩ => ⟨S4x4x4x8x128x256, .f32⟩
  | .hbm, ⟨94, _⟩ => ⟨S4x4x4x8x128x256, .f32⟩
  | .hbm, ⟨95, _⟩ => ⟨S_, .f32⟩
  | .hbm, ⟨96, _⟩ => ⟨S4x4x4x8x128, .f32⟩
  | .hbm, ⟨97, _⟩ => ⟨S4x4x4x8x128, .f32⟩
  | .hbm, ⟨98, _⟩ => ⟨S4x4x4x8x128, .f32⟩
  | .hbm, ⟨99, _⟩ => ⟨S4x4x4x8x128x1, .f32⟩
  | .hbm, ⟨100, _⟩ => ⟨S4x4x4x8x128x256, .f32⟩
  | .hbm, ⟨101, _⟩ => ⟨S4x4x4x8x128x256, .f32⟩
  | .hbm, ⟨102, _⟩ => ⟨S4x4x4x8x128x256, .f32⟩
  | .hbm, ⟨103, _⟩ => ⟨S4x4x4x8x128x128, .f32⟩
  | .hbm, ⟨104, _⟩ => ⟨S4x4x4x1024x128, .f32⟩
  | .hbm, ⟨105, _⟩ => ⟨S4x4x1024x4x128, .f32⟩
  | .hbm, ⟨106, _⟩ => ⟨S4x4x1024x512, .f32⟩
  | .hbm, ⟨107, _⟩ => ⟨S4x4x4x1024, .f32⟩
  | .hbm, ⟨108, _⟩ => ⟨S4x4x1024x4, .f32⟩
  | .hbm, ⟨109, _⟩ => ⟨S4x4x1024x4x32, .f32⟩
  | .hbm, ⟨110, _⟩ => ⟨S4x4x1024x128, .f32⟩
  | .hbm, ⟨111, _⟩ => ⟨S4x4x1024x640, .f32⟩
  | _, _ => ⟨S4x4x1024x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_call1_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Attn2.lean ====
abbrev S4x16x256x1536 : Shape := ⟨4, ![4, 16, 256, 1536]⟩
abbrev S4x16x256x640 : Shape := ⟨4, ![4, 16, 256, 640]⟩
abbrev S1x1x256x512 : Shape := ⟨4, ![1, 1, 256, 512]⟩
abbrev S1x1x128x512 : Shape := ⟨4, ![1, 1, 128, 512]⟩
abbrev S1x1x256x640 : Shape := ⟨4, ![1, 1, 256, 640]⟩
abbrev S128x128 : Shape := ⟨2, ![128, 128]⟩
abbrev S1x1x128x128 : Shape := ⟨4, ![1, 1, 128, 128]⟩
abbrev S128 : Shape := ⟨1, ![128]⟩
abbrev S128x1 : Shape := ⟨2, ![128, 1]⟩
abbrev S128x256 : Shape := ⟨2, ![128, 256]⟩

abbrev nBuf : Space → Nat
  | .hbm => 2
  | .vmem => 12
  | .smem => 0
  | _ => 0

abbrev bufTy : (tb : Table) → Fin (tcTables nBuf tb) → BufTy
  | .hbm, ⟨0, _⟩ => ⟨S4x16x256x1536, .bf16⟩
  | .hbm, ⟨1, _⟩ => ⟨S4x16x256x640, .f32⟩
  | .local _ .vmem, ⟨0, _⟩ => ⟨S1x1x256x512, .bf16⟩
  | .local _ .vmem, ⟨1, _⟩ => ⟨S1x1x256x512, .bf16⟩
  | .local _ .vmem, ⟨2, _⟩ => ⟨S1x1x128x512, .bf16⟩
  | .local _ .vmem, ⟨3, _⟩ => ⟨S1x1x128x512, .bf16⟩
  | .local _ .vmem, ⟨4, _⟩ => ⟨S1x1x256x512, .bf16⟩
  | .local _ .vmem, ⟨5, _⟩ => ⟨S1x1x256x512, .bf16⟩
  | .local _ .vmem, ⟨6, _⟩ => ⟨S1x1x128x512, .bf16⟩
  | .local _ .vmem, ⟨7, _⟩ => ⟨S1x1x128x512, .bf16⟩
  | .local _ .vmem, ⟨8, _⟩ => ⟨S1x1x256x512, .bf16⟩
  | .local _ .vmem, ⟨9, _⟩ => ⟨S1x1x256x512, .bf16⟩
  | .local _ .vmem, ⟨10, _⟩ => ⟨S1x1x256x640, .f32⟩
  | .local _ .vmem, ⟨11, _⟩ => ⟨S1x1x256x640, .f32⟩
  | _, _ => ⟨S4x16x256x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 16, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg2 c2_i32
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![arg0.toNat, arg1.toNat, v2.toNat, c2_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRef2Ideal.lean ====
abbrev S4x16x256x1536 : Shape := ⟨4, ![4, 16, 256, 1536]⟩
abbrev S_ : Shape := ⟨0, ![]⟩
abbrev S1 : Shape := ⟨1, ![1]⟩
abbrev S4 : Shape := ⟨1, ![4]⟩
abbrev S4x16x256x512 : Shape := ⟨4, ![4, 16, 256, 512]⟩
abbrev S4x16x256x4x128 : Shape := ⟨5, ![4, 16, 256, 4, 128]⟩
abbrev S4x4x16x256x128 : Shape := ⟨5, ![4, 4, 16, 256, 128]⟩
abbrev S4x4x16x2x128x128 : Shape := ⟨6, ![4, 4, 16, 2, 128, 128]⟩
abbrev S4x4x16x1x128x128 : Shape := ⟨6, ![4, 4, 16, 1, 128, 128]⟩
abbrev S4x4x16x2x256x128 : Shape := ⟨6, ![4, 4, 16, 2, 256, 128]⟩
abbrev S4x4x16x2x128x256 : Shape := ⟨6, ![4, 4, 16, 2, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S2 : Shape := ⟨1, ![2]⟩
abbrev S2x1x1 : Shape := ⟨3, ![2, 1, 1]⟩
abbrev S1x1x256 : Shape := ⟨3, ![1, 1, 256]⟩
abbrev S2x1x256 : Shape := ⟨3, ![2, 1, 256]⟩
abbrev S1x128x256 : Shape := ⟨3, ![1, 128, 256]⟩
abbrev S2x128x256 : Shape := ⟨3, ![2, 128, 256]⟩
abbrev S1x4x1x1x1x1 : Shape := ⟨6, ![1, 4, 1, 1, 1, 1]⟩
abbrev S1x1x1x1x128x256 : Shape := ⟨6, ![1, 1, 1, 1, 128, 256]⟩
abbrev S1x4x1x1x128x256 : Shape := ⟨6, ![1, 4, 1, 1, 128, 256]⟩
abbrev S4x4x16x2x128 : Shape := ⟨5, ![4, 4, 16, 2, 128]⟩
abbrev S4x4x16x2x128x1 : Shape := ⟨6, ![4, 4, 16, 2, 128, 1]⟩
abbrev S4x4x16x256 : Shape := ⟨4, ![4, 4, 16, 256]⟩
abbrev S4x16x256x4 : Shape := ⟨4, ![4, 16, 256, 4]⟩
abbrev S4x16x256x4x32 : Shape := ⟨5, ![4, 16, 256, 4, 32]⟩
abbrev S4x16x256x128 : Shape := ⟨4, ![4, 16, 256, 128]⟩
abbrev S4x16x256x640 : Shape := ⟨4, ![4, 16, 256, 640]⟩

abbrev nBuf : Space → Nat
  | .hbm => 112
  | .vmem => 0
  | .smem => 0
  | _ => 0

abbrev bufTy : (tb : Table) → Fin (tcTables nBuf tb) → BufTy
  | .hbm, ⟨0, _⟩ => ⟨S4x16x256x1536, .bf16⟩
  | .hbm, ⟨1, _⟩ => ⟨S_, .f32⟩
  | .hbm, ⟨2, _⟩ => ⟨S1, .f32⟩
  | .hbm, ⟨3, _⟩ => ⟨S_, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S_, .f32⟩
  | .hbm, ⟨8, _⟩ => ⟨S1, .f32⟩
  | .hbm, ⟨9, _⟩ => ⟨S4, .f32⟩
  | .hbm, ⟨10, _⟩ => ⟨S4x16x256x1536, .f32⟩
  | .hbm, ⟨11, _⟩ => ⟨S4x16x256x512, .f32⟩
  | .hbm, ⟨12, _⟩ => ⟨S4x16x256x512, .f32⟩
  | .hbm, ⟨13, _⟩ => ⟨S4x16x256x512, .f32⟩
  | .hbm, ⟨14, _⟩ => ⟨S4x16x256x4x128, .f32⟩
  | .hbm, ⟨15, _⟩ => ⟨S4x4x16x256x128, .f32⟩
  | .hbm, ⟨16, _⟩ => ⟨S4x4x16x2x128x128, .f32⟩
  | .hbm, ⟨17, _⟩ => ⟨S4x16x256x4x128, .f32⟩
  | .hbm, ⟨18, _⟩ => ⟨S4x4x16x256x128, .f32⟩
  | .hbm, ⟨19, _⟩ => ⟨S4x4x16x2x128x128, .f32⟩
  | .hbm, ⟨20, _⟩ => ⟨S4x16x256x4x128, .f32⟩
  | .hbm, ⟨21, _⟩ => ⟨S4x4x16x256x128, .f32⟩
  | .hbm, ⟨22, _⟩ => ⟨S4x4x16x2x128x128, .f32⟩
  | .hbm, ⟨23, _⟩ => ⟨S4x4x16x1x128x128, .f32⟩
  | .hbm, ⟨24, _⟩ => ⟨S_, .i32⟩
  | .hbm, ⟨25, _⟩ => ⟨S_, .f32⟩
  | .hbm, ⟨26, _⟩ => ⟨S4x4x16x2x128x128, .f32⟩
  | .hbm, ⟨27, _⟩ => ⟨S4x4x16x2x256x128, .f32⟩
  | .hbm, ⟨28, _⟩ => ⟨S4x4x16x1x128x128, .f32⟩
  | .hbm, ⟨29, _⟩ => ⟨S_, .i32⟩
  | .hbm, ⟨30, _⟩ => ⟨S_, .f32⟩
  | .hbm, ⟨31, _⟩ => ⟨S4x4x16x2x128x128, .f32⟩
  | .hbm, ⟨32, _⟩ => ⟨S4x4x16x2x256x128, .f32⟩
  | .hbm, ⟨33, _⟩ => ⟨S4x4x16x2x128x256, .f32⟩
  | .hbm, ⟨34, _⟩ => ⟨S_, .f32⟩
  | .hbm, ⟨35, _⟩ => ⟨S4x4x16x2x128x256, .f32⟩
  | .hbm, ⟨36, _⟩ => ⟨S4x4x16x2x128x256, .f32⟩
  | .hbm, ⟨37, _⟩ => ⟨S128, .i32⟩
  | .hbm, ⟨38, _⟩ => ⟨S128x1, .i32⟩
  | .hbm, ⟨39, _⟩ => ⟨S256, .i32⟩
  | .hbm, ⟨40, _⟩ => ⟨S1x256, .i32⟩
  | .hbm, ⟨41, _⟩ => ⟨S_, .i32⟩
  | .hbm, ⟨42, _⟩ => ⟨S128x1, .i32⟩
  | .hbm, ⟨43, _⟩ => ⟨S128x1, .i32⟩
  | .hbm, ⟨44, _⟩ => ⟨S128x256, .i32⟩
  | .hbm, ⟨45, _⟩ => ⟨S128x256, .i32⟩
  | .hbm, ⟨46, _⟩ => ⟨S128x256, .i32⟩
  | .hbm, ⟨47, _⟩ => ⟨S2, .i32⟩
  | .hbm, ⟨48, _⟩ => ⟨S2x1x1, .i32⟩
  | .hbm, ⟨49, _⟩ => ⟨S_, .i32⟩
  | .hbm, ⟨50, _⟩ => ⟨S2x1x1, .i32⟩
  | .hbm, ⟨51, _⟩ => ⟨S2x1x1, .i32⟩
  | .hbm, ⟨52, _⟩ => ⟨S1x1x256, .i32⟩
  | .hbm, ⟨53, _⟩ => ⟨S2x1x256, .i32⟩
  | .hbm, ⟨54, _⟩ => ⟨S2x1x256, .i32⟩
  | .hbm, ⟨55, _⟩ => ⟨S2x1x256, .i32⟩
  | .hbm, ⟨56, _⟩ => ⟨S_, .i32⟩
  | .hbm, ⟨57, _⟩ => ⟨S2x1x256, .i32⟩
  | .hbm, ⟨58, _⟩ => ⟨S2x1x256, .i32⟩
  | .hbm, ⟨59, _⟩ => ⟨S_, .i32⟩
  | .hbm, ⟨60, _⟩ => ⟨S128x256, .i32⟩
  | .hbm, ⟨61, _⟩ => ⟨S128x256, .i1⟩
  | .hbm, ⟨62, _⟩ => ⟨S_, .i32⟩
  | .hbm, ⟨63, _⟩ => ⟨S128x256, .i32⟩
  | .hbm, ⟨64, _⟩ => ⟨S128x256, .i1⟩
  | .hbm, ⟨65, _⟩ => ⟨S128x256, .i1⟩
  | .hbm, ⟨66, _⟩ => ⟨S_, .i32⟩
  | .hbm, ⟨67, _⟩ => ⟨S2x1x256, .i32⟩
  | .hbm, ⟨68, _⟩ => ⟨S2x1x256, .i1⟩
  | .hbm, ⟨69, _⟩ => ⟨S1x128x256, .i1⟩
  | .hbm, ⟨70, _⟩ => ⟨S2x128x256, .i1⟩
  | .hbm, ⟨71, _⟩ => ⟨S2x128x256, .i1⟩
  | .hbm, ⟨72, _⟩ => ⟨S2x128x256, .i1⟩
  | .hbm, ⟨73, _⟩ => ⟨S_, .i32⟩
  | .hbm, ⟨74, _⟩ => ⟨S128x256, .i32⟩
  | .hbm, ⟨75, _⟩ => ⟨S128x256, .i32⟩
  | .hbm, ⟨76, _⟩ => ⟨S128x256, .f32⟩
  | .hbm, ⟨77, _⟩ => ⟨S1x4x1x1x1x1, .f32⟩
  | .hbm, ⟨78, _⟩ => ⟨S1x1x1x1x128x256, .f32⟩
  | .hbm, ⟨79, _⟩ => ⟨S1x4x1x1x128x256, .f32⟩
  | .hbm, ⟨80, _⟩ => ⟨S1x4x1x1x128x256, .f32⟩
  | .hbm, ⟨81, _⟩ => ⟨S1x4x1x1x128x256, .f32⟩
  | .hbm, ⟨82, _⟩ => ⟨S4x4x16x2x128x256, .f32⟩
  | .hbm, ⟨83, _⟩ => ⟨S4x4x16x2x128x256, .f32⟩
  | .hbm, ⟨84, _⟩ => ⟨S_, .f32⟩
  | .hbm, ⟨85, _⟩ => ⟨S_, .f32⟩
  | .hbm, ⟨86, _⟩ => ⟨S4x4x16x2x128x256, .i1⟩
  | .hbm, ⟨87, _⟩ => ⟨S4x4x16x2x128x256, .f32⟩
  | .hbm, ⟨88, _⟩ => ⟨S4x4x16x2x128x256, .f32⟩
  | .hbm, ⟨89, _⟩ => ⟨S_, .f32⟩
  | .hbm, ⟨90, _⟩ => ⟨S4x4x16x2x128, .f32⟩
  | .hbm, ⟨91, _⟩ => ⟨S4x4x16x2x128x1, .f32⟩
  | .hbm, ⟨92, _⟩ => ⟨S4x4x16x2x128x256, .f32⟩
  | .hbm, ⟨93, _⟩ => ⟨S4x4x16x2x128x256, .f32⟩
  | .hbm, ⟨94, _⟩ => ⟨S4x4x16x2x128x256, .f32⟩
  | .hbm, ⟨95, _⟩ => ⟨S_, .f32⟩
  | .hbm, ⟨96, _⟩ => ⟨S4x4x16x2x128, .f32⟩
  | .hbm, ⟨97, _⟩ => ⟨S4x4x16x2x128, .f32⟩
  | .hbm, ⟨98, _⟩ => ⟨S4x4x16x2x128, .f32⟩
  | .hbm, ⟨99, _⟩ => ⟨S4x4x16x2x128x1, .f32⟩
  | .hbm, ⟨100, _⟩ => ⟨S4x4x16x2x128x256, .f32⟩
  | .hbm, ⟨101, _⟩ => ⟨S4x4x16x2x128x256, .f32⟩
  | .hbm, ⟨102, _⟩ => ⟨S4x4x16x2x128x256, .f32⟩
  | .hbm, ⟨103, _⟩ => ⟨S4x4x16x2x128x128, .f32⟩
  | .hbm, ⟨104, _⟩ => ⟨S4x4x16x256x128, .f32⟩
  | .hbm, ⟨105, _⟩ => ⟨S4x16x256x4x128, .f32⟩
  | .hbm, ⟨106, _⟩ => ⟨S4x16x256x512, .f32⟩
  | .hbm, ⟨107, _⟩ => ⟨S4x4x16x256, .f32⟩
  | .hbm, ⟨108, _⟩ => ⟨S4x16x256x4, .f32⟩
  | .hbm, ⟨109, _⟩ => ⟨S4x16x256x4x32, .f32⟩
  | .hbm, ⟨110, _⟩ => ⟨S4x16x256x128, .f32⟩
  | .hbm, ⟨111, _⟩ => ⟨S4x16x256x640, .f32⟩
  | _, _ => ⟨S4x16x256x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_cst_1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_c : Ref sig .tc := ⟨.hbm, 24, rfl⟩
abbrev main_call0_v0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_3 : Ref sig .tc := ⟨.hbm, 29, rfl⟩
abbrev main_call1_v0 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_c_7 : Ref sig .tc := ⟨.hbm, 56, rfl⟩
abbrev main_v44 : Ref sig .tc := ⟨.hbm, 57, rfl⟩
abbrev main_v45 : Ref sig .tc := ⟨.hbm, 58, rfl⟩
abbrev main_c_8 : Ref sig .tc := ⟨.hbm, 59, rfl⟩
abbrev main_v46 : Ref sig .tc := ⟨.hbm, 60, rfl⟩
abbrev main_v47 : Ref sig .tc := ⟨.hbm, 61, rfl⟩
abbrev main_c_9 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_c_10 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_c_11 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_14 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩

abbrev nD : Nat := 1
abbrev τ : Topo := Topo.v7x

variable {F : FTy → Type} [FloatOps F]
-- ==== Proj.lean ====
abbrev S4x4096x2048 : Shape := ⟨3, ![4, 4096, 2048]⟩
abbrev S2048 : Shape := ⟨1, ![2048]⟩
abbrev S4x2048 : Shape := ⟨2, ![4, 2048]⟩
abbrev S2048x12800 : Shape := ⟨2, ![2048, 12800]⟩
abbrev S16384x2048 : Shape := ⟨2, ![16384, 2048]⟩
abbrev S4x1x2048 : Shape := ⟨3, ![4, 1, 2048]⟩
abbrev S2048x8192 : Shape := ⟨2, ![2048, 8192]⟩
abbrev S1x2048 : Shape := ⟨2, ![1, 2048]⟩
abbrev S16384x8192 : Shape := ⟨2, ![16384, 8192]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x12800, .f32⟩
  | .hbm, ⟨5, _⟩ => ⟨S16384x2048, .f32⟩
  | .hbm, ⟨6, _⟩ => ⟨S4x1x2048, .f32⟩
  | .hbm, ⟨7, _⟩ => ⟨S4x1x2048, .f32⟩
  | .hbm, ⟨8, _⟩ => ⟨S2048x8192, .f32⟩
  | .hbm, ⟨9, _⟩ => ⟨S2048x8192, .bf16⟩
  | .hbm, ⟨10, _⟩ => ⟨S1x2048, .f32⟩
  | .hbm, ⟨11, _⟩ => ⟨S16384x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRefIdeal.lean ====
abbrev S4x4096x2048 : Shape := ⟨3, ![4, 4096, 2048]⟩
abbrev S2048 : Shape := ⟨1, ![2048]⟩
abbrev S4x2048 : Shape := ⟨2, ![4, 2048]⟩
abbrev S2048x12800 : Shape := ⟨2, ![2048, 12800]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x12800 : Shape := ⟨3, ![4, 4096, 12800]⟩
abbrev S4x4096x8192 : Shape := ⟨3, ![4, 4096, 8192]⟩
abbrev S16384x8192 : Shape := ⟨2, ![16384, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x12800, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x12800, .f32⟩
  | .hbm, ⟨31, _⟩ => ⟨S4x4096x8192, .f32⟩
  | .hbm, ⟨32, _⟩ => ⟨S16384x8192, .f32⟩
  | .hbm, ⟨33, _⟩ => ⟨S16384x8192, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proj0.lean ====
abbrev S4x4096x2048 : Shape := ⟨3, ![4, 4096, 2048]⟩
abbrev S2048 : Shape := ⟨1, ![2048]⟩
abbrev S4x2048 : Shape := ⟨2, ![4, 2048]⟩
abbrev S2048x12800 : Shape := ⟨2, ![2048, 12800]⟩
abbrev S2048x512 : Shape := ⟨2, ![2048, 512]⟩
abbrev S2048x1536 : Shape := ⟨2, ![2048, 1536]⟩
abbrev S16384x2048 : Shape := ⟨2, ![16384, 2048]⟩
abbrev S4x1x2048 : Shape := ⟨3, ![4, 1, 2048]⟩
abbrev S1x2048 : Shape := ⟨2, ![1, 2048]⟩
abbrev S16384x1536 : Shape := ⟨2, ![16384, 1536]⟩
abbrev S512x2048 : Shape := ⟨2, ![512, 2048]⟩
abbrev S1x1x2048 : Shape := ⟨3, ![1, 1, 2048]⟩
abbrev S512x1536 : Shape := ⟨2, ![512, 1536]⟩
abbrev S512 : Shape := ⟨1, ![512]⟩
abbrev S512x1 : Shape := ⟨2, ![512, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x12800, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x1536, .f32⟩
  | .hbm, ⟨9, _⟩ => ⟨S2048x1536, .bf16⟩
  | .hbm, ⟨10, _⟩ => ⟨S16384x2048, .f32⟩
  | .hbm, ⟨11, _⟩ => ⟨S4x1x2048, .f32⟩
  | .hbm, ⟨12, _⟩ => ⟨S4x1x2048, .f32⟩
  | .hbm, ⟨13, _⟩ => ⟨S1x2048, .f32⟩
  | .hbm, ⟨14, _⟩ => ⟨S16384x1536, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1536, .bf16⟩
  | .local _ .vmem, ⟨8, _⟩ => ⟨S512x1536, .bf16⟩
  | .local _ .vmem, ⟨9, _⟩ => ⟨S512x1536, .bf16⟩
  | .local _ .vmem, ⟨10, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRef0Ideal.lean ====
abbrev S4x4096x2048 : Shape := ⟨3, ![4, 4096, 2048]⟩
abbrev S2048 : Shape := ⟨1, ![2048]⟩
abbrev S4x2048 : Shape := ⟨2, ![4, 2048]⟩
abbrev S2048x12800 : Shape := ⟨2, ![2048, 12800]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x12800 : Shape := ⟨3, ![4, 4096, 12800]⟩
abbrev S4x4096x4608 : Shape := ⟨3, ![4, 4096, 4608]⟩
abbrev S4x4096x1536 : Shape := ⟨3, ![4, 4096, 1536]⟩
abbrev S4x4096x512 : Shape := ⟨3, ![4, 4096, 512]⟩
abbrev S4x4096x1x1536 : Shape := ⟨4, ![4, 4096, 1, 1536]⟩
abbrev S4x1x4096x1536 : Shape := ⟨4, ![4, 1, 4096, 1536]⟩
abbrev S16384x1536 : Shape := ⟨2, ![16384, 1536]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x12800, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x12800, .f32⟩
  | .hbm, ⟨31, _⟩ => ⟨S4x4096x4608, .f32⟩
  | .hbm, ⟨32, _⟩ => ⟨S4x4096x1536, .f32⟩
  | .hbm, ⟨33, _⟩ => ⟨S4x4096x1536, .f32⟩
  | .hbm, ⟨34, _⟩ => ⟨S4x4096x1536, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S4x4096x1536, .f32⟩
  | .hbm, ⟨39, _⟩ => ⟨S4x4096x1x1536, .f32⟩
  | .hbm, ⟨40, _⟩ => ⟨S4x1x4096x1536, .f32⟩
  | .hbm, ⟨41, _⟩ => ⟨S4x1x4096x1536, .bf16⟩
  | .hbm, ⟨42, _⟩ => ⟨S16384x1536, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩

abbrev nD : Nat := 1
abbrev τ : Topo := Topo.v7x

variable {F : FTy → Type} [FloatOps F]
-- ==== Proj1.lean ====
abbrev S4x4096x2048 : Shape := ⟨3, ![4, 4096, 2048]⟩
abbrev S2048 : Shape := ⟨1, ![2048]⟩
abbrev S4x2048 : Shape := ⟨2, ![4, 2048]⟩
abbrev S2048x12800 : Shape := ⟨2, ![2048, 12800]⟩
abbrev S2048x512 : Shape := ⟨2, ![2048, 512]⟩
abbrev S2048x1536 : Shape := ⟨2, ![2048, 1536]⟩
abbrev S16384x2048 : Shape := ⟨2, ![16384, 2048]⟩
abbrev S4x1x2048 : Shape := ⟨3, ![4, 1, 2048]⟩
abbrev S1x2048 : Shape := ⟨2, ![1, 2048]⟩
abbrev S4x4x1024x1536 : Shape := ⟨4, ![4, 4, 1024, 1536]⟩
abbrev S512x2048 : Shape := ⟨2, ![512, 2048]⟩
abbrev S1x1x2048 : Shape := ⟨3, ![1, 1, 2048]⟩
abbrev S1x4x128x1536 : Shape := ⟨4, ![1, 4, 128, 1536]⟩
abbrev S12x512x128 : Shape := ⟨3, ![12, 512, 128]⟩
abbrev S12x4x128x128 : Shape := ⟨4, ![12, 4, 128, 128]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩

abbrev nBuf : Space → Nat
  | .hbm => 15
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x12800, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x1536, .f32⟩
  | .hbm, ⟨9, _⟩ => ⟨S2048x1536, .bf16⟩
  | .hbm, ⟨10, _⟩ => ⟨S16384x2048, .f32⟩
  | .hbm, ⟨11, _⟩ => ⟨S4x1x2048, .f32⟩
  | .hbm, ⟨12, _⟩ => ⟨S4x1x2048, .f32⟩
  | .hbm, ⟨13, _⟩ => ⟨S1x2048, .f32⟩
  | .hbm, ⟨14, _⟩ => ⟨S4x4x1024x1536, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1536, .bf16⟩
  | .local _ .vmem, ⟨8, _⟩ => ⟨S1x4x128x1536, .bf16⟩
  | .local _ .vmem, ⟨9, _⟩ => ⟨S1x4x128x1536, .bf16⟩
  | .local _ .vmem, ⟨10, _⟩ => ⟨S512x2048, .bf16⟩
  | .local _ .vmem, ⟨11, _⟩ => ⟨S12x512x128, .f32⟩
  | .local _ .vmem, ⟨12, _⟩ => ⟨S12x4x128x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x4x128x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRef1Ideal.lean ====
abbrev S4x4096x2048 : Shape := ⟨3, ![4, 4096, 2048]⟩
abbrev S2048 : Shape := ⟨1, ![2048]⟩
abbrev S4x2048 : Shape := ⟨2, ![4, 2048]⟩
abbrev S2048x12800 : Shape := ⟨2, ![2048, 12800]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x12800 : Shape := ⟨3, ![4, 4096, 12800]⟩
abbrev S4x4096x4608 : Shape := ⟨3, ![4, 4096, 4608]⟩
abbrev S4x4096x1536 : Shape := ⟨3, ![4, 4096, 1536]⟩
abbrev S4x4096x512 : Shape := ⟨3, ![4, 4096, 512]⟩
abbrev S4x1024x4x1536 : Shape := ⟨4, ![4, 1024, 4, 1536]⟩
abbrev S4x4x1024x1536 : Shape := ⟨4, ![4, 4, 1024, 1536]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x12800, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x12800, .f32⟩
  | .hbm, ⟨31, _⟩ => ⟨S4x4096x4608, .f32⟩
  | .hbm, ⟨32, _⟩ => ⟨S4x4096x1536, .f32⟩
  | .hbm, ⟨33, _⟩ => ⟨S4x4096x1536, .f32⟩
  | .hbm, ⟨34, _⟩ => ⟨S4x4096x1536, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S4x4096x1536, .f32⟩
  | .hbm, ⟨39, _⟩ => ⟨S4x1024x4x1536, .f32⟩
  | .hbm, ⟨40, _⟩ => ⟨S4x4x1024x1536, .f32⟩
  | .hbm, ⟨41, _⟩ => ⟨S4x4x1024x1536, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Proj2.lean ====
abbrev S4x4096x2048 : Shape := ⟨3, ![4, 4096, 2048]⟩
abbrev S2048 : Shape := ⟨1, ![2048]⟩
abbrev S4x2048 : Shape := ⟨2, ![4, 2048]⟩
abbrev S2048x12800 : Shape := ⟨2, ![2048, 12800]⟩
abbrev S2048x512 : Shape := ⟨2, ![2048, 512]⟩
abbrev S2048x1536 : Shape := ⟨2, ![2048, 1536]⟩
abbrev S16384x2048 : Shape := ⟨2, ![16384, 2048]⟩
abbrev S4x1x2048 : Shape := ⟨3, ![4, 1, 2048]⟩
abbrev S1x2048 : Shape := ⟨2, ![1, 2048]⟩
abbrev S4x16x256x1536 : Shape := ⟨4, ![4, 16, 256, 1536]⟩
abbrev S512x2048 : Shape := ⟨2, ![512, 2048]⟩
abbrev S1x1x2048 : Shape := ⟨3, ![1, 1, 2048]⟩
abbrev S1x16x32x1536 : Shape := ⟨4, ![1, 16, 32, 1536]⟩
abbrev S12x512x128 : Shape := ⟨3, ![12, 512, 128]⟩
abbrev S12x4x128x128 : Shape := ⟨4, ![12, 4, 128, 128]⟩
abbrev S512 : Shape := ⟨1, ![512]⟩
abbrev S512x1 : Shape := ⟨2, ![512, 1]⟩
abbrev S512x1536 : Shape := ⟨2, ![512, 1536]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩
abbrev S1x1x128x128 : Shape := ⟨4, ![1, 1, 128, 128]⟩
abbrev S1x1x32x128 : Shape := ⟨4, ![1, 1, 32, 128]⟩
abbrev S32x128 : Shape := ⟨2, ![32, 128]⟩

abbrev nBuf : Space → Nat
  | .hbm => 15
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x12800, .f32⟩
  | .hbm, ⟨5, _⟩ => ⟨S2048x512, .f32⟩
  | .hbm, ⟨6, _⟩ => ⟨S2048x512, .f32⟩
  | .hbm, ⟨7, _⟩ => ⟨S2048x512, .f32⟩
  | .hbm, ⟨8, _⟩ => ⟨S2048x1536, .f32⟩
  | .hbm, ⟨9, _⟩ => ⟨S2048x1536, .bf16⟩
  | .hbm, ⟨10, _⟩ => ⟨S16384x2048, .f32⟩
  | .hbm, ⟨11, _⟩ => ⟨S4x1x2048, .f32⟩
  | .hbm, ⟨12, _⟩ => ⟨S4x1x2048, .f32⟩
  | .hbm, ⟨13, _⟩ => ⟨S1x2048, .f32⟩
  | .hbm, ⟨14, _⟩ => ⟨S4x16x256x1536, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1536, .bf16⟩
  | .local _ .vmem, ⟨8, _⟩ => ⟨S1x16x32x1536, .bf16⟩
  | .local _ .vmem, ⟨9, _⟩ => ⟨S1x16x32x1536, .bf16⟩
  | .local _ .vmem, ⟨10, _⟩ => ⟨S512x2048, .bf16⟩
  | .local _ .vmem, ⟨11, _⟩ => ⟨S12x512x128, .f32⟩
  | .local _ .vmem, ⟨12, _⟩ => ⟨S12x4x128x128, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S2048x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S1x16x32x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProjRef2Ideal.lean ====
abbrev S4x4096x2048 : Shape := ⟨3, ![4, 4096, 2048]⟩
abbrev S2048 : Shape := ⟨1, ![2048]⟩
abbrev S4x2048 : Shape := ⟨2, ![4, 2048]⟩
abbrev S2048x12800 : Shape := ⟨2, ![2048, 12800]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x1x2048 : Shape := ⟨3, ![4, 1, 2048]⟩
abbrev S4x4096x12800 : Shape := ⟨3, ![4, 4096, 12800]⟩
abbrev S4x4096x4608 : Shape := ⟨3, ![4, 4096, 4608]⟩
abbrev S4x4096x1536 : Shape := ⟨3, ![4, 4096, 1536]⟩
abbrev S4x4096x512 : Shape := ⟨3, ![4, 4096, 512]⟩
abbrev S4x256x16x1536 : Shape := ⟨4, ![4, 256, 16, 1536]⟩
abbrev S4x16x256x1536 : Shape := ⟨4, ![4, 16, 256, 1536]⟩

abbrev nBuf : Space → Nat
  | .hbm => 42
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x12800, .f32⟩
  | .hbm, ⟨5, _⟩ => ⟨S4x4096x2048, .f32⟩
  | .hbm, ⟨6, _⟩ => ⟨S_, .f32⟩
  | .hbm, ⟨7, _⟩ => ⟨S4x4096, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S4x4096x1, .f32⟩
  | .hbm, ⟨16, _⟩ => ⟨S4x4096x2048, .f32⟩
  | .hbm, ⟨17, _⟩ => ⟨S4x4096x2048, .f32⟩
  | .hbm, ⟨18, _⟩ => ⟨S1x1x2048, .f32⟩
  | .hbm, ⟨19, _⟩ => ⟨S4x4096x2048, .f32⟩
  | .hbm, ⟨20, _⟩ => ⟨S4x4096x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x4096x2048, .f32⟩
  | .hbm, ⟨26, _⟩ => ⟨S4x4096x2048, .f32⟩
  | .hbm, ⟨27, _⟩ => ⟨S4x1x2048, .f32⟩
  | .hbm, ⟨28, _⟩ => ⟨S4x4096x2048, .f32⟩
  | .hbm, ⟨29, _⟩ => ⟨S4x4096x2048, .f32⟩
  | .hbm, ⟨30, _⟩ => ⟨S4x4096x12800, .f32⟩
  | .hbm, ⟨31, _⟩ => ⟨S4x4096x4608, .f32⟩
  | .hbm, ⟨32, _⟩ => ⟨S4x4096x1536, .f32⟩
  | .hbm, ⟨33, _⟩ => ⟨S4x4096x1536, .f32⟩
  | .hbm, ⟨34, _⟩ => ⟨S4x4096x1536, .f32⟩
  | .hbm, ⟨35, _⟩ => ⟨S4x4096x512, .f32⟩
  | .hbm, ⟨36, _⟩ => ⟨S4x4096x512, .f32⟩
  | .hbm, ⟨37, _⟩ => ⟨S4x4096x512, .f32⟩
  | .hbm, ⟨38, _⟩ => ⟨S4x4096x1536, .f32⟩
  | .hbm, ⟨39, _⟩ => ⟨S4x256x16x1536, .f32⟩
  | .hbm, ⟨40, _⟩ => ⟨S4x16x256x1536, .f32⟩
  | .hbm, ⟨41, _⟩ => ⟨S4x16x256x1536, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S4x4096x2048 : Shape := ⟨3, ![4, 4096, 2048]⟩
abbrev S4x2048 : Shape := ⟨2, ![4, 2048]⟩
abbrev S2048 : Shape := ⟨1, ![2048]⟩
abbrev S4x1x2048 : Shape := ⟨3, ![4, 1, 2048]⟩
abbrev S1x2048 : Shape := ⟨2, ![1, 2048]⟩
abbrev S16384x16x128 : Shape := ⟨3, ![16384, 16, 128]⟩
abbrev S256x2048 : Shape := ⟨2, ![256, 2048]⟩
abbrev S1x1x2048 : Shape := ⟨3, ![1, 1, 2048]⟩
abbrev S256x16x128 : Shape := ⟨3, ![256, 16, 128]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S16x256x128 : Shape := ⟨3, ![16, 256, 128]⟩

abbrev nBuf : Space → Nat
  | .hbm => 18
  | .vmem => 19
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S2048x2048, .bf16⟩
  | .hbm, ⟨9, _⟩ => ⟨S16384x2048, .f32⟩
  | .hbm, ⟨10, _⟩ => ⟨S4x1x2048, .f32⟩
  | .hbm, ⟨11, _⟩ => ⟨S4x1x2048, .f32⟩
  | .hbm, ⟨12, _⟩ => ⟨S4x1x2048, .f32⟩
  | .hbm, ⟨13, _⟩ => ⟨S1x2048, .f32⟩
  | .hbm, ⟨14, _⟩ => ⟨S1x2048, .f32⟩
  | .hbm, ⟨15, _⟩ => ⟨S16384x2048, .f32⟩
  | .hbm, ⟨16, _⟩ => ⟨S16384x16x128, .bf16⟩
  | .hbm, ⟨17, _⟩ => ⟨S16384x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x2048, .f32⟩
  | .local _ .vmem, ⟨8, _⟩ => ⟨S1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S256x2048, .f32⟩
  | .local _ .vmem, ⟨14, _⟩ => ⟨S256x2048, .f32⟩
  | .local _ .vmem, ⟨15, _⟩ => ⟨S256x16x128, .bf16⟩
  | .local _ .vmem, ⟨16, _⟩ => ⟨S256x16x128, .bf16⟩
  | .local _ .vmem, ⟨17, _⟩ => ⟨S256x2048, .bf16⟩
  | .local _ .vmem, ⟨18, _⟩ => ⟨S256x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x16x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutRefIdeal.lean ====
abbrev S16384x2048 : Shape := ⟨2, ![16384, 2048]⟩
abbrev S2048x2048 : Shape := ⟨2, ![2048, 2048]⟩
abbrev S4x4096x2048 : Shape := ⟨3, ![4, 4096, 2048]⟩
abbrev S4x2048 : Shape := ⟨2, ![4, 2048]⟩
abbrev S2048 : Shape := ⟨1, ![2048]⟩
abbrev S4x1x2048 : Shape := ⟨3, ![4, 1, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x16x128 : Shape := ⟨3, ![16384, 16, 128]⟩

abbrev nBuf : Space → Nat
  | .hbm => 60
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S4x4096x2048, .f32⟩
  | .hbm, ⟨3, _⟩ => ⟨S4x2048, .f32⟩
  | .hbm, ⟨4, _⟩ => ⟨S2048, .f32⟩
  | .hbm, ⟨5, _⟩ => ⟨S2048, .f32⟩
  | .hbm, ⟨6, _⟩ => ⟨S4x2048, .f32⟩
  | .hbm, ⟨7, _⟩ => ⟨S4x2048, .f32⟩
  | .hbm, ⟨8, _⟩ => ⟨S16384x2048, .f32⟩
  | .hbm, ⟨9, _⟩ => ⟨S4x4096x2048, .f32⟩
  | .hbm, ⟨10, _⟩ => ⟨S4x4096x2048, .f32⟩
  | .hbm, ⟨11, _⟩ => ⟨S4x1x2048, .f32⟩
  | .hbm, ⟨12, _⟩ => ⟨S4x4096x2048, .f32⟩
  | .hbm, ⟨13, _⟩ => ⟨S_, .f32⟩
  | .hbm, ⟨14, _⟩ => ⟨S4x4096, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1, .f32⟩
  | .hbm, ⟨23, _⟩ => ⟨S4x4096x2048, .f32⟩
  | .hbm, ⟨24, _⟩ => ⟨S4x4096x2048, .f32⟩
  | .hbm, ⟨25, _⟩ => ⟨S1x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x2048, .f32⟩
  | .hbm, ⟨31, _⟩ => ⟨S4x4096x2048, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S_, .f32⟩
  | .hbm, ⟨36, _⟩ => ⟨S4x4096x1, .f32⟩
  | .hbm, ⟨37, _⟩ => ⟨S4x4096x1, .f32⟩
  | .hbm, ⟨38, _⟩ => ⟨S_, .f32⟩
  | .hbm, ⟨39, _⟩ => ⟨S4x4096x1, .f32⟩
  | .hbm, ⟨40, _⟩ => ⟨S4x4096x1, .f32⟩
  | .hbm, ⟨41, _⟩ => ⟨S4x4096x1, .f32⟩
  | .hbm, ⟨42, _⟩ => ⟨S4x4096x2048, .f32⟩
  | .hbm, ⟨43, _⟩ => ⟨S4x4096x2048, .f32⟩
  | .hbm, ⟨44, _⟩ => ⟨S1x1x2048, .f32⟩
  | .hbm, ⟨45, _⟩ => ⟨S4x4096x2048, .f32⟩
  | .hbm, ⟨46, _⟩ => ⟨S4x4096x2048, .f32⟩
  | .hbm, ⟨47, _⟩ => ⟨S4x1x2048, .f32⟩
  | .hbm, ⟨48, _⟩ => ⟨S_, .f32⟩
  | .hbm, ⟨49, _⟩ => ⟨S4x1x2048, .f32⟩
  | .hbm, ⟨50, _⟩ => ⟨S4x1x2048, .f32⟩
  | .hbm, ⟨51, _⟩ => ⟨S4x4096x2048, .f32⟩
  | .hbm, ⟨52, _⟩ => ⟨S4x4096x2048, .f32⟩
  | .hbm, ⟨53, _⟩ => ⟨S4x1x2048, .f32⟩
  | .hbm, ⟨54, _⟩ => ⟨S4x4096x2048, .f32⟩
  | .hbm, ⟨55, _⟩ => ⟨S4x4096x2048, .f32⟩
  | .hbm, ⟨56, _⟩ => ⟨S4x4096x2048, .bf16⟩
  | .hbm, ⟨57, _⟩ => ⟨S16384x2048, .f32⟩
  | .hbm, ⟨58, _⟩ => ⟨S16384x16x128, .bf16⟩
  | .hbm, ⟨59, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Merge.lean ====
abbrev S4x1x4096x640 : Shape := ⟨4, ![4, 1, 4096, 640]⟩
abbrev S4x4x1024x640 : Shape := ⟨4, ![4, 4, 1024, 640]⟩
abbrev S4x16x256x640 : Shape := ⟨4, ![4, 16, 256, 640]⟩
abbrev S16384x1024 : Shape := ⟨2, ![16384, 1024]⟩
abbrev S16384x8192 : Shape := ⟨2, ![16384, 8192]⟩
abbrev S512x2048 : Shape := ⟨2, ![512, 2048]⟩
abbrev S1024x2048 : Shape := ⟨2, ![1024, 2048]⟩
abbrev S16384x640 : Shape := ⟨2, ![16384, 640]⟩
abbrev S16384x2048 : Shape := ⟨2, ![16384, 2048]⟩
abbrev S256x640 : Shape := ⟨2, ![256, 640]⟩
abbrev S1x4x64x640 : Shape := ⟨4, ![1, 4, 64, 640]⟩
abbrev S1x16x16x640 : Shape := ⟨4, ![1, 16, 16, 640]⟩
abbrev S256x1024 : Shape := ⟨2, ![256, 1024]⟩
abbrev S256x2048 : Shape := ⟨2, ![256, 2048]⟩
abbrev S256x512 : Shape := ⟨2, ![256, 512]⟩
abbrev S2x5x256x128 : Shape := ⟨4, ![2, 5, 256, 128]⟩
abbrev S1x1x64x128 : Shape := ⟨4, ![1, 1, 64, 128]⟩
abbrev S64x128 : Shape := ⟨2, ![64, 128]⟩
abbrev S1x1x16x128 : Shape := ⟨4, ![1, 1, 16, 128]⟩
abbrev S16x128 : Shape := ⟨2, ![16, 128]⟩
abbrev S256x1 : Shape := ⟨2, ![256, 1]⟩
abbrev S1x1x256x1 : Shape := ⟨4, ![1, 1, 256, 1]⟩
abbrev S256x128 : Shape := ⟨2, ![256, 128]⟩
abbrev S1x1x256x128 : Shape := ⟨4, ![1, 1, 256, 128]⟩

abbrev nBuf : Space → Nat
  | .hbm => 11
  | .vmem => 18
  | .smem => 0
  | _ => 0

abbrev bufTy : (tb : Table) → Fin (tcTables nBuf tb) → BufTy
  | .hbm, ⟨0, _⟩ => ⟨S4x1x4096x640, .f32⟩
  | .hbm, ⟨1, _⟩ => ⟨S4x4x1024x640, .f32⟩
  | .hbm, ⟨2, _⟩ => ⟨S4x16x256x640, .f32⟩
  | .hbm, ⟨3, _⟩ => ⟨S16384x1024, .bf16⟩
  | .hbm, ⟨4, _⟩ => ⟨S16384x8192, .bf16⟩
  | .hbm, ⟨5, _⟩ => ⟨S512x2048, .f32⟩
  | .hbm, ⟨6, _⟩ => ⟨S1024x2048, .f32⟩
  | .hbm, ⟨7, _⟩ => ⟨S512x2048, .bf16⟩
  | .hbm, ⟨8, _⟩ => ⟨S1024x2048, .bf16⟩
  | .hbm, ⟨9, _⟩ => ⟨S16384x640, .f32⟩
  | .hbm, ⟨10, _⟩ => ⟨S16384x2048, .bf16⟩
  | .local _ .vmem, ⟨0, _⟩ => ⟨S256x640, .f32⟩
  | .local _ .vmem, ⟨1, _⟩ => ⟨S256x640, .f32⟩
  | .local _ .vmem, ⟨2, _⟩ => ⟨S1x4x64x640, .f32⟩
  | .local _ .vmem, ⟨3, _⟩ => ⟨S1x4x64x640, .f32⟩
  | .local _ .vmem, ⟨4, _⟩ => ⟨S1x16x16x640, .f32⟩
  | .local _ .vmem, ⟨5, _⟩ => ⟨S1x16x16x640, .f32⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x2048, .bf16⟩
  | .local _ .vmem, ⟨11, _⟩ => ⟨S256x2048, .bf16⟩
  | .local _ .vmem, ⟨12, _⟩ => ⟨S512x2048, .bf16⟩
  | .local _ .vmem, ⟨13, _⟩ => ⟨S1024x2048, .bf16⟩
  | .local _ .vmem, ⟨14, _⟩ => ⟨S256x2048, .bf16⟩
  | .local _ .vmem, ⟨15, _⟩ => ⟨S256x2048, .bf16⟩
  | .local _ .vmem, ⟨16, _⟩ => ⟨S256x512, .bf16⟩
  | .local _ .vmem, ⟨17, _⟩ => ⟨S2x5x256x128, .f32⟩
  | _, _ => ⟨S4x1x4096x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_5 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x64x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x16x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S4x1x4096x640 : Shape := ⟨4, ![4, 1, 4096, 640]⟩
abbrev S4x4x1024x640 : Shape := ⟨4, ![4, 4, 1024, 640]⟩
abbrev S4x16x256x640 : Shape := ⟨4, ![4, 16, 256, 640]⟩
abbrev S16384x1024 : Shape := ⟨2, ![16384, 1024]⟩
abbrev S16384x8192 : Shape := ⟨2, ![16384, 8192]⟩
abbrev S512x2048 : Shape := ⟨2, ![512, 2048]⟩
abbrev S1024x2048 : Shape := ⟨2, ![1024, 2048]⟩
abbrev S4x4096x1x640 : Shape := ⟨4, ![4, 4096, 1, 640]⟩
abbrev S4x4096x640 : Shape := ⟨3, ![4, 4096, 640]⟩
abbrev S4x4096x512 : Shape := ⟨3, ![4, 4096, 512]⟩
abbrev S4x4096x4x128 : Shape := ⟨4, ![4, 4096, 4, 128]⟩
abbrev S4x4096x128 : Shape := ⟨3, ![4, 4096, 128]⟩
abbrev S4x4096x4x32 : Shape := ⟨4, ![4, 4096, 4, 32]⟩
abbrev S4x4096x4x1 : Shape := ⟨4, ![4, 4096, 4, 1]⟩
abbrev S4x4096x4 : Shape := ⟨3, ![4, 4096, 4]⟩
abbrev S4x1024x4x640 : Shape := ⟨4, ![4, 1024, 4, 640]⟩
abbrev S4x256x16x640 : Shape := ⟨4, ![4, 256, 16, 640]⟩
abbrev S1x4x4096x4 : Shape := ⟨4, ![1, 4, 4096, 4]⟩
abbrev S3x4x4096x4 : Shape := ⟨4, ![3, 4, 4096, 4]⟩
abbrev S_ : Shape := ⟨0, ![]⟩
abbrev S3x4x4096x4x1 : Shape := ⟨5, ![3, 4, 4096, 4, 1]⟩
abbrev S1x4x4096x4x128 : Shape := ⟨5, ![1, 4, 4096, 4, 128]⟩
abbrev S3x4x4096x4x128 : Shape := ⟨5, ![3, 4, 4096, 4, 128]⟩
abbrev S16384x512 : Shape := ⟨2, ![16384, 512]⟩
abbrev S16384x2048 : Shape := ⟨2, ![16384, 2048]⟩

abbrev nBuf : Space → Nat
  | .hbm => 86
  | .vmem => 0
  | .smem => 0
  | _ => 0

abbrev bufTy : (tb : Table) → Fin (tcTables nBuf tb) → BufTy
  | .hbm, ⟨0, _⟩ => ⟨S4x1x4096x640, .f32⟩
  | .hbm, ⟨1, _⟩ => ⟨S4x4x1024x640, .f32⟩
  | .hbm, ⟨2, _⟩ => ⟨S4x16x256x640, .f32⟩
  | .hbm, ⟨3, _⟩ => ⟨S16384x1024, .bf16⟩
  | .hbm, ⟨4, _⟩ => ⟨S16384x8192, .bf16⟩
  | .hbm, ⟨5, _⟩ => ⟨S512x2048, .f32⟩
  | .hbm, ⟨6, _⟩ => ⟨S1024x2048, .f32⟩
  | .hbm, ⟨7, _⟩ => ⟨S4x4096x1x640, .f32⟩
  | .hbm, ⟨8, _⟩ => ⟨S4x4096x640, .f32⟩
  | .hbm, ⟨9, _⟩ => ⟨S4x4096x512, .f32⟩
  | .hbm, ⟨10, _⟩ => ⟨S4x4096x4x128, .f32⟩
  | .hbm, ⟨11, _⟩ => ⟨S4x4096x128, .f32⟩
  | .hbm, ⟨12, _⟩ => ⟨S4x4096x4x32, .f32⟩
  | .hbm, ⟨13, _⟩ => ⟨S4x4096x4x1, .f32⟩
  | .hbm, ⟨14, _⟩ => ⟨S4x4096x4, .f32⟩
  | .hbm, ⟨15, _⟩ => ⟨S4x1024x4x640, .f32⟩
  | .hbm, ⟨16, _⟩ => ⟨S4x4096x640, .f32⟩
  | .hbm, ⟨17, _⟩ => ⟨S4x4096x512, .f32⟩
  | .hbm, ⟨18, _⟩ => ⟨S4x4096x4x128, .f32⟩
  | .hbm, ⟨19, _⟩ => ⟨S4x4096x128, .f32⟩
  | .hbm, ⟨20, _⟩ => ⟨S4x4096x4x32, .f32⟩
  | .hbm, ⟨21, _⟩ => ⟨S4x4096x4x1, .f32⟩
  | .hbm, ⟨22, _⟩ => ⟨S4x4096x4, .f32⟩
  | .hbm, ⟨23, _⟩ => ⟨S4x256x16x640, .f32⟩
  | .hbm, ⟨24, _⟩ => ⟨S4x4096x640, .f32⟩
  | .hbm, ⟨25, _⟩ => ⟨S4x4096x512, .f32⟩
  | .hbm, ⟨26, _⟩ => ⟨S4x4096x4x128, .f32⟩
  | .hbm, ⟨27, _⟩ => ⟨S4x4096x128, .f32⟩
  | .hbm, ⟨28, _⟩ => ⟨S4x4096x4x32, .f32⟩
  | .hbm, ⟨29, _⟩ => ⟨S4x4096x4x1, .f32⟩
  | .hbm, ⟨30, _⟩ => ⟨S4x4096x4, .f32⟩
  | .hbm, ⟨31, _⟩ => ⟨S1x4x4096x4, .f32⟩
  | .hbm, ⟨32, _⟩ => ⟨S1x4x4096x4, .f32⟩
  | .hbm, ⟨33, _⟩ => ⟨S1x4x4096x4, .f32⟩
  | .hbm, ⟨34, _⟩ => ⟨S3x4x4096x4, .f32⟩
  | .hbm, ⟨35, _⟩ => ⟨S_, .f32⟩
  | .hbm, ⟨36, _⟩ => ⟨S4x4096x4, .f32⟩
  | .hbm, ⟨37, _⟩ => ⟨S_, .f32⟩
  | .hbm, ⟨38, _⟩ => ⟨S4x4096x4, .f32⟩
  | .hbm, ⟨39, _⟩ => ⟨S4x4096x4, .f32⟩
  | .hbm, ⟨40, _⟩ => ⟨S1x4x4096x4, .f32⟩
  | .hbm, ⟨41, _⟩ => ⟨S3x4x4096x4, .f32⟩
  | .hbm, ⟨42, _⟩ => ⟨S3x4x4096x4, .f32⟩
  | .hbm, ⟨43, _⟩ => ⟨S3x4x4096x4, .f32⟩
  | .hbm, ⟨44, _⟩ => ⟨S_, .f32⟩
  | .hbm, ⟨45, _⟩ => ⟨S4x4096x4, .f32⟩
  | .hbm, ⟨46, _⟩ => ⟨S1x4x4096x4, .f32⟩
  | .hbm, ⟨47, _⟩ => ⟨S3x4x4096x4, .f32⟩
  | .hbm, ⟨48, _⟩ => ⟨S3x4x4096x4, .f32⟩
  | .hbm, ⟨49, _⟩ => ⟨S3x4x4096x4x1, .f32⟩
  | .hbm, ⟨50, _⟩ => ⟨S1x4x4096x4x128, .f32⟩
  | .hbm, ⟨51, _⟩ => ⟨S1x4x4096x4x128, .f32⟩
  | .hbm, ⟨52, _⟩ => ⟨S1x4x4096x4x128, .f32⟩
  | .hbm, ⟨53, _⟩ => ⟨S3x4x4096x4x128, .f32⟩
  | .hbm, ⟨54, _⟩ => ⟨S3x4x4096x4x128, .f32⟩
  | .hbm, ⟨55, _⟩ => ⟨S3x4x4096x4x128, .f32⟩
  | .hbm, ⟨56, _⟩ => ⟨S_, .f32⟩
  | .hbm, ⟨57, _⟩ => ⟨S4x4096x4x128, .f32⟩
  | .hbm, ⟨58, _⟩ => ⟨S16384x512, .f32⟩
  | .hbm, ⟨59, _⟩ => ⟨S16384x2048, .bf16⟩
  | .hbm, ⟨60, _⟩ => ⟨S16384x2048, .f32⟩
  | .hbm, ⟨61, _⟩ => ⟨S16384x2048, .bf16⟩
  | .hbm, ⟨62, _⟩ => ⟨S16384x2048, .f32⟩
  | .hbm, ⟨63, _⟩ => ⟨S16384x2048, .f32⟩
  | .hbm, ⟨64, _⟩ => ⟨S16384x2048, .f32⟩
  | .hbm, ⟨65, _⟩ => ⟨S_, .f32⟩
  | .hbm, ⟨66, _⟩ => ⟨S16384x2048, .f32⟩
  | .hbm, ⟨67, _⟩ => ⟨S16384x2048, .f32⟩
  | .hbm, ⟨68, _⟩ => ⟨S_, .f32⟩
  | .hbm, ⟨69, _⟩ => ⟨S16384x2048, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S16384x2048, .f32⟩
  | .hbm, ⟨75, _⟩ => ⟨S_, .f32⟩
  | .hbm, ⟨76, _⟩ => ⟨S16384x2048, .f32⟩
  | .hbm, ⟨77, _⟩ => ⟨S16384x2048, .f32⟩
  | .hbm, ⟨78, _⟩ => ⟨S_, .f32⟩
  | .hbm, ⟨79, _⟩ => ⟨S16384x2048, .f32⟩
  | .hbm, ⟨80, _⟩ => ⟨S16384x2048, .f32⟩
  | .hbm, ⟨81, _⟩ => ⟨S16384x1024, .f32⟩
  | .hbm, ⟨82, _⟩ => ⟨S16384x2048, .f32⟩
  | .hbm, ⟨83, _⟩ => ⟨S16384x2048, .f32⟩
  | .hbm, ⟨84, _⟩ => ⟨S16384x2048, .f32⟩
  | .hbm, ⟨85, _⟩ => ⟨S16384x2048, .bf16⟩
  | _, _ => ⟨S4x1x4096x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst : Ref sig .tc := ⟨.hbm, 35, rfl⟩
abbrev main_v28 : Ref sig .tc := ⟨.hbm, 36, rfl⟩
abbrev main_cst_0 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_1 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_cst_2 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_3 : Ref sig .tc := ⟨.hbm, 65, rfl⟩
abbrev main_v54 : Ref sig .tc := ⟨.hbm, 66, rfl⟩
abbrev main_v55 : Ref sig .tc := ⟨.hbm, 67, rfl⟩
abbrev main_cst_4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_5 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩

abbrev nD : Nat := 1
abbrev τ : Topo := Topo.v7x

variable {F : FTy → Type} [FloatOps F]
-- ==== Proof.Soft.lean ====
module

public import Idealize.ShloMosaic.PureOps
public import Idealize.ShloMosaic.PureOps.Ideal

@[expose] public section

noncomputable section

/-! A row's softmax on the extended reals: the weights taken against the greatest score and divided at the end are the
    weights taken against the log-denominator. A masked score is `⊥`. -/

namespace Attn

open Idealize.ShloMosaic

variable {ι : Type} [Fintype ι]

/-- A real number. -/
def IsNum (x : EReal) : Prop := ∃ r : ℝ, x = r

theorem IsNum.mul {x y : EReal} (hx : IsNum x) (hy : IsNum y) : IsNum (x * y) := by
  obtain ⟨r, rfl⟩ := hx; obtain ⟨t, rfl⟩ := hy; exact ⟨r * t, (EReal.coe_mul r t).symm⟩

theorem IsNum.add {x y : EReal} (hx : IsNum x) (hy : IsNum y) : IsNum (x + y) := by
  obtain ⟨r, rfl⟩ := hx; obtain ⟨t, rfl⟩ := hy; exact ⟨r + t, (EReal.coe_add r t).symm⟩

theorem IsNum.sub {x y : EReal} (hx : IsNum x) (hy : IsNum y) : IsNum (x - y) := by
  obtain ⟨r, rfl⟩ := hx; obtain ⟨t, rfl⟩ := hy; exact ⟨r - t, (EReal.coe_sub r t).symm⟩

theorem IsNum.sum {f : ι → EReal} (hf : ∀ i, IsNum (f i)) : IsNum (∑ i, f i) :=
  Finset.sum_induction f IsNum (fun _ _ => IsNum.add) ⟨0, rfl⟩ fun i _ => hf i

theorem IsNum.ne_bot {x : EReal} (hx : IsNum x) : x ≠ ⊥ := by
  obtain ⟨r, rfl⟩ := hx; exact EReal.coe_ne_bot r

/-- A score is a real number, or masked. -/
def Score (x : EReal) : Prop := x = ⊥ ∨ ∃ r : ℝ, x = r

/-- The greatest score. -/
def peak (s : ι → EReal) : EReal := Finset.univ.fold max ⊥ s

/-- The sum of the weights against the greatest score. -/
def mass (s : ι → EReal) : EReal := ∑ i, Ideal.exp (s i - peak s)

theorem le_peak (s : ι → EReal) (i : ι) : s i ≤ peak s :=
  (Finset.le_fold_max (s i)).2 (.inr ⟨i, Finset.mem_univ i, le_rfl⟩)

theorem peak_real {s : ι → EReal} (hs : ∀ i, Score (s i)) (h : ∃ i, s i ≠ ⊥) : ∃ M : ℝ, peak s = M := by
  obtain ⟨i, hi⟩ := h
  have hne : peak s ≠ ⊥ := fun e => hi (le_bot_iff.1 (e ▸ le_peak s i))
  have : Score (peak s) := by
    rcases (Finset.le_fold_max (peak s)).1 (le_refl (Finset.univ.fold max ⊥ s)) with h0 | ⟨j, -, hj⟩
    · exact (hne (le_bot_iff.1 h0)).elim
    · have e : peak s = s j := le_antisymm hj (le_peak s j)
      rw [e]; exact hs j
  exact this.resolve_left hne

theorem exp_score {x : EReal} (hx : Score x) (M : ℝ) : ∃ e : ℝ, 0 ≤ e ∧ Ideal.exp (x - M) = e := by
  rcases hx with rfl | ⟨r, rfl⟩
  · exact ⟨0, le_rfl, by rw [EReal.bot_sub]; rfl⟩
  · exact ⟨Real.exp (r - M), (Real.exp_pos _).le, by rw [← EReal.coe_sub]; rfl⟩

theorem mass_real {s : ι → EReal} (hs : ∀ i, Score (s i)) (h : ∃ i, s i ≠ ⊥) : ∃ l : ℝ, 0 < l ∧ mass s = l := by
  obtain ⟨M, hM⟩ := peak_real hs h
  choose e he0 he using fun i => exp_score (hs i) M
  obtain ⟨i, hi⟩ := h
  obtain ⟨r, hr⟩ := (hs i).resolve_left hi
  have hpos : 0 < e i := by
    have h2 := he i
    rw [hr, ← EReal.coe_sub, Ideal.exp_coe, EReal.coe_eq_coe_iff] at h2
    rw [← h2]; exact Real.exp_pos _
  refine ⟨∑ i, e i, lt_of_lt_of_le hpos (Finset.single_le_sum (fun j _ => he0 j) (Finset.mem_univ i)), ?_⟩
  unfold mass
  rw [hM]
  simp only [he]
  exact (map_sum (⟨⟨fun x : ℝ => (x : EReal), rfl⟩, EReal.coe_add⟩ : ℝ →+ EReal) e Finset.univ).symm

/-- Weights against the log-denominator are weights against the greatest score over the denominator. -/
theorem exp_sub_log {x : EReal} (hx : Score x) (M : ℝ) {l : ℝ} (hl : 0 < l) :
    Ideal.exp (x - ((M : EReal) + Ideal.log (l : EReal))) = Ideal.exp (x - M) * ((1 / l : ℝ) : EReal) := by
  rw [Ideal.log_coe, if_neg (not_le.2 hl), ← EReal.coe_add]
  rcases hx with rfl | ⟨r, rfl⟩
  · rw [EReal.bot_sub, EReal.bot_sub]; exact (zero_mul _).symm
  · rw [← EReal.coe_sub, ← EReal.coe_sub, Ideal.exp_coe, Ideal.exp_coe, ← EReal.coe_mul, EReal.coe_eq_coe_iff,
      ← sub_sub, Real.exp_sub, Real.exp_log hl, div_eq_mul_one_div]

theorem sum_mul_const (t : Finset ι) (f : ι → EReal) {c : ℝ} (hc : 0 ≤ c) :
    ∑ i ∈ t, f i * (c : EReal) = (∑ i ∈ t, f i) * (c : EReal) := by
  classical
  induction t using Finset.induction_on with
  | empty => exact (zero_mul _).symm
  | insert i t hi ih =>
    rw [Finset.sum_insert hi, Finset.sum_insert hi, ih,
      EReal.right_distrib_of_nonneg_of_ne_top (EReal.coe_nonneg.2 hc) (EReal.coe_ne_top c)]

/-- Dividing the weighted values by the denominator at the end is weighting by the normalised weights. -/
theorem soft {s : ι → EReal} (hs : ∀ i, Score (s i)) (h : ∃ i, s i ≠ ⊥) (v : ι → EReal) :
    ∑ i, Ideal.exp (s i - (peak s + Ideal.log (mass s))) * v i
      = Ideal.div (∑ i, Ideal.exp (s i - peak s) * v i) (mass s) := by
  obtain ⟨M, hM⟩ := peak_real hs h
  obtain ⟨l, hl, hL⟩ := mass_real hs h
  rw [hL, hM, Ideal.div_coe hl.ne', ← sum_mul_const _ _ (one_div_pos.2 hl).le]
  exact Finset.sum_congr rfl fun i _ => by rw [exp_sub_log (hs i) M hl, mul_right_comm]

/-- The greatest of 256 scores is the greater of the two halves' greatest. -/
theorem peak_halves (s : Fin 256 → EReal) :
    peak s = max (peak fun k : Fin 128 => s ⟨128 + k, by omega⟩) (peak fun k : Fin 128 => s ⟨k, by omega⟩) := by
  refine le_antisymm ?_ (max_le ?_ ?_)
  · refine (Finset.fold_max_le _).2 ⟨bot_le, fun k _ => ?_⟩
    by_cases hk : k.val < 128
    · exact le_max_of_le_right (le_peak (fun k : Fin 128 => s ⟨k, by omega⟩) ⟨k, hk⟩)
    · refine le_max_of_le_left ?_
      have := le_peak (fun k : Fin 128 => s ⟨128 + k, by omega⟩) ⟨k - 128, by omega⟩
      have e : (⟨128 + (k.val - 128), by omega⟩ : Fin 256) = k := Fin.ext (by simp; omega)
      simp only [e] at this
      exact this
  · exact (Finset.fold_max_le _).2 ⟨bot_le, fun k _ => le_peak s _⟩
  · exact (Finset.fold_max_le _).2 ⟨bot_le, fun k _ => le_peak s _⟩

/-- A sum over 256 keys by halves, the later half first. -/
theorem sum_halves (f : Fin 256 → EReal) :
    ∑ k, f k = ∑ k : Fin 128, f ⟨128 + k, by omega⟩ + ∑ k : Fin 128, f ⟨k, by omega⟩ := by
  rw [show ∑ k, f k = ∑ k : Fin (128 + 128), f k from rfl, Fin.sum_univ_add, add_comm]
  rfl

end Attn

end
-- ==== Proof.Spec.lean ====
module

public import Idealize.ShloMosaic.Lib.Pointwise
public import proofs.«01_k».proof.Proof.Soft

@[expose] public section

noncomputable section

/-! The banded attention as one function of natural positions, and the index words of the two programs as numbers. -/

namespace Attn

open Idealize.ShloMosaic

/-- An array of rank 4 read at natural positions. -/
def At {n0 n1 n2 n3 : ℕ} (x : (⟨4, ![n0, n1, n2, n3]⟩ : Shape).Idx → EReal) (b r l c : ℕ) : EReal :=
  if h : (b < n0 ∧ r < n1) ∧ l < n2 ∧ c < n3 then x (ix4 ⟨b, h.1.1⟩ ⟨r, h.1.2⟩ ⟨l, h.2.1⟩ ⟨c, h.2.2⟩) else 0

theorem at_ix4 {n0 n1 n2 n3 : ℕ} (x : (⟨4, ![n0, n1, n2, n3]⟩ : Shape).Idx → EReal) (b : Fin n0) (r : Fin n1) (l : Fin n2)
    (c : Fin n3) : x (ix4 b r l c) = At x b r l c := by
  unfold At
  rw [dif_pos ⟨⟨b.2, r.2⟩, l.2, c.2⟩]

theorem at_idx {n0 n1 n2 n3 : ℕ} (x : (⟨4, ![n0, n1, n2, n3]⟩ : Shape).Idx → EReal) (i : (⟨4, ![n0, n1, n2, n3]⟩ : Shape).Idx) {b r l c : ℕ}
    (h0 : (i 0).val = b) (h1 : (i 1).val = r) (h2 : (i 2).val = l)
    (h3 : (i 3).val = c) : x i = At x b r l c := by
  subst h0 h1 h2 h3
  exact (congrArg x (eq_ix4 i)).trans (at_ix4 ..)

/-- Key `k` of the 256 before and in block `n` is seen by query row `a`. -/
def Seen (n a k : ℕ) : Prop := k ≤ a + 128 ∧ a ≤ k ∧ (n = 0 → 128 ≤ k)

instance (n a k : ℕ) : Decidable (Seen n a k) := by unfold Seen; infer_instance

section Fn
variable (X : ℕ → ℕ → ℕ → ℕ → EReal) (β : ℕ → EReal) (b r h n a : ℕ)

/-- Query row `t` against key row `u`. -/
def qk (t u : ℕ) : EReal := ∑ x : Fin 128, X b r t (128 * h + x) * X b r u (512 + (128 * h + x))

/-- The score of key `k` of the 256 before and in block `n`. -/
def sc (k : ℕ) : EReal :=
  if Seen n a k then qk X b r h (128 * n + a) (128 * n + k - 128) * Ideal.ofBits .f32 0x3DB504F3#32
    - β h * (((a : ℝ) + 128 - k : ℝ) : EReal) else ⊥

def scF (k : Fin 256) : EReal := sc X β b r h n a k

/-- The value of key `k`. -/
def vl (d k : ℕ) : EReal := X b r (128 * n + k - 128) (1024 + (128 * h + d))

/-- The normalised output. -/
def head (d : ℕ) : EReal :=
  Ideal.div (∑ k : Fin 256, Ideal.exp (scF X β b r h n a k - peak (scF X β b r h n a)) * vl X b r h n d k) (mass (scF X β b r h n a))

/-- The log-denominator. -/
def logDen : EReal := peak (scF X β b r h n a) + Ideal.log (mass (scF X β b r h n a))

end Fn

/-- The result at batch `b`, residue `r`, row `l`, column `c`. -/
def result (X : ℕ → ℕ → ℕ → ℕ → EReal) (β : ℕ → EReal) (b r l c : ℕ) : EReal :=
  if c < 512 then head X β b r (c / 128) (l / 128) (l % 128) (c % 128) else logDen X β b r ((c - 512) / 32) (l / 128) (l % 128)

/-- The score scale is a number. -/
theorem scale_num : IsNum (Ideal.ofBits .f32 0x3DB504F3#32) := by
  simp only [Ideal.ofBits, Ideal.ieee]
  norm_num
  exact ⟨_, rfl⟩

theorem sc_num {X : ℕ → ℕ → ℕ → ℕ → EReal} {β : ℕ → EReal} (b r : ℕ) {h n a : ℕ} (hX : ∀ l c, c < 1024 → IsNum (X b r l c))
    (hβ : IsNum (β h)) (hh : h < 4) (k : ℕ) (hk : Seen n a k) : IsNum (sc X β b r h n a k) := by
  unfold sc
  rw [if_pos hk]
  refine IsNum.sub (IsNum.mul (IsNum.sum fun x => ?_) scale_num) (IsNum.mul hβ ⟨_, rfl⟩)
  exact IsNum.mul (hX _ _ (by have := x.2; omega)) (hX _ _ (by have := x.2; omega))

/-- With numbers for queries, keys and slopes every score is a number or masked, and the query's own key is seen. -/
theorem scF_score {X : ℕ → ℕ → ℕ → ℕ → EReal} {β : ℕ → EReal} (b r : ℕ) {h n a : ℕ} (hX : ∀ l c, c < 1024 → IsNum (X b r l c))
    (hβ : IsNum (β h)) (hh : h < 4) (ha : a < 128) :
    (∀ k, Score (scF X β b r h n a k)) ∧ ∃ k, scF X β b r h n a k ≠ ⊥ := by
  refine ⟨fun k => ?_, ⟨a + 128, by omega⟩, ?_⟩
  · by_cases hk : Seen n a k
    · exact .inr (sc_num b r hX hβ hh k hk)
    · exact .inl (by unfold scF sc; rw [if_neg hk])
  · exact (sc_num b r hX hβ hh (a + 128) ⟨by omega, by omega, by omega⟩).ne_bot

/-- The masking constant. -/
theorem neg_inf : Ideal.ofBits .f32 0xFF800000#32 = ⊥ := by simp [Ideal.ofBits, Ideal.ieee]

/-! ### Words -/

theorem toInt_small {z : ℤ} (h : -65536 ≤ z) (h' : z ≤ 65536) : (BitVec.ofInt 32 z).toInt = z := by
  rw [BitVec.toInt_ofInt]
  exact Int.bmod_eq_of_le (by omega) (by omega)

theorem ofInt_sub (x y : ℤ) : BitVec.ofInt 32 (x - y) = BitVec.ofInt 32 x - BitVec.ofInt 32 y := by
  rw [sub_eq_add_neg, BitVec.ofInt_add, BitVec.ofInt_neg, BitVec.sub_eq_add_neg]

theorem gap_word (a k : ℕ) : IntOp.subi (IntOp.addi (BitVec.ofNat 32 a) 128#32) (BitVec.ofNat 32 k) = BitVec.ofInt 32 ((a : ℤ) + 128 - k) := by
  unfold IntOp.subi IntOp.addi
  rw [ofInt_sub, BitVec.ofInt_add, BitVec.ofInt_natCast, BitVec.ofInt_natCast]
  rfl

theorem prev_word (a k : ℕ) : IntOp.addi (IntOp.subi (BitVec.ofNat 32 a) (BitVec.ofNat 32 k)) 128#32 = BitVec.ofInt 32 ((a : ℤ) + 128 - k) := by
  rw [← gap_word]; unfold IntOp.subi IntOp.addi
  rw [BitVec.sub_eq_add_neg, BitVec.sub_eq_add_neg, BitVec.add_assoc, BitVec.add_assoc, BitVec.add_comm (-_)]

theorem cur_word (a k : ℕ) : IntOp.subi (BitVec.ofNat 32 a) (BitVec.ofNat 32 k) = BitVec.ofInt 32 ((a : ℤ) + 128 - ((128 + k : ℕ) : ℤ)) := by
  unfold IntOp.subi
  rw [show (a : ℤ) + 128 - ((128 + k : ℕ) : ℤ) = a - k by omega, ofInt_sub, BitVec.ofInt_natCast, BitVec.ofInt_natCast]

theorem pos_word (n k : ℕ) : IntOp.subi (IntOp.addi (IntOp.muli (BitVec.ofNat 32 n) 128#32) (BitVec.ofNat 32 k)) 128#32
    = BitVec.ofInt 32 ((n : ℤ) * 128 + k - 128) := by
  unfold IntOp.subi IntOp.addi IntOp.muli
  rw [ofInt_sub, BitVec.ofInt_add, BitVec.ofInt_mul, BitVec.ofInt_natCast, BitVec.ofInt_natCast]
  rfl

theorem mul_word (d : ℕ) (z : ℤ) : IntOp.muli (BitVec.ofNat 32 d) (BitVec.ofInt 32 z) = BitVec.ofInt 32 (d * z) := by
  unfold IntOp.muli
  rw [BitVec.ofInt_mul, BitVec.ofInt_natCast]

theorem sge_word {z : ℤ} (h : -65536 ≤ z) (h' : z ≤ 65536) : IntOp.cmpi .sge (BitVec.ofInt 32 z) 0#32 = BitVec.ofBool (decide (0 ≤ z)) := by
  unfold IntOp.cmpi
  simp only [BitVec.sle, toInt_small h h', BitVec.toInt_zero]

theorem sle_word {z y : ℤ} (h : -65536 ≤ z) (h' : z ≤ 65536) (w : BitVec 32) (hy : w.toInt = y) :
    IntOp.cmpi .sle (BitVec.ofInt 32 z) w = BitVec.ofBool (decide (z ≤ y)) := by
  unfold IntOp.cmpi
  simp only [BitVec.sle, toInt_small h h', hy]

theorem and_bool (p q : Prop) [Decidable p] [Decidable q] :
    IntOp.andi (BitVec.ofBool (decide p)) (BitVec.ofBool (decide q)) = BitVec.ofBool (decide (p ∧ q)) := by
  unfold IntOp.andi
  by_cases hp : p <;> by_cases hq : q <;> simp [hp, hq]

theorem select_bool {α : Type} (p : Prop) [Decidable p] (x y : α) : Scalar.select (BitVec.ofBool (decide p)) x y = if p then x else y := by
  by_cases hp : p <;> simp [Scalar.select, hp]

end Attn

end
-- ==== Proof.Head.lean ====
module

public import Idealize.ShloMosaic.Lib.Pipeline
public import Idealize.ShloMosaic.Lib.Pointwise
public import Idealize.ShloMosaic.PureOps
public import proofs.«01_k».proof.Proof.Spec

@[expose] public section

noncomputable section

/-! One head of one 128-row block of the banded attention, as the kernel's vector operations write it, read at an
    index. The three head groups share it: they differ in the slope and in the blocks they hand over. -/

namespace Attn

open Idealize.ShloMosaic

abbrev T : Shape := ⟨2, ![128, 128]⟩
abbrev W : Shape := ⟨2, ![128, 256]⟩
abbrev B : Shape := ⟨4, ![1, 1, 128, 128]⟩
abbrev C : Shape := ⟨2, ![128, 1]⟩
abbrev R : Shape := ⟨1, ![128]⟩

theorem iot0 : T.Iotas .tc 32 [0] := by decide
theorem iot1 : T.Iotas .tc 32 [1] := by decide
theorem castBT : B.ShapeCasts T := by decide
theorem castTB : T.ShapeCasts B := by decide
theorem castRC : R.ShapeCasts C := by decide
theorem castCC : C.ShapeCasts C := by decide
theorem redT : T.Reduces [1] R := by decide
theorem bcC : C.Broadcasts T := by decide
theorem narrow : FTy.bits .bf16 < FTy.bits .f32 := by decide
theorem catW : Shape.Concatenates [T, T] W 1 := by decide
theorem slC : W.Slices ![0, 128] C := by decide
theorem slT : W.Slices ![0, 0] T := by decide

def dotNT : DotDims T T T where
  lhsContracting := [1]
  rhsContracting := [1]
  lhsNonContracting := [0]
  rhsNonContracting := [0]
  lhsBatch := []
  rhsBatch := []
  wf := by decide
def dotNN : DotDims T W W where
  lhsContracting := [1]
  rhsContracting := [0]
  lhsNonContracting := [0]
  rhsNonContracting := [1]
  lhsBatch := []
  rhsBatch := []
  wf := by decide

/-- Query row minus key row, inside one block. -/
def dc : IVec T 32 := subi (iota .tc T 32 [0] iot0) (iota .tc T 32 [1] iot1)
/-- The same when the keys are the block before. -/
def dp : IVec T 32 := addi dc (broadcast T 128#32)

/-- Masked scores of a block of queries against a block of keys. -/
def score (bias : BitVec 32) (dist : IVec T 32) (mask : IVec T 1) (q k : Vec Ideal B .bf16) : FVec Ideal T .f32 :=
  select mask
    (subf
      (mulf (matmul dotNT none (shapeCast T q castBT : FVec Ideal T .bf16) (shapeCast T k castBT : FVec Ideal T .bf16)
          (constant T .f32 0x00000000#32 : FVec Ideal T .f32))
        (broadcast T (Scalar.ofBits .f32 0x3DB504F3#32 : Ideal .f32)))
      (mulf (broadcast T (Scalar.ofBits .f32 bias : Ideal .f32)) (sitofp .f32 dist)))
    (broadcast T (Scalar.ofBits .f32 0xFF800000#32 : Ideal .f32))

/-- The greatest score of each row over the two key blocks. -/
def top (sc sp : FVec Ideal T .f32) : FVec Ideal C .f32 :=
  maximumf (shapeCast C (multiReduction .maximumf [1] R sc 0xFF800000#32 redT (.inl rfl) rfl) castRC)
    (shapeCast C (multiReduction .maximumf [1] R sp 0xFF800000#32 redT (.inl rfl) rfl) castRC)

/-- The weighted values (128 columns) beside the weights' sum (128 columns of it). -/
def mix (sc sp : FVec Ideal T .f32) (vc vp : Vec Ideal B .bf16) : FVec Ideal W .f32 :=
  addf
    (matmul dotNN none (truncf .bf16 (exp (subf sc (broadcastTo T (top sc sp) bcC))) narrow : FVec Ideal T .bf16)
      (concatenate W 1 [⟨T, (shapeCast T vc castBT : FVec Ideal T .bf16)⟩,
        ⟨T, (broadcast T (Scalar.ofBits .bf16 0x3F80#16 : Ideal .bf16) : FVec Ideal T .bf16)⟩] catW)
      (constant W .f32 0x00000000#32 : FVec Ideal W .f32))
    (matmul dotNN none (truncf .bf16 (exp (subf sp (broadcastTo T (top sc sp) bcC))) narrow : FVec Ideal T .bf16)
      (concatenate W 1 [⟨T, (shapeCast T vp castBT : FVec Ideal T .bf16)⟩,
        ⟨T, (broadcast T (Scalar.ofBits .bf16 0x3F80#16 : Ideal .bf16) : FVec Ideal T .bf16)⟩] catW)
      (constant W .f32 0x00000000#32 : FVec Ideal W .f32))

/-- The head's normalised output. -/
def outB (sc sp : FVec Ideal T .f32) (vc vp : Vec Ideal B .bf16) : FVec Ideal B .f32 :=
  shapeCast B (divf (extractStridedSlice T ![0, 0] (mix sc sp vc vp) slT)
    (broadcastTo T (extractStridedSlice C ![0, 128] (mix sc sp vc vp) slC) bcC)) castTB

/-- The head's log-denominator. -/
def lseC (sc sp : FVec Ideal T .f32) (vc vp : Vec Ideal B .bf16) : FVec Ideal C .f32 :=
  addf (top sc sp) (log (extractStridedSlice C ![0, 128] (mix sc sp vc vp) slC))

/-- A column written into the lanes `lo ≤ lane < hi` of a block. -/
def lanes (lo hi : BitVec 32) (x : FVec Ideal C .f32) (z : FVec Ideal T .f32) : FVec Ideal T .f32 :=
  select (andi (cmpi .sge (iota .tc T 32 [1] iot1) (broadcast T lo)) (cmpi .slt (iota .tc T 32 [1] iot1) (broadcast T hi)))
    (broadcastTo T (shapeCast C x castCC) bcC) z

/-- The four heads' log-denominators side by side, 32 lanes each. -/
def lseB (l0 l1 l2 l3 : FVec Ideal C .f32) : FVec Ideal B .f32 :=
  shapeCast B (lanes 96#32 128#32 l3 (lanes 64#32 96#32 l2 (lanes 32#32 64#32 l1 (lanes 0#32 32#32 l0
    (broadcast T (Scalar.ofBits .f32 0x00000000#32 : Ideal .f32)))))) castTB

set_option maxRecDepth 16384

theorem score_apply (bias : BitVec 32) (dist : IVec T 32) (mask : IVec T 1) (q k : Vec Ideal B .bf16) (a b : Fin 128) :
    score bias dist mask q k (ix2 a b) = Scalar.select (mask (ix2 a b))
      ((∑ x, q (ix4 0 0 a x) * k (ix4 0 0 b x)) * Ideal.ofBits .f32 0x3DB504F3#32
        - Ideal.ofBits .f32 bias * ((((dist (ix2 a b)).toInt : ℝ)) : EReal)) (Ideal.ofBits .f32 0xFF800000#32) := by
  pointwise [score, dotNT]
  rfl

theorem dc_apply (a b : Fin 128) : dc (ix2 a b) = BitVec.ofInt 32 ((a.val : ℤ) + 128 - ((128 + b.val : ℕ) : ℤ)) := by
  refine Eq.trans ?_ (cur_word a b)
  pointwise [dc]

theorem dp_apply (a b : Fin 128) : dp (ix2 a b) = BitVec.ofInt 32 ((a.val : ℤ) + 128 - b.val) := by
  refine Eq.trans ?_ (prev_word a b)
  pointwise [dp, dc]

/-- The row of scores over the two key blocks, the block before first. -/
def both (sc sp : FVec Ideal T .f32) (a : Fin 128) : Fin 256 → EReal := fun k =>
  if h : k.val < 128 then sp (ix2 a ⟨k, h⟩) else sc (ix2 a ⟨k - 128, by omega⟩)

theorem both_cur (sc sp : FVec Ideal T .f32) (a k : Fin 128) : both sc sp a ⟨128 + k, by omega⟩ = sc (ix2 a k) := by
  unfold both
  rw [dif_neg (by simp)]
  congr 2
  exact Fin.ext (Nat.add_sub_cancel_left _ _)

theorem both_prev (sc sp : FVec Ideal T .f32) (a k : Fin 128) : both sc sp a ⟨k, by omega⟩ = sp (ix2 a k) := by
  unfold both
  rw [dif_pos k.2]

theorem top_apply (sc sp : FVec Ideal T .f32) (a : Fin 128) : top sc sp (ix2 a 0) = peak (both sc sp a) := by
  rw [peak_halves]
  simp only [both_cur, both_prev]
  unfold peak
  rw [← neg_inf]
  pointwise [top]

theorem mix_left (sc sp : FVec Ideal T .f32) (vc vp : Vec Ideal B .bf16) (a d : Fin 128) :
    mix sc sp vc vp (ix2 a ⟨d, by omega⟩) = ∑ x, Ideal.exp (sc (ix2 a x) - top sc sp (ix2 a 0)) * vc (ix4 0 0 x d)
      + ∑ x, Ideal.exp (sp (ix2 a x) - top sc sp (ix2 a 0)) * vp (ix4 0 0 x d) := by
  have := d.2
  pointwise [mix, dotNN]

theorem mix_right (sc sp : FVec Ideal T .f32) (vc vp : Vec Ideal B .bf16) (a : Fin 128) :
    mix sc sp vc vp (ix2 a 128) = mass (both sc sp a) := by
  unfold mass
  rw [sum_halves]
  simp only [both_cur, both_prev, ← top_apply]
  pointwise [mix, dotNN]

theorem outB_apply (sc sp : FVec Ideal T .f32) (vc vp : Vec Ideal B .bf16) (a d : Fin 128) :
    outB sc sp vc vp (ix4 0 0 a d) = Ideal.div (mix sc sp vc vp (ix2 a ⟨d, by omega⟩)) (mix sc sp vc vp (ix2 a 128)) := by
  pointwise [outB]

theorem lseC_apply (sc sp : FVec Ideal T .f32) (vc vp : Vec Ideal B .bf16) (a : Fin 128) :
    lseC sc sp vc vp (ix2 a 0) = top sc sp (ix2 a 0) + Ideal.log (mix sc sp vc vp (ix2 a 128)) := by
  pointwise [lseC]

theorem toInt_nat {c : ℕ} (h : c < 65536) : (BitVec.ofNat 32 c).toInt = c := by
  rw [← BitVec.ofInt_natCast]
  exact toInt_small (by omega) (by omega)

theorem lanes_apply (lo hi : ℕ) (hlo : lo < 65536) (hhi : hi < 65536) (x : FVec Ideal C .f32) (z : FVec Ideal T .f32) (a c : Fin 128) :
    lanes (BitVec.ofNat 32 lo) (BitVec.ofNat 32 hi) x z (ix2 a c) = if lo ≤ c.val ∧ c.val < hi then x (ix2 a 0) else z (ix2 a c) := by
  have hc : c.val < 65536 := by have := c.2; omega
  have e1 : IntOp.cmpi .sge (BitVec.ofNat 32 c.val) (BitVec.ofNat 32 lo) = BitVec.ofBool (decide (lo ≤ c.val)) := by
    unfold IntOp.cmpi; simp only [BitVec.sle, toInt_nat hc, toInt_nat hlo, Nat.cast_le]
  have e2 : IntOp.cmpi .slt (BitVec.ofNat 32 c.val) (BitVec.ofNat 32 hi) = BitVec.ofBool (decide (c.val < hi)) := by
    unfold IntOp.cmpi; simp only [BitVec.slt, toInt_nat hc, toInt_nat hhi, Nat.cast_lt]
  refine Eq.trans (b := Scalar.select (IntOp.andi (IntOp.cmpi .sge (BitVec.ofNat 32 c.val) (BitVec.ofNat 32 lo))
    (IntOp.cmpi .slt (BitVec.ofNat 32 c.val) (BitVec.ofNat 32 hi))) (x (ix2 a 0)) (z (ix2 a c))) (by pointwise [lanes]) ?_
  rw [e1, e2, and_bool, select_bool]

theorem lseB_apply (l : Fin 4 → FVec Ideal C .f32) (a : Fin 128) (h : Fin 4) (d : Fin 32) :
    lseB (l 0) (l 1) (l 2) (l 3) (ix4 0 0 a ⟨32 * h + d, by omega⟩) = l h (ix2 a 0) := by
  refine Eq.trans (b := lanes 96#32 128#32 (l 3) (lanes 64#32 96#32 (l 2) (lanes 32#32 64#32 (l 1) (lanes 0#32 32#32 (l 0)
    (broadcast T (Scalar.ofBits .f32 0x00000000#32 : Ideal .f32))))) (ix2 a ⟨32 * h + d, by omega⟩)) (by pointwise [lseB]) ?_
  rw [lanes_apply 96 128 (by omega) (by omega), lanes_apply 64 96 (by omega) (by omega), lanes_apply 32 64 (by omega) (by omega),
    lanes_apply 0 32 (by omega) (by omega)]
  have := d.2
  match h with
  | 0 => rw [if_neg (by simp <;> omega), if_neg (by simp <;> omega), if_neg (by simp <;> omega), if_pos (by simp)]
  | 1 => rw [if_neg (by simp <;> omega), if_neg (by simp <;> omega), if_pos (by simp <;> omega)]
  | 2 => rw [if_neg (by simp <;> omega), if_pos (by simp <;> omega)]
  | 3 => rw [if_pos (by simp <;> omega)]

/-! ### A head of a block from the blocks it loads -/

/-- One head's output from its blocks; `lim` bounds the rows back into the block before. -/
def headPiece (bias lim : BitVec 32) (q kc vc kp vp : Vec Ideal B .bf16) : FVec Ideal B .f32 :=
  outB (score bias dc (cmpi .sge dc (broadcast T 0#32)) q kc) (score bias dp (cmpi .sle dp (broadcast T lim)) q kp) vc vp

/-- One head's log-denominator from its blocks. -/
def lsePiece (bias lim : BitVec 32) (q kc vc kp vp : Vec Ideal B .bf16) : FVec Ideal C .f32 :=
  lseC (score bias dc (cmpi .sge dc (broadcast T 0#32)) q kc) (score bias dp (cmpi .sle dp (broadcast T lim)) q kp) vc vp

/-- The bound: none of the block before is seen by the sequence's first block. -/
def Lim (w : BitVec 32) (n : ℕ) : Prop := w.toInt = if n = 0 then -1 else 128

/-- A 128 × 128 block holding an array's rows from `row` and columns from `col`. -/
def Blk (q : Vec Ideal B .bf16) (X : ℕ → ℕ → ℕ → ℕ → EReal) (b r row col : ℕ) : Prop :=
  ∀ a x : Fin 128, (q (ix4 0 0 a x) : EReal) = X b r (row + a) (col + x)

section Piece
variable {X : ℕ → ℕ → ℕ → ℕ → EReal} {β : ℕ → EReal} {b r h n : ℕ} {bias lim : BitVec 32} {q kc vc kp vp : Vec Ideal B .bf16}
  (hβ : Ideal.ofBits .f32 bias = β h) (hl : Lim lim n)
  (hq : Blk q X b r (128 * n) (128 * h)) (hkc : Blk kc X b r (128 * n) (512 + 128 * h))
  (hkp : n ≠ 0 → Blk kp X b r (128 * n - 128) (512 + 128 * h))
include hβ hl hq hkc hkp

theorem both_eq (a : Fin 128) :
    both (score bias dc (cmpi .sge dc (broadcast T 0#32)) q kc) (score bias dp (cmpi .sle dp (broadcast T lim)) q kp) a = scF X β b r h n a := by
  funext k
  have ha := a.2
  unfold both scF sc
  by_cases hk : k.val < 128
  · rw [dif_pos hk, score_apply, dp_apply, neg_inf, hβ]
    have e : cmpi .sle dp (broadcast T lim) (ix2 a ⟨k, hk⟩) = BitVec.ofBool (decide (Seen n a k)) := by
      show IntOp.cmpi .sle (dp (ix2 a ⟨k, hk⟩)) lim = _
      rw [dp_apply, sle_word (by omega) (by simp; omega) lim hl]
      congr 1
      refine decide_eq_decide.2 ?_
      unfold Seen
      simp only
      split_ifs <;> omega
    rw [e, select_bool]
    by_cases hs : Seen n a k
    · rw [if_pos hs, if_pos hs, toInt_small (by simp; omega) (by simp; omega)]
      have hn : n ≠ 0 := fun h0 => by have := hs.2.2 h0; omega
      unfold qk
      congr 2
      · refine Finset.sum_congr rfl fun x _ => ?_
        rw [hq, hkp hn]
        congr 2 <;> (try simp only) <;> omega
      · push_cast; rfl
    · rw [if_neg hs, if_neg hs]
  · rw [dif_neg hk, score_apply, dc_apply, neg_inf, hβ]
    have e : cmpi .sge dc (broadcast T 0#32) (ix2 a ⟨k - 128, by omega⟩) = BitVec.ofBool (decide (Seen n a k)) := by
      show IntOp.cmpi .sge (dc (ix2 a ⟨k - 128, by omega⟩)) 0#32 = _
      rw [dc_apply, sge_word (by simp; omega) (by simp; omega)]
      congr 1
      refine decide_eq_decide.2 ?_
      unfold Seen
      simp only
      omega
    rw [e, select_bool]
    by_cases hs : Seen n a k
    · rw [if_pos hs, if_pos hs, toInt_small (by simp; omega) (by simp; omega)]
      have e2 : 128 + (k.val - 128) = k.val := by omega
      unfold qk
      congr 2
      · refine Finset.sum_congr rfl fun x _ => ?_
        rw [hq, hkc]
        congr 2 <;> (try simp only) <;> omega
      · simp only [e2]; push_cast; rfl
    · rw [if_neg hs, if_neg hs]

theorem headPiece_apply (hvc : Blk vc X b r (128 * n) (1024 + 128 * h)) (hvp : n ≠ 0 → Blk vp X b r (128 * n - 128) (1024 + 128 * h))
    (a d : Fin 128) : headPiece bias lim q kc vc kp vp (ix4 0 0 a d) = head X β b r h n a d := by
  have hb := both_eq hβ hl hq hkc hkp a
  unfold headPiece head
  rw [outB_apply, mix_right, hb, mix_left, top_apply, hb, sum_halves]
  congr 2
  · refine Finset.sum_congr rfl fun k _ => ?_
    have e := both_cur (score bias dc (cmpi .sge dc (broadcast T 0#32)) q kc) (score bias dp (cmpi .sle dp (broadcast T lim)) q kp) a k
    rw [hb] at e
    rw [← e, hvc]
    unfold vl
    congr 2 <;> (try simp only) <;> omega
  · refine Finset.sum_congr rfl fun k _ => ?_
    have e := both_prev (score bias dc (cmpi .sge dc (broadcast T 0#32)) q kc) (score bias dp (cmpi .sle dp (broadcast T lim)) q kp) a k
    rw [hb] at e
    rw [← e]
    by_cases hn : n = 0
    · have e : scF X β b r h n a ⟨k, by omega⟩ = ⊥ := by
        unfold scF sc; rw [if_neg fun hs => by have : 128 ≤ k.val := hs.2.2 hn; have := k.2; omega]
      rw [e, EReal.bot_sub]
      exact (zero_mul _).trans (zero_mul _).symm
    · rw [hvp hn]
      unfold vl
      congr 2 <;> (try simp only) <;> omega

theorem lsePiece_apply (a : Fin 128) : lsePiece bias lim q kc vc kp vp (ix2 a 0) = logDen X β b r h n a := by
  have hb := both_eq hβ hl hq hkc hkp a
  unfold lsePiece logDen
  rw [lseC_apply, mix_right, top_apply, hb]

end Piece

end Attn

end
-- ==== Proof.Tile.lean ====
/-
  One grid point of the attention kernel: its output block as pieces (four heads and the log-denominators for each run
  of 128 rows), every piece a part of one function of the point's input blocks.
-/
module

public import proofs.«01_k».proof.Proof.Head
public import Idealize.ShloMosaic.Lib.Pipeline.Value
public import Idealize.ShloMosaic.Lib.Pipeline.ValueKit.Geometry
public import Idealize.ShloMosaic.Lib.Pipeline.ValueKit.Tiles

@[expose] public section

noncomputable section

namespace Attn

open Idealize.ShloMosaic

/-- An input block of `R` rows: 512 columns, a head in each 128. -/
abbrev SI (R : ℕ) : Shape := ⟨4, ![1, 1, R, 512]⟩
/-- The output block of `R` rows. -/
abbrev SU (R : ℕ) : Shape := ⟨4, ![1, 1, R, 640]⟩

/-- An input block holding an array's rows from `row` and columns from `col`. -/
def Win {R : ℕ} (x : Vec Ideal (SI R) .bf16) (X : ℕ → ℕ → ℕ → ℕ → EReal) (b r row col : ℕ) : Prop :=
  ∀ (a : Fin R) (y : Fin 512), (x (ix4 0 0 a y) : EReal) = X b r (row + a) (col + y)

/-- What a grid point's output block holds: the result's rows from `row`. -/
def block (R : ℕ) (X : ℕ → ℕ → ℕ → ℕ → EReal) (β : ℕ → EReal) (b r row : ℕ) : Vec Ideal (SU R) .f32 :=
  fun y => result X β b r (row + (y 2).val) (y 3).val

/-- What a head's piece is computed from, at block `n` of the sequence. -/
structure Loads (X : ℕ → ℕ → ℕ → ℕ → EReal) (β : ℕ → EReal) (b r n h : ℕ) (bias lim : BitVec 32) (q kc vc kp vp : Vec Ideal B .bf16) : Prop where
  bias_eq : Ideal.ofBits .f32 bias = β h
  lim_eq : Lim lim n
  q : Blk q X b r (128 * n) (128 * h)
  kc : Blk kc X b r (128 * n) (512 + 128 * h)
  vc : Blk vc X b r (128 * n) (1024 + 128 * h)
  kp : n ≠ 0 → Blk kp X b r (128 * n - 128) (512 + 128 * h)
  vp : n ≠ 0 → Blk vp X b r (128 * n - 128) (1024 + 128 * h)

variable {X : ℕ → ℕ → ℕ → ℕ → EReal} {β : ℕ → EReal} {b r n h R : ℕ} {bias lim : BitVec 32} {q kc vc kp vp : Vec Ideal B .bf16}

theorem Win.blk {x : Vec Ideal (SI R) .bf16} {row col : ℕ} (hx : Win x X b r row col) (ro co row' col' : ℕ) (hr : row + ro = row') (hc : col + co = col')
    (inb : ∀ a, (![0, 0, ro, co] : Fin 4 → ℕ) a + B.size a ≤ (SI R).size a) :
    Blk (View.ld (Val := Elt Ideal) x (Rect.unit (s := SI R) ![0, 0, ro, co] B.size inb)) X b r row' col' := by
  intro a y
  have h2 : ro + 128 ≤ R := inb 2
  have h3 : co + 128 ≤ 512 := inb 3
  refine (View.ld_unit_apply_of (Val := Elt Ideal) x _ _ inb (ix4 0 0 a y) (ix4 0 0 ⟨ro + a, by omega⟩ ⟨co + y, by omega⟩) fun a => ?_).trans ?_
  · match a with
    | ⟨0, _⟩ => rfl
    | ⟨1, _⟩ => rfl
    | ⟨2, _⟩ => rfl
    | ⟨3, _⟩ => rfl
  · rw [hx]
    simp only
    rw [← hr, ← hc, Nat.add_assoc, Nat.add_assoc]

theorem inside {M N ro co : ℕ} (hr : ro + 128 ≤ M) (hc : co + 128 ≤ N) :
    ∀ a, (![0, 0, ro, co] : Fin 4 → ℕ) a + B.size a ≤ (⟨4, ![1, 1, M, N]⟩ : Shape).size a
  | ⟨0, _⟩ => le_refl 1
  | ⟨1, _⟩ => le_refl 1
  | ⟨2, _⟩ => hr
  | ⟨3, _⟩ => hc

/-- A 128 × 128 part of an input block. -/
abbrev part {R : ℕ} (x : Vec Ideal (SI R) .bf16) (ro co : ℕ) (hr : ro + 128 ≤ R) (hc : co + 128 ≤ 512) : Vec Ideal B .bf16 :=
  View.ld (Val := Elt Ideal) x (Rect.unit (s := SI R) ![0, 0, ro, co] B.size (inside hr hc))

theorem Loads.of {Rk : ℕ} {x0 x2 x4 : Vec Ideal (SI R) .bf16} {xk xv : Vec Ideal (SI Rk) .bf16} {row rowk : ℕ}
    (w0 : Win x0 X b r row 0) (w2 : Win x2 X b r row 512) (w4 : Win x4 X b r row 1024)
    (wk : n ≠ 0 → Win xk X b r rowk 512) (wv : n ≠ 0 → Win xv X b r rowk 1024)
    (hl : Lim lim n) (hb : Ideal.ofBits .f32 bias = β h) (ro rok : ℕ) (hro : row + ro = 128 * n) (hrok : n ≠ 0 → rowk + rok = 128 * n - 128)
    (hR : ro + 128 ≤ R) (hRk : rok + 128 ≤ Rk) (hh : 128 * h + 128 ≤ 512) :
    Loads X β b r n h bias lim (part x0 ro (128 * h) hR hh) (part x2 ro (128 * h) hR hh) (part x4 ro (128 * h) hR hh)
      (part xk rok (128 * h) hRk hh) (part xv rok (128 * h) hRk hh) where
  bias_eq := hb
  lim_eq := hl
  q := w0.blk ro _ _ _ hro (by omega) _
  kc := w2.blk ro _ _ _ hro rfl _
  vc := w4.blk ro _ _ _ hro rfl _
  kp hn := (wk hn).blk rok _ _ _ (hrok hn) rfl _
  vp hn := (wv hn).blk rok _ _ _ (hrok hn) rfl _

theorem head_good {row ro : ℕ} (hro : row + ro = 128 * n) (hR : ro + 128 ≤ R) (hh : 128 * h + 128 ≤ 512)
    (L : Loads X β b r n h bias lim q kc vc kp vp) (x : B.Idx) :
    headPiece bias lim q kc vc kp vp x = block R X β b r row ((Rect.unit (s := SU R) ![0, 0, ro, 128 * h] B.size (inside hR (by omega))).emb x) := by
  obtain ⟨x0, x1, a, d, rfl⟩ : ∃ (x0 x1 : Fin 1) (a d : Fin 128), x = ix4 x0 x1 a d := ⟨x 0, x 1, x 2, x 3, (eq_ix4 x)⟩
  obtain rfl := Subsingleton.elim x0 0
  obtain rfl := Subsingleton.elim x1 0
  rw [headPiece_apply L.bias_eq L.lim_eq L.q L.kc L.kp L.vc L.vp]
  unfold block
  have e2 : ((Rect.unit (s := SU R) ![0, 0, ro, 128 * h] B.size (inside hR (by omega))).emb (ix4 0 0 a d) 2).val = ro + a.val := ValueKit.rect_emb_unit_val ..
  have e3 : ((Rect.unit (s := SU R) ![0, 0, ro, 128 * h] B.size (inside hR (by omega))).emb (ix4 0 0 a d) 3).val = 128 * h + d.val := ValueKit.rect_emb_unit_val ..
  rw [e2, e3]
  unfold result
  have ha := a.2; have hd := d.2
  rw [if_pos (by omega)]
  congr 1 <;> omega

theorem lse_good {row ro : ℕ} (hro : row + ro = 128 * n) (hR : ro + 128 ≤ R) {bias0 bias1 bias2 bias3 : BitVec 32} {q0 kc0 vc0 kp0 vp0 q1 kc1 vc1 kp1 vp1 q2 kc2 vc2 kp2 vp2 q3 kc3 vc3 kp3 vp3 : Vec Ideal B .bf16}
    (L0 : Loads X β b r n 0 bias0 lim q0 kc0 vc0 kp0 vp0) (L1 : Loads X β b r n 1 bias1 lim q1 kc1 vc1 kp1 vp1)
    (L2 : Loads X β b r n 2 bias2 lim q2 kc2 vc2 kp2 vp2) (L3 : Loads X β b r n 3 bias3 lim q3 kc3 vc3 kp3 vp3)
    (x : B.Idx) :
    lseB (lsePiece bias0 lim q0 kc0 vc0 kp0 vp0) (lsePiece bias1 lim q1 kc1 vc1 kp1 vp1) (lsePiece bias2 lim q2 kc2 vc2 kp2 vp2)
      (lsePiece bias3 lim q3 kc3 vc3 kp3 vp3) x = block R X β b r row ((Rect.unit (s := SU R) ![0, 0, ro, 512] B.size (inside hR (by omega))).emb x) := by
  obtain ⟨x0, x1, a, d, rfl⟩ : ∃ (x0 x1 : Fin 1) (a d : Fin 128), x = ix4 x0 x1 a d := ⟨x 0, x 1, x 2, x 3, (eq_ix4 x)⟩
  obtain rfl := Subsingleton.elim x0 0
  obtain rfl := Subsingleton.elim x1 0
  have ha := a.2
  obtain ⟨h, y, hd⟩ : ∃ (h : Fin 4) (y : Fin 32), d = ⟨32 * h + y, by omega⟩ :=
    ⟨⟨d.val / 32, by omega⟩, ⟨d.val % 32, by omega⟩, Fin.ext (by simp only; omega)⟩
  subst hd
  refine (lseB_apply ![_, _, _, _] a h y).trans ?_
  unfold block
  have e2 : ((Rect.unit (s := SU R) ![0, 0, ro, 512] B.size (inside hR (by omega))).emb (ix4 0 0 a ⟨32 * h + y, by omega⟩) 2).val = ro + a.val := ValueKit.rect_emb_unit_val ..
  have e3 : ((Rect.unit (s := SU R) ![0, 0, ro, 512] B.size (inside hR (by omega))).emb (ix4 0 0 a ⟨32 * h + y, by omega⟩) 3).val = 512 + (32 * h.val + y.val) := ValueKit.rect_emb_unit_val ..
  rw [e2, e3]
  unfold result
  have hy := y.2
  rw [if_neg (by omega)]
  have e : logDen X β b r ((512 + (32 * h.val + y.val) - 512) / 32) ((row + (ro + a.val)) / 128) ((row + (ro + a.val)) % 128) = logDen X β b r h n a := by
    congr 1 <;> omega
  rw [e]
  match h with
  | 0 => exact lsePiece_apply L0.bias_eq L0.lim_eq L0.q L0.kc L0.kp a
  | 1 => exact lsePiece_apply L1.bias_eq L1.lim_eq L1.q L1.kc L1.kp a
  | 2 => exact lsePiece_apply L2.bias_eq L2.lim_eq L2.q L2.kc L2.kp a
  | 3 => exact lsePiece_apply L3.bias_eq L3.lim_eq L3.q L3.kc L3.kp a

/-- A list of pieces, each a part of one function. -/
theorem good_cons {S : Shape} {G : S.Idx → EReal} {p : View.Piece (Elt Ideal) S .f32} {l : List (View.Piece (Elt Ideal) S .f32)}
    (hp : ∀ x, p.2 x = G (p.1.emb x)) (hl : ∀ q ∈ l, ∀ x, q.2 x = G (q.1.emb x)) : ∀ q ∈ p :: l, ∀ x, q.2 x = G (q.1.emb x) :=
  List.forall_mem_cons.2 ⟨hp, hl⟩

theorem good_nil {S : Shape} {G : S.Idx → EReal} : ∀ q ∈ ([] : List (View.Piece (Elt Ideal) S .f32)), ∀ x, q.2 x = G (q.1.emb x) :=
  fun _ h => absurd h List.not_mem_nil

/-- The bound a later run of rows has: all of the block before is seen as far as the window goes. -/
theorem lim_rest (hn : n ≠ 0) : Lim 128#32 n := by unfold Lim; rw [if_neg hn]; rfl

/-- The bound the first run of rows has, from the grid's counter. -/
theorem lim_first (k : ℕ) (hk : k < 65536) (hn : n = 0 ↔ k = 0) :
    Lim (Scalar.select (Scalar.cmpi .sgt (BitVec.ofNat 32 k) 0#32) 128#32 4294967295#32) n := by
  have e : Scalar.cmpi .sgt (BitVec.ofNat 32 k) 0#32 = BitVec.ofBool (decide (0 < k)) := by
    unfold Scalar.cmpi IntOp.cmpi
    simp only [BitVec.slt, toInt_nat hk]
    congr 1
    simp
  unfold Lim
  rw [e, select_bool]
  by_cases h : k = 0
  · rw [if_neg (by omega), if_pos (hn.2 h)]; rfl
  · rw [if_pos (by omega), if_neg (fun h0 => h (hn.1 h0))]; rfl

end Attn

end
-- ==== Proof.RefTerm.lean ====
module

public import Idealize.ShloMosaic.Lib.Pipeline
public import Idealize.ShloMosaic.Lib.Pointwise
public import Idealize.ShloMosaic.Lib.Pointwise.IndexVar
public import Idealize.ShloMosaic.Lib.ValueIdxRank6
public import Idealize.ShloMosaic.PureOps

@[expose] public section

noncomputable section

/-! The plain banded attention over `D` residues of `N` blocks of 128 rows (`L` rows), in stages, as its host
    operations write it. -/

namespace Attn.Ref

open Idealize.ShloMosaic

abbrev SX (D L : ℕ) : Shape := ⟨4, ![4, D, L, 1536]⟩
abbrev SG (D L : ℕ) : Shape := ⟨4, ![4, D, L, 512]⟩
abbrev SH (D L : ℕ) : Shape := ⟨5, ![4, D, L, 4, 128]⟩
abbrev ST (D L : ℕ) : Shape := ⟨5, ![4, 4, D, L, 128]⟩
abbrev SB (D N : ℕ) : Shape := ⟨6, ![4, 4, D, N, 128, 128]⟩
abbrev SK (D N : ℕ) : Shape := ⟨6, ![4, 4, D, N, 256, 128]⟩
abbrev SS (D N : ℕ) : Shape := ⟨6, ![4, 4, D, N, 128, 256]⟩
abbrev SR (D N : ℕ) : Shape := ⟨5, ![4, 4, D, N, 128]⟩
abbrev SR1 (D N : ℕ) : Shape := ⟨6, ![4, 4, D, N, 128, 1]⟩
abbrev S0 : Shape := ⟨0, ![]⟩
abbrev V1 : Shape := ⟨1, ![1]⟩
abbrev V4 : Shape := ⟨1, ![4]⟩
abbrev VQ : Shape := ⟨1, ![128]⟩
abbrev VK : Shape := ⟨1, ![256]⟩
abbrev VN (N : ℕ) : Shape := ⟨1, ![N]⟩
abbrev Q1 : Shape := ⟨2, ![128, 1]⟩
abbrev K1 : Shape := ⟨2, ![1, 256]⟩
abbrev QK : Shape := ⟨2, ![128, 256]⟩
abbrev K11 : Shape := ⟨3, ![1, 1, 256]⟩
abbrev QK1 : Shape := ⟨3, ![1, 128, 256]⟩
abbrev N1 (N : ℕ) : Shape := ⟨3, ![N, 1, 1]⟩
abbrev NK (N : ℕ) : Shape := ⟨3, ![N, 1, 256]⟩
abbrev NQK (N : ℕ) : Shape := ⟨3, ![N, 128, 256]⟩
abbrev H6 : Shape := ⟨6, ![1, 4, 1, 1, 1, 1]⟩
abbrev D6 : Shape := ⟨6, ![1, 1, 1, 1, 128, 256]⟩
abbrev HD6 : Shape := ⟨6, ![1, 4, 1, 1, 128, 256]⟩
abbrev SE (D L : ℕ) : Shape := ⟨4, ![4, 4, D, L]⟩
abbrev SET (D L : ℕ) : Shape := ⟨4, ![4, D, L, 4]⟩
abbrev SER (D L : ℕ) : Shape := ⟨5, ![4, D, L, 4, 32]⟩
abbrev SEW (D L : ℕ) : Shape := ⟨4, ![4, D, L, 128]⟩
abbrev SO (D L : ℕ) : Shape := ⟨4, ![4, D, L, 640]⟩

/-- The side conditions of the operations at these sizes; `M` is one block less than `N`. -/
structure Ok (D N M L : ℕ) : Prop where
  hL : L = N * 128
  hM : N = M + 1
  sl0 : (SX D L).Slices ![0, 0, 0, 0] (SG D L)
  sl1 : (SX D L).Slices ![0, 0, 0, 512] (SG D L)
  sl2 : (SX D L).Slices ![0, 0, 0, 1024] (SG D L)
  cGH : (SG D L).ShapeCasts (SH D L)
  tHT : (SH D L).Transposes [0, 3, 1, 2, 4] (ST D L)
  cTB : (ST D L).ShapeCasts (SB D N)
  slM : (SB D N).Slices ![0, 0, 0, 0, 0, 0] (SB D M)
  pM : (SB D M).Pads ![0, 0, 0, 1, 0, 0] ![0, 0, 0, 0, 0, 0] ![0, 0, 0, 0, 0, 0] (SB D N)
  cat : Shape.Concatenates [SB D N, SB D N] (SK D N) 4
  wfS : DotDims.WF (SB D N) (SK D N) (SS D N) [5] [5] [4] [4] [0, 1, 2, 3] [0, 1, 2, 3]
  wfO : DotDims.WF (SS D N) (SK D N) (SB D N) [5] [4] [4] [5] [0, 1, 2, 3] [0, 1, 2, 3]
  bN : (VN N).BroadcastsInDim (N1 N) ![0]
  b0N : S0.BroadcastsInDim (N1 N) ![]
  bNK : (N1 N).BroadcastsInDim (NK N) ![0, 1, 2]
  bK11 : K11.BroadcastsInDim (NK N) ![0, 1, 2]
  b0NK : S0.BroadcastsInDim (NK N) ![]
  bQK1 : QK1.BroadcastsInDim (NQK N) ![0, 1, 2]
  bNQK : (NK N).BroadcastsInDim (NQK N) ![0, 1, 2]
  bM : (NQK N).BroadcastsInDim (SS D N) ![3, 4, 5]
  b0S : S0.BroadcastsInDim (SS D N) ![]
  bHD : HD6.BroadcastsInDim (SS D N) ![0, 1, 2, 3, 4, 5]
  bR : (SR D N).BroadcastsInDim (SR1 D N) ![0, 1, 2, 3, 4]
  bR1 : (SR1 D N).BroadcastsInDim (SS D N) ![0, 1, 2, 3, 4, 5]
  red : (SS D N).ReducesTo [5] (SR D N)
  cBT : (SB D N).ShapeCasts (ST D L)
  tTH : (ST D L).Transposes [0, 2, 3, 1, 4] (SH D L)
  cHG : (SH D L).ShapeCasts (SG D L)
  cRE : (SR D N).ShapeCasts (SE D L)
  tE : (SE D L).Transposes [0, 2, 3, 1] (SET D L)
  bE : (SET D L).BroadcastsInDim (SER D L) ![0, 1, 2, 3]
  cE : (SER D L).ShapeCasts (SEW D L)
  catO : Shape.Concatenates [SG D L, SEW D L] (SO D L) 3

theorem pos0 : 0 < S0.numel := by decide
theorem b01 : S0.BroadcastsInDim V1 ![] := by decide
theorem cat4 : Shape.Concatenates [V1, V1, V1, V1] V4 0 := by decide
theorem bQ1 : VQ.BroadcastsInDim Q1 ![0] := by decide
theorem b0Q1 : S0.BroadcastsInDim Q1 ![] := by decide
theorem bQ : Q1.BroadcastsInDim QK ![0, 1] := by decide
theorem bK1 : VK.BroadcastsInDim K1 ![1] := by decide
theorem bK : K1.BroadcastsInDim QK ![0, 1] := by decide
theorem bK2 : K1.BroadcastsInDim K11 ![1, 2] := by decide
theorem b0QK : S0.BroadcastsInDim QK ![] := by decide
theorem bQKQ : QK.BroadcastsInDim QK1 ![1, 2] := by decide
theorem bH6 : V4.BroadcastsInDim H6 ![1] := by decide
theorem bD6 : QK.BroadcastsInDim D6 ![4, 5] := by decide
theorem bHH : H6.BroadcastsInDim HD6 ![0, 1, 2, 3, 4, 5] := by decide
theorem bDD : D6.BroadcastsInDim HD6 ![0, 1, 2, 3, 4, 5] := by decide
theorem widen : FTy.bits .bf16 < FTy.bits .f32 := by decide

section Terms
variable {D N M L : ℕ} (ok : Ok D N M L)
include ok

/-- One third of the columns by head and block. -/
def blocks (x : FVec Ideal (SG D L) .f32) : FVec Ideal (SB D N) .f32 :=
  shapeCast (SB D N) (transpose (ST D L) [0, 3, 1, 2, 4] (shapeCast (SH D L) x ok.cGH) ok.tHT) ok.cTB

/-- Each block of keys behind the block before it, zeros before the first. -/
def withPrev (y : FVec Ideal (SB D N) .f32) : FVec Ideal (SK D N) .f32 :=
  concatenate (SK D N) 4 [⟨SB D N, pad (SB D N) ![0, 0, 0, 1, 0, 0] ![0, 0, 0, 0, 0, 0] ![0, 0, 0, 0, 0, 0]
    (extractStridedSlice (SB D M) ![0, 0, 0, 0, 0, 0] y ok.slM) (sitofp .f32 (constantI S0 32 0#32) : FVec Ideal S0 .f32)
    ok.pM pos0⟩, ⟨SB D N, y⟩] ok.cat

def dotS : DotDims (SB D N) (SK D N) (SS D N) where
  lhsContracting := [5]
  rhsContracting := [5]
  lhsNonContracting := [4]
  rhsNonContracting := [4]
  lhsBatch := [0, 1, 2, 3]
  rhsBatch := [0, 1, 2, 3]
  wf := ok.wfS

def dotO : DotDims (SS D N) (SK D N) (SB D N) where
  lhsContracting := [5]
  rhsContracting := [4]
  lhsNonContracting := [4]
  rhsNonContracting := [5]
  lhsBatch := [0, 1, 2, 3]
  rhsBatch := [0, 1, 2, 3]
  wf := ok.wfO

def qB (x : FVec Ideal (SX D L) .bf16) : FVec Ideal (SB D N) .f32 :=
  blocks ok (extractStridedSlice (SG D L) ![0, 0, 0, 0] (extf .f32 x widen) ok.sl0)
def kB (x : FVec Ideal (SX D L) .bf16) : FVec Ideal (SK D N) .f32 :=
  withPrev ok (blocks ok (extractStridedSlice (SG D L) ![0, 0, 0, 512] (extf .f32 x widen) ok.sl1))
def vB (x : FVec Ideal (SX D L) .bf16) : FVec Ideal (SK D N) .f32 :=
  withPrev ok (blocks ok (extractStridedSlice (SG D L) ![0, 0, 0, 1024] (extf .f32 x widen) ok.sl2))

omit ok in
/-- `j`: query position minus key position. -/
def gap : IVec QK 32 :=
  subi (broadcastInDim QK ![0, 1] bQ (addi (broadcastInDim Q1 ![0] bQ1 (iotaInDim VQ 32 0)) (broadcastInDim Q1 ![] b0Q1 (constantI S0 32 128#32))))
    (broadcastInDim QK ![0, 1] bK (broadcastInDim K1 ![1] bK1 (iotaInDim VK 32 0)))

/-- The position of each key, negative before the sequence. -/
def keyPos : IVec (NK N) 32 :=
  subi (addi (broadcastInDim (NK N) ![0, 1, 2] ok.bNK (muli (broadcastInDim (N1 N) ![0] ok.bN (iotaInDim (VN N) 32 0)) (broadcastInDim (N1 N) ![] ok.b0N (constantI S0 32 128#32))))
      (broadcastInDim (NK N) ![0, 1, 2] ok.bK11 (broadcastInDim K11 ![1, 2] bK2 (broadcastInDim K1 ![1] bK1 (iotaInDim VK 32 0)))))
    (broadcastInDim (NK N) ![] ok.b0NK (constantI S0 32 128#32))

def valid : IVec (NQK N) 1 :=
  andi (broadcastInDim (NQK N) ![0, 1, 2] ok.bQK1 (broadcastInDim QK1 ![1, 2] bQKQ
      (andi (cmpi .sge gap (broadcastInDim QK ![] b0QK (constantI S0 32 0#32))) (cmpi .sle gap (broadcastInDim QK ![] b0QK (constantI S0 32 128#32))))))
    (broadcastInDim (NQK N) ![0, 1, 2] ok.bNQK (cmpi .sge (keyPos ok) (broadcastInDim (NK N) ![] ok.b0NK (constantI S0 32 0#32))))

omit ok in
/-- The four slopes. -/
def slopes (w0 w1 w2 w3 : BitVec 32) : FVec Ideal V4 .f32 :=
  concatenate V4 0 [⟨V1, (broadcastInDim V1 ![] b01 (constant S0 .f32 w0) : FVec Ideal V1 .f32)⟩,
    ⟨V1, (broadcastInDim V1 ![] b01 (constant S0 .f32 w1) : FVec Ideal V1 .f32)⟩,
    ⟨V1, (broadcastInDim V1 ![] b01 (constant S0 .f32 w2) : FVec Ideal V1 .f32)⟩,
    ⟨V1, (broadcastInDim V1 ![] b01 (constant S0 .f32 w3) : FVec Ideal V1 .f32)⟩] cat4

omit ok in
/-- The bias of a head at a query and a key. -/
def bias (dil : BitVec 32) (sl : FVec Ideal V4 .f32) : FVec Ideal HD6 .f32 :=
  mulf (broadcastInDim HD6 ![0, 1, 2, 3, 4, 5] bHH (broadcastInDim H6 ![1] bH6 sl))
    (broadcastInDim HD6 ![0, 1, 2, 3, 4, 5] bDD (broadcastInDim D6 ![4, 5] bD6
      (sitofp .f32 (muli (broadcastInDim QK ![] b0QK (constantI S0 32 dil)) gap))))

/-- The scores, before the mask. -/
def rawScores (dil : BitVec 32) (sl : FVec Ideal V4 .f32) (q : FVec Ideal (SB D N) .f32) (k : FVec Ideal (SK D N) .f32) : FVec Ideal (SS D N) .f32 :=
  subf (mulf (Host.dotGeneral (dotS ok) none q k) (broadcastInDim (SS D N) ![] ok.b0S (constant S0 .f32 0x3DB504F3#32)))
    (broadcastInDim (SS D N) ![0, 1, 2, 3, 4, 5] ok.bHD (bias dil sl))

/-- The masked scores. -/
def scores (dil : BitVec 32) (sl : FVec Ideal V4 .f32) (q : FVec Ideal (SB D N) .f32) (k : FVec Ideal (SK D N) .f32) : FVec Ideal (SS D N) .f32 :=
  select (broadcastInDim (SS D N) ![3, 4, 5] ok.bM (valid ok)) (rawScores ok dil sl q k)
    (broadcastInDim (SS D N) ![] ok.b0S (id (constant S0 .f32 0xFF800000#32)))

/-- One number of each row, against all its keys. -/
def rows (x : FVec Ideal (SR D N) .f32) : FVec Ideal (SS D N) .f32 :=
  broadcastInDim (SS D N) ![0, 1, 2, 3, 4, 5] ok.bR1 (broadcastInDim (SR1 D N) ![0, 1, 2, 3, 4] ok.bR x)

def top (s : FVec Ideal (SS D N) .f32) : FVec Ideal (SR D N) .f32 :=
  Host.reduce FloatOps.maximumf s (constant S0 .f32 0xFF800000#32) ok.red pos0

/-- The log-denominators. -/
def lse (s : FVec Ideal (SS D N) .f32) : FVec Ideal (SR D N) .f32 :=
  addf (top ok s) (Host.log (Host.reduceAdd (Host.exp (subf s (rows ok (top ok s)))) (constant S0 .f32 0x00000000#32) ok.red pos0))

/-- The heads' outputs. -/
def heads (s : FVec Ideal (SS D N) .f32) (v : FVec Ideal (SK D N) .f32) : FVec Ideal (SB D N) .f32 :=
  Host.dotGeneral (dotO ok) none (Host.exp (subf s (rows ok (lse ok s)))) v

/-- The result: the heads' outputs beside the log-denominators, 32 columns each. -/
def join (o : FVec Ideal (SB D N) .f32) (e : FVec Ideal (SR D N) .f32) : FVec Ideal (SO D L) .f32 :=
  concatenate (SO D L) 3 [⟨SG D L, shapeCast (SG D L) (transpose (SH D L) [0, 2, 3, 1, 4] (shapeCast (ST D L) o ok.cBT) ok.tTH) ok.cHG⟩,
    ⟨SEW D L, shapeCast (SEW D L) (broadcastInDim (SER D L) ![0, 1, 2, 3] ok.bE (transpose (SET D L) [0, 2, 3, 1] (shapeCast (SE D L) e ok.cRE) ok.tE)) ok.cE⟩] ok.catO

/-- The whole of it. -/
def out (dil w0 w1 w2 w3 : BitVec 32) (x : FVec Ideal (SX D L) .bf16) : FVec Ideal (SO D L) .f32 :=
  join ok (heads ok (scores ok dil (slopes w0 w1 w2 w3) (qB ok x) (kB ok x)) (vB ok x))
    (lse ok (scores ok dil (slopes w0 w1 w2 w3) (qB ok x) (kB ok x)))

end Terms

end Attn.Ref

end
-- ==== Proof.RefRead.lean ====
module

public import proofs.«01_k».proof.Proof.RefTerm
public import proofs.«01_k».proof.Proof.Spec

@[expose] public section

noncomputable section

/-! The plain banded attention read at an index: it is `Attn.result`. -/

namespace Attn.Ref

open Idealize.ShloMosaic

set_option maxRecDepth 16384

variable {D N M L : ℕ} (ok : Ok D N M L)

/-- A row of a block, in the sequence. -/
theorem row_lt (ok : Ok D N M L) (n : Fin N) (a : Fin 128) : 128 * n.val + a < L := by
  have := ok.hL; have := n.2; have := a.2; omega

theorem blocks_apply (x : FVec Ideal (SG D L) .f32) (b h : Fin 4) (r : Fin D) (n : Fin N) (a d : Fin 128) :
    blocks ok x (ix6 b h r n a d) = x (ix4 b r ⟨128 * n + a, row_lt ok n a⟩ ⟨128 * h + d, by omega⟩) := by
  refine (shapeCast_apply _ ok.cTB _ (ix5 b h r ⟨128 * n + a, row_lt ok n a⟩ d) ?_).trans ?_
  · rw [Shape.rowMajor_val_five, Shape.rowMajor_val_six]
    show (((b.val * 4 + h.val) * D + r.val) * L + (128 * n.val + a.val)) * 128 + d.val
      = ((((b.val * 4 + h.val) * D + r.val) * N + n.val) * 128 + a.val) * 128 + d.val
    rw [ok.hL]
    ring
  · refine (transpose_apply _ _ ok.tHT _ (ix5 b r ⟨128 * n + a, row_lt ok n a⟩ h d) fun x => match x with
      | ⟨0, _⟩ => rfl | ⟨1, _⟩ => rfl | ⟨2, _⟩ => rfl | ⟨3, _⟩ => rfl | ⟨4, _⟩ => rfl).trans ?_
    refine shapeCast_apply _ ok.cGH _ _ ?_
    rw [Shape.rowMajor_val_five, Shape.rowMajor_val_four]
    show ((b.val * D + r.val) * L + (128 * n.val + a.val)) * 512 + (128 * h.val + d.val) = (((b.val * D + r.val) * L + (128 * n.val + a.val)) * 4 + h.val) * 128 + d.val
    ring

theorem withPrev_apply (y : FVec Ideal (SB D N) .f32) (b h : Fin 4) (r : Fin D) (n : Fin N) (k : Fin 256) (d : Fin 128) :
    withPrev ok y (ix6 b h r n k d) = if h1 : k.val < 128 then
        (if h2 : 1 ≤ n.val then y (ix6 b h r ⟨n - 1, by omega⟩ ⟨k, h1⟩ d) else 0)
      else y (ix6 b h r n ⟨k - 128, by omega⟩ d) := by
  have hM := ok.hM
  have z : (FloatOps.sitofp FTy.f32 0#32 : Ideal .f32) = 0 := by
    show (((0#32).toInt : ℝ) : EReal) = 0
    simp
  pointwise [withPrev]
  by_cases h1 : k.val < 128
  · rw [dif_pos h1, dif_pos h1]
    by_cases h2 : 1 ≤ n.val
    · rw [dif_pos h2, dif_pos ⟨⟨h2, by omega⟩, h1⟩]
    · rw [dif_neg h2, dif_neg fun h => h2 h.1.1, z]
  · rw [dif_neg h1, dif_neg h1]

theorem gap_apply (a : Fin 128) (k : Fin 256) : gap (ix2 a k) = BitVec.ofInt 32 ((a.val : ℤ) + 128 - k.val) := by
  refine Eq.trans ?_ (gap_word a k)
  pointwise [gap]

theorem unit_val {m : ℕ} (n : Fin m) : n.val = if m = 1 then 0 else n.val := by
  have := n.2
  split_ifs <;> omega

theorem keyPos_apply (n : Fin N) (k : Fin 256) : keyPos ok (ix3 n 0 k) = BitVec.ofInt 32 ((n.val : ℤ) * 128 + k.val - 128) := by
  refine Eq.trans ?_ (pos_word n k)
  unfold keyPos
  refine congrArg₂ IntOp.subi (congrArg₂ IntOp.addi ?_ ?_) rfl
  · refine (broadcastInDim_apply _ ok.bNK _ (ix3 n 0 k) (ix3 n 0 0) fun x => match x with
      | ⟨0, _⟩ => unit_val n | ⟨1, _⟩ => rfl | ⟨2, _⟩ => rfl).trans ?_
    refine congrArg₂ IntOp.muli ?_ rfl
    exact broadcastInDim_apply _ ok.bN _ _ (ix1 n) fun x => match x with | ⟨0, _⟩ => unit_val n
  · refine (broadcastInDim_apply _ ok.bK11 _ _ (ix3 0 0 k) fun x => match x with
      | ⟨0, _⟩ => rfl | ⟨1, _⟩ => rfl | ⟨2, _⟩ => rfl).trans ?_
    pointwise []

theorem valid_apply (n : Fin N) (hN : N ≤ 64) (a : Fin 128) (k : Fin 256) :
    valid ok (ix3 n a k) = BitVec.ofBool (decide (Seen n a k)) := by
  have := n.2
  have e : valid ok (ix3 n a k) = IntOp.andi (IntOp.andi (IntOp.cmpi .sge (gap (ix2 a k)) 0#32) (IntOp.cmpi .sle (gap (ix2 a k)) 128#32))
      (IntOp.cmpi .sge (keyPos ok (ix3 n 0 k)) 0#32) := by
    unfold valid
    refine congrArg₂ IntOp.andi ?_ ?_
    · refine (broadcastInDim_apply _ ok.bQK1 _ _ (ix3 0 a k) fun x => match x with
        | ⟨0, _⟩ => rfl | ⟨1, _⟩ => rfl | ⟨2, _⟩ => rfl).trans ?_
      pointwise []
    · exact broadcastInDim_apply _ ok.bNQK _ _ (ix3 n 0 k) fun x => match x with
        | ⟨0, _⟩ => unit_val n | ⟨1, _⟩ => rfl | ⟨2, _⟩ => rfl
  rw [e, gap_apply, keyPos_apply, sge_word (by omega) (by omega), sle_word (y := 128) (by omega) (by omega) _ rfl,
    sge_word (by omega) (by omega), and_bool, and_bool]
  congr 1
  refine decide_eq_decide.2 ?_
  unfold Seen
  omega

theorem slopes_apply (w : Fin 4 → BitVec 32) (h : Fin 4) : slopes (w 0) (w 1) (w 2) (w 3) (ix1 h) = Ideal.ofBits .f32 (w h) := by
  pointwise [slopes]
  fin_cases h <;> rfl

theorem rawScores_apply (dil : BitVec 32) (sl : FVec Ideal V4 .f32) (q : FVec Ideal (SB D N) .f32) (k : FVec Ideal (SK D N) .f32)
    (b h : Fin 4) (r : Fin D) (n : Fin N) (a : Fin 128) (c : Fin 256) :
    rawScores ok dil sl q k (ix6 b h r n a c) = (∑ x, q (ix6 b h r n a x) * k (ix6 b h r n c x)) * Ideal.ofBits .f32 0x3DB504F3#32
      - sl (ix1 h) * FloatOps.sitofp .f32 (IntOp.muli dil (gap (ix2 a c))) := by
  pointwise [rawScores, bias, dotS]

theorem scores_apply (hN : N ≤ 64) (d : ℕ) (hd : d ≤ 16) (sl : FVec Ideal V4 .f32) (q : FVec Ideal (SB D N) .f32) (k : FVec Ideal (SK D N) .f32)
    (b h : Fin 4) (r : Fin D) (n : Fin N) (a : Fin 128) (c : Fin 256) :
    scores ok (BitVec.ofNat 32 d) sl q k (ix6 b h r n a c) = if Seen n a c then
      (∑ x, q (ix6 b h r n a x) * k (ix6 b h r n c x)) * Ideal.ofBits .f32 0x3DB504F3#32
        - sl (ix1 h) * (((d : ℝ) * ((a : ℝ) + 128 - c) : ℝ) : EReal) else ⊥ := by
  have m : broadcastInDim (SS D N) ![3, 4, 5] ok.bM (valid ok) (ix6 b h r n a c) = valid ok (ix3 n a c) :=
    broadcastInDim_apply _ ok.bM _ _ (ix3 n a c) fun x => match x with
      | ⟨0, _⟩ => unit_val n | ⟨1, _⟩ => rfl | ⟨2, _⟩ => rfl
  show Scalar.select (broadcastInDim (SS D N) ![3, 4, 5] ok.bM (valid ok) (ix6 b h r n a c)) (rawScores ok (BitVec.ofNat 32 d) sl q k (ix6 b h r n a c))
    (Ideal.ofBits .f32 0xFF800000#32) = _
  rw [m, valid_apply ok n hN, select_bool, rawScores_apply, gap_apply, mul_word, neg_inf]
  have e : (FloatOps.sitofp FTy.f32 (BitVec.ofInt 32 (d * ((a.val : ℤ) + 128 - c.val))) : Ideal .f32)
      = (((d : ℝ) * ((a : ℝ) + 128 - c) : ℝ) : EReal) := by
    show (((BitVec.ofInt 32 (d * ((a.val : ℤ) + 128 - c.val))).toInt : ℝ) : EReal) = _
    rw [toInt_small (by have := a.2; have := c.2; nlinarith) (by have := a.2; have := c.2; nlinarith)]
    push_cast
    rfl
  rw [e]

theorem drop_row (b h : Fin 4) (r : Fin D) (n : Fin N) (a : Fin 128) (i : (SS D N).Idx) :
    ok.red.drop i = ix5 b h r n a ↔ ∃ k : Fin 256, (ix6 b h r n a k : (SS D N).Idx) = i := by
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

theorem row_inj (b h : Fin 4) (r : Fin D) (n : Fin N) (a : Fin 128) :
    Function.Injective fun k : Fin 256 => (ix6 b h r n a k : (SS D N).Idx) := fun _ _ e => congrFun e 5

/-- A row of scores. -/
def row (s : FVec Ideal (SS D N) .f32) (b h : Fin 4) (r : Fin D) (n : Fin N) (a : Fin 128) : Fin 256 → EReal :=
  fun k => s (ix6 b h r n a k)

theorem top_apply (s : FVec Ideal (SS D N) .f32) (b h : Fin 4) (r : Fin D) (n : Fin N) (a : Fin 128) :
    top ok s (ix5 b h r n a) = peak (row s b h r n a) := by
  have z : Ideal.ofBits .f32 0xFF800000#32 = ⊥ := neg_inf
  unfold peak
  rw [← z]
  pointwise [top]
  exact Finset.fold_filter_eq_fold_of_fiber max _ _ (row_inj b h r n a) (drop_row ok b h r n a) _ _

theorem rows_apply (x : FVec Ideal (SR D N) .f32) (b h : Fin 4) (r : Fin D) (n : Fin N) (a : Fin 128) (k : Fin 256) :
    rows ok x (ix6 b h r n a k) = x (ix5 b h r n a) := by
  refine (broadcastInDim_apply _ ok.bR1 _ (ix6 b h r n a k) (ix6 b h r n a 0) fun x => match x with
    | ⟨0, _⟩ => rfl | ⟨1, _⟩ => rfl | ⟨2, _⟩ => unit_val r | ⟨3, _⟩ => unit_val n | ⟨4, _⟩ => rfl | ⟨5, _⟩ => rfl).trans ?_
  exact broadcastInDim_apply _ ok.bR _ _ (ix5 b h r n a) fun x => match x with
    | ⟨0, _⟩ => rfl | ⟨1, _⟩ => rfl | ⟨2, _⟩ => unit_val r | ⟨3, _⟩ => unit_val n | ⟨4, _⟩ => rfl

theorem lse_apply (s : FVec Ideal (SS D N) .f32) (b h : Fin 4) (r : Fin D) (n : Fin N) (a : Fin 128) :
    lse ok s (ix5 b h r n a) = peak (row s b h r n a) + Ideal.log (mass (row s b h r n a)) := by
  show top ok s (ix5 b h r n a) + Ideal.log (Ideal.ofBits .f32 0x00000000#32 + ∑ i ∈ Finset.univ.filter (fun i => ok.red.drop i = ix5 b h r n a),
    Ideal.exp (s i - rows ok (top ok s) i)) = _
  rw [Finset.sum_filter_eq_sum_of_fiber _ _ (row_inj b h r n a) (drop_row ok b h r n a), top_apply]
  simp only [rows_apply, top_apply]
  rw [show Ideal.ofBits .f32 0x00000000#32 = 0 from Ideal.ofBits_zero .f32, zero_add]
  rfl

theorem heads_apply (s : FVec Ideal (SS D N) .f32) (v : FVec Ideal (SK D N) .f32) (b h : Fin 4) (r : Fin D) (n : Fin N) (a d : Fin 128) :
    heads ok s v (ix6 b h r n a d)
      = ∑ k : Fin 256, Ideal.exp (row s b h r n a k - (peak (row s b h r n a) + Ideal.log (mass (row s b h r n a)))) * v (ix6 b h r n k d) := by
  refine Eq.trans (b := ∑ x, Ideal.exp (s (ix6 b h r n a x) - rows ok (lse ok s) (ix6 b h r n a x)) * v (ix6 b h r n x d)) (by pointwise [heads, dotO]) ?_
  simp only [rows_apply, lse_apply]
  rfl

theorem join_head (o : FVec Ideal (SB D N) .f32) (e : FVec Ideal (SR D N) .f32) (b h : Fin 4) (r : Fin D) (n : Fin N) (a d : Fin 128) :
    join ok o e (ix4 b r ⟨128 * n + a, row_lt ok n a⟩ ⟨128 * h + d, by omega⟩) = o (ix6 b h r n a d) := by
  have hc : 128 * h.val + d.val < 512 := by omega
  refine (concatenate_pair_apply_left _ _ _ ok.catO _ rfl (ix4 b r ⟨128 * n + a, row_lt ok n a⟩ ⟨128 * h + d, hc⟩) fun x => match x with
    | ⟨0, _⟩ => rfl | ⟨1, _⟩ => rfl | ⟨2, _⟩ => rfl | ⟨3, _⟩ => rfl).trans ?_
  refine (shapeCast_apply _ ok.cHG _ (ix5 b r ⟨128 * n + a, row_lt ok n a⟩ h d) ?_).trans ?_
  · rw [Shape.rowMajor_val_five, Shape.rowMajor_val_four]
    show (((b.val * D + r.val) * L + (128 * n.val + a.val)) * 4 + h.val) * 128 + d.val = ((b.val * D + r.val) * L + (128 * n.val + a.val)) * 512 + (128 * h.val + d.val)
    ring
  refine (transpose_apply _ _ ok.tTH _ (ix5 b h r ⟨128 * n + a, row_lt ok n a⟩ d) fun x => match x with
    | ⟨0, _⟩ => rfl | ⟨1, _⟩ => rfl | ⟨2, _⟩ => rfl | ⟨3, _⟩ => rfl | ⟨4, _⟩ => rfl).trans ?_
  refine shapeCast_apply _ ok.cBT _ _ ?_
  rw [Shape.rowMajor_val_five, Shape.rowMajor_val_six]
  show ((((b.val * 4 + h.val) * D + r.val) * N + n.val) * 128 + a.val) * 128 + d.val
    = (((b.val * 4 + h.val) * D + r.val) * L + (128 * n.val + a.val)) * 128 + d.val
  rw [ok.hL]
  ring

theorem join_lse (o : FVec Ideal (SB D N) .f32) (e : FVec Ideal (SR D N) .f32) (b h : Fin 4) (r : Fin D) (n : Fin N) (a : Fin 128) (d : Fin 32) :
    join ok o e (ix4 b r ⟨128 * n + a, row_lt ok n a⟩ ⟨512 + (32 * h + d), by omega⟩) = e (ix5 b h r n a) := by
  have hc : 32 * h.val + d.val < 128 := by omega
  refine (concatenate_pair_apply_right _ _ _ ok.catO _ rfl rfl (ix4 b r ⟨128 * n + a, row_lt ok n a⟩ ⟨32 * h + d, hc⟩) (fun x => match x with
    | ⟨0, _⟩ => fun _ => rfl | ⟨1, _⟩ => fun _ => rfl | ⟨2, _⟩ => fun _ => rfl | ⟨3, _⟩ => fun hx => (hx rfl).elim) (Nat.add_comm _ _)).trans ?_
  refine (shapeCast_apply _ ok.cE _ (ix5 b r ⟨128 * n + a, row_lt ok n a⟩ h d) ?_).trans ?_
  · rw [Shape.rowMajor_val_five, Shape.rowMajor_val_four]
    show (((b.val * D + r.val) * L + (128 * n.val + a.val)) * 4 + h.val) * 32 + d.val
      = ((b.val * D + r.val) * L + (128 * n.val + a.val)) * 128 + (32 * h.val + d.val)
    ring
  refine (broadcastInDim_apply _ ok.bE _ (ix5 b r ⟨128 * n + a, row_lt ok n a⟩ h d) (ix4 b r ⟨128 * n + a, row_lt ok n a⟩ h) fun x => match x with
    | ⟨0, _⟩ => rfl | ⟨1, _⟩ => unit_val r | ⟨2, _⟩ => unit_val _ | ⟨3, _⟩ => rfl).trans ?_
  refine (transpose_apply _ _ ok.tE _ (ix4 b h r ⟨128 * n + a, row_lt ok n a⟩) fun x => match x with
    | ⟨0, _⟩ => rfl | ⟨1, _⟩ => rfl | ⟨2, _⟩ => rfl | ⟨3, _⟩ => rfl).trans ?_
  refine shapeCast_apply _ ok.cRE _ _ ?_
  rw [Shape.rowMajor_val_five, Shape.rowMajor_val_four]
  show (((b.val * 4 + h.val) * D + r.val) * N + n.val) * 128 + a.val
    = ((b.val * 4 + h.val) * D + r.val) * L + (128 * n.val + a.val)
  rw [ok.hL]
  ring

/-! ### The whole -/

section Whole
variable (x : FVec Ideal (SX D L) .bf16)

theorem third_apply (o : ℕ) (ho : o ≤ 1024) (hs : (SX D L).Slices ![0, 0, 0, o] (SG D L)) (b h : Fin 4) (r : Fin D) (n : Fin N) (a d : Fin 128) :
    blocks ok (extractStridedSlice (SG D L) ![0, 0, 0, o] (extf .f32 x widen) hs) (ix6 b h r n a d) = At x b r (128 * n + a) (o + (128 * h + d)) := by
  rw [blocks_apply]
  refine (extractStridedSlice_apply _ _ hs _ (ix4 b r ⟨128 * n + a, row_lt ok n a⟩ ⟨o + (128 * h + d), by omega⟩) fun y => match y with
    | ⟨0, _⟩ => (Nat.zero_add _).symm | ⟨1, _⟩ => (Nat.zero_add _).symm | ⟨2, _⟩ => (Nat.zero_add _).symm | ⟨3, _⟩ => rfl).trans ?_
  exact at_ix4 x _ _ _ _

theorem prev_apply (o : ℕ) (ho : o ≤ 1024) (hs : (SX D L).Slices ![0, 0, 0, o] (SG D L)) (b h : Fin 4) (r : Fin D) (n : Fin N) (k : Fin 256)
    (d : Fin 128) (hk : n.val = 0 → 128 ≤ k.val) :
    withPrev ok (blocks ok (extractStridedSlice (SG D L) ![0, 0, 0, o] (extf .f32 x widen) hs)) (ix6 b h r n k d)
      = At x b r (128 * n + k - 128) (o + (128 * h + d)) := by
  rw [withPrev_apply]
  by_cases h1 : k.val < 128
  · have h2 : 1 ≤ n.val := by omega
    rw [dif_pos h1, dif_pos h2, third_apply ok x o ho hs]
    congr 1
    show 128 * (n.val - 1) + k.val = _
    omega
  · rw [dif_neg h1, third_apply ok x o ho hs]
    congr 1
    show 128 * n.val + (k.val - 128) = _
    omega

variable (hN : N ≤ 64) (d : ℕ) (hd : d ≤ 16) (w : Fin 4 → BitVec 32) (β : ℕ → EReal)
  (hβ : ∀ h : Fin 4, ∃ s : ℝ, Ideal.ofBits .f32 (w h) = s ∧ β h = ((s * d : ℝ) : EReal))

include hN hd hβ

theorem row_eq (b h : Fin 4) (r : Fin D) (n : Fin N) (a : Fin 128) :
    row (scores ok (BitVec.ofNat 32 d) (slopes (w 0) (w 1) (w 2) (w 3)) (qB ok x) (kB ok x)) b h r n a = scF (At x) β b r h n a := by
  funext k
  unfold row scF sc
  rw [scores_apply ok hN d hd]
  by_cases hk : Seen n a k
  · rw [if_pos hk, if_pos hk, slopes_apply]
    obtain ⟨s, hs, hb⟩ := hβ h
    rw [hs, hb, ← EReal.coe_mul, ← EReal.coe_mul, mul_assoc]
    congr 2
    refine Finset.sum_congr rfl fun y _ => ?_
    unfold qB kB
    rw [third_apply ok x 0 (by omega), prev_apply ok x 512 (by omega) _ _ _ _ _ _ _ hk.2.2, Nat.zero_add]
  · rw [if_neg hk, if_neg hk]

theorem lse_eq (b h : Fin 4) (r : Fin D) (n : Fin N) (a : Fin 128) :
    lse ok (scores ok (BitVec.ofNat 32 d) (slopes (w 0) (w 1) (w 2) (w 3)) (qB ok x) (kB ok x)) (ix5 b h r n a)
      = logDen (At x) β b r h n a := by
  rw [lse_apply, row_eq ok x hN d hd w β hβ]
  rfl

variable (hx : ∀ b r l c, c < 1024 → IsNum (At x b r l c))

include hx

theorem heads_eq (b h : Fin 4) (r : Fin D) (n : Fin N) (a c : Fin 128) :
    heads ok (scores ok (BitVec.ofNat 32 d) (slopes (w 0) (w 1) (w 2) (w 3)) (qB ok x) (kB ok x)) (vB ok x) (ix6 b h r n a c)
      = head (At x) β b r h n a c := by
  have hb : IsNum (β h) := by obtain ⟨s, -, hb⟩ := hβ h; exact ⟨_, hb⟩
  obtain ⟨h1, h2⟩ := scF_score (X := At x) (n := n) b r (fun l c => hx b r l c) hb h.2 a.2
  rw [heads_apply, row_eq ok x hN d hd w β hβ, soft h1 h2]
  unfold head
  congr 1
  refine Finset.sum_congr rfl fun k _ => ?_
  by_cases hk : n.val = 0 → 128 ≤ k.val
  · unfold vB
    rw [prev_apply ok x 1024 le_rfl _ _ _ _ _ _ _ hk]
    rfl
  · have e : scF (At x) β b r h n a k = ⊥ := by
      unfold scF sc; rw [if_neg fun hs => hk hs.2.2]
    rw [e, EReal.bot_sub]
    exact (zero_mul _).trans (zero_mul _).symm

/-- The plain program's result is `Attn.result`. -/
theorem out_eq (i : (SO D L).Idx) :
    out ok (BitVec.ofNat 32 d) (w 0) (w 1) (w 2) (w 3) x i = result (At x) β (i 0).val (i 1).val (i 2).val (i 3).val := by
  have hl : (i 2).val < L := (i 2).2
  have hc : (i 3).val < 640 := (i 3).2
  have hn : (i 2).val / 128 < N := by have := ok.hL; omega
  unfold result out
  by_cases h5 : (i 3).val < 512
  · have e : i = ix4 (i 0) (i 1) ⟨128 * (⟨(i 2).val / 128, hn⟩ : Fin N).val + (⟨(i 2).val % 128, by omega⟩ : Fin 128).val, row_lt ok _ _⟩
        ⟨128 * (⟨(i 3).val / 128, by omega⟩ : Fin 4).val + (⟨(i 3).val % 128, by omega⟩ : Fin 128).val, by show 128 * ((i 3).val / 128) + (i 3).val % 128 < 640; omega⟩ := by
      funext y
      apply Fin.ext
      match y with
      | ⟨0, _⟩ => rfl
      | ⟨1, _⟩ => rfl
      | ⟨2, _⟩ => exact (Nat.div_add_mod _ _).symm
      | ⟨3, _⟩ => exact (Nat.div_add_mod _ _).symm
    rw [if_pos h5]
    exact (congrArg (join ok _ _) e).trans ((join_head ok _ _ (i 0) ⟨(i 3).val / 128, by omega⟩ (i 1) ⟨(i 2).val / 128, hn⟩
      ⟨(i 2).val % 128, by omega⟩ ⟨(i 3).val % 128, by omega⟩).trans (heads_eq ok x hN d hd w β hβ hx _ _ _ _ _ _))
  · have e : i = ix4 (i 0) (i 1) ⟨128 * (⟨(i 2).val / 128, hn⟩ : Fin N).val + (⟨(i 2).val % 128, by omega⟩ : Fin 128).val, row_lt ok _ _⟩
        ⟨512 + (32 * (⟨((i 3).val - 512) / 32, by omega⟩ : Fin 4).val + (⟨((i 3).val - 512) % 32, by omega⟩ : Fin 32).val),
          by show 512 + (32 * (((i 3).val - 512) / 32) + ((i 3).val - 512) % 32) < 640; omega⟩ := by
      funext y
      apply Fin.ext
      match y with
      | ⟨0, _⟩ => rfl
      | ⟨1, _⟩ => rfl
      | ⟨2, _⟩ => exact (Nat.div_add_mod _ _).symm
      | ⟨3, _⟩ => show (i 3).val = 512 + (32 * (((i 3).val - 512) / 32) + ((i 3).val - 512) % 32); omega
    rw [if_neg h5]
    refine (congrArg (join ok _ _) e).trans ((join_lse ok _ _ (i 0) ⟨((i 3).val - 512) / 32, by omega⟩ (i 1) ⟨(i 2).val / 128, hn⟩
      ⟨(i 2).val % 128, by omega⟩ ⟨((i 3).val - 512) % 32, by omega⟩).trans ?_)
    exact lse_eq ok x hN d hd w β hβ _ _ _ _ _

end Whole

end Attn.Ref

end
-- ==== Proof.Pre.lean ====
/-
  What the precondition says of the argument, and the kernel's bias literals as the plain program's slopes times the
  dilation.
-/
module

public import proofs.«01_k».proof.Proof.Spec
public import Idealize.ShloMosaic.Lib.ReduceAll

@[expose] public section

noncomputable section

namespace Attn

open Idealize.ShloMosaic

/-- The absolute value of an element is below infinity only if the element is a number. -/
theorem num_of_lt {x : EReal} (h : FloatOps.cmpf (F := Ideal) (φ := .f32) .olt (FloatOps.absf (F := Ideal) (φ := .f32) x) (Ideal.ofBits .f32 0x7F800000#32) = 1#1) :
    IsNum x := by
  have e : Ideal.ofBits .f32 0x7F800000#32 = ⊤ := by simp [Ideal.ofBits, Ideal.ieee]
  rw [e] at h
  have h' : BitVec.ofBool (decide ((x ⊔ -x : EReal) < ⊤)) = 1#1 := h
  have h2 : (x ⊔ -x : EReal) < ⊤ := by
    by_contra hn
    rw [decide_eq_false hn] at h'
    exact absurd h' (by decide)
  induction x with
  | bot => simp at h2
  | top => simp at h2
  | coe r => exact ⟨r, rfl⟩

/-- A test that every query and key element is finite, read at an element. -/
theorem num_of_pre {D L : ℕ} (x : FVec Ideal ⟨4, ![4, D, L, 1536]⟩ .bf16)
    (hs : (⟨4, ![4, D, L, 1536]⟩ : Shape).Slices ![0, 0, 0, 0] ⟨4, ![4, D, L, 1024]⟩) (hb : FTy.bits .bf16 < FTy.bits .f32)
    (hc : (⟨0, ![]⟩ : Shape).BroadcastsInDim ⟨4, ![4, D, L, 1024]⟩ ![]) (hr : (⟨4, ![4, D, L, 1024]⟩ : Shape).ReducesTo [0, 1, 2, 3] ⟨0, ![]⟩)
    (h0 : 0 < (⟨0, ![]⟩ : Shape).numel)
    (h : Host.reduce IntOp.andi (cmpf .olt (Host.absf (extf .f32 (extractStridedSlice ⟨4, ![4, D, L, 1024]⟩ ![0, 0, 0, 0] x hs) hb : FVec Ideal _ .f32))
      (broadcastInDim ⟨4, ![4, D, L, 1024]⟩ ![] hc (constant ⟨0, ![]⟩ .f32 0x7F800000#32 : FVec Ideal ⟨0, ![]⟩ .f32))) (constantI ⟨0, ![]⟩ 1 1#1) hr h0 = fun _ => 1#1)
    (b r l c : ℕ) (hcc : c < 1024) : IsNum (At x b r l c) := by
  by_cases hi : (b < 4 ∧ r < D) ∧ l < L ∧ c < 1536
  · have e := Host.reduce_andi_all _ _ hr h0 ix0 (congrFun h ix0) (ix4 ⟨b, hi.1.1⟩ ⟨r, hi.1.2⟩ ⟨l, hi.2.1⟩ ⟨c, hcc⟩)
    refine num_of_lt ?_
    unfold At
    rw [dif_pos hi]
    refine Eq.trans ?_ e
    show Ideal.cmp .olt (FloatOps.absf (F := Ideal) (φ := .f32) (x _)) _ = Ideal.cmp .olt (FloatOps.absf (F := Ideal) (φ := .f32) (x _)) _
    congr 3
    funext a
    apply Fin.ext
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm
  · unfold At
    rw [dif_neg hi]
    exact ⟨0, rfl⟩

/-- A normal word as a number. -/
theorem normal (s : BitVec 32) (h0 : (s.extractLsb' 23 8).toNat ≠ 0) (h1 : (s.extractLsb' 23 8).toNat < 255) :
    Ideal.ofBits .f32 s = (((if (s.extractLsb' 31 1 == 1#1) = true then -1 else 1) * ((2 ^ 23 + (s.extractLsb' 0 23).toNat : ℕ) : ℝ)
      * (2 : ℝ) ^ (((s.extractLsb' 23 8).toNat : ℤ) - (2 ^ (8 - 1) - 1) - (23 : ℕ)) : ℝ) : EReal) := by
  show Ideal.ieee 8 23 s = _
  unfold Ideal.ieee
  simp only [Nat.reduceAdd]
  rw [if_neg (by omega), if_neg h0]

/-- A word with the exponent raised by `k` is the number times `2 ^ k`. -/
theorem bias_of (s t : BitVec 32) (k : ℕ) (h : s.extractLsb' 31 1 = t.extractLsb' 31 1 ∧ s.extractLsb' 0 23 = t.extractLsb' 0 23
      ∧ (t.extractLsb' 23 8).toNat = (s.extractLsb' 23 8).toNat + k ∧ (s.extractLsb' 23 8).toNat ≠ 0 ∧ (t.extractLsb' 23 8).toNat < 255) :
    ∃ r : ℝ, Ideal.ofBits .f32 s = r ∧ Ideal.ofBits .f32 t = ((r * ((2 ^ k : ℕ) : ℝ) : ℝ) : EReal) := by
  obtain ⟨h1, h2, h3, h4, h5⟩ := h
  refine ⟨_, normal s h4 (by omega), (normal t (by omega) h5).trans ?_⟩
  have key : (2 : ℝ) ^ ((((s.extractLsb' 23 8).toNat + k : ℕ) : ℤ) - (2 ^ (8 - 1) - 1) - (23 : ℕ))
      = (2 : ℝ) ^ (((s.extractLsb' 23 8).toNat : ℤ) - (2 ^ (8 - 1) - 1) - (23 : ℕ)) * ((2 ^ k : ℕ) : ℝ) := by
    rw [Nat.cast_pow, Nat.cast_two, ← zpow_natCast, ← zpow_add₀ two_ne_zero]
    congr 1
    push_cast
    ring
  rw [← h1, ← h2, h3, key, ← mul_assoc]

end Attn

end
-- ==== Proof.Group0.lean ====
/-
  The attention of the first group (dilation 1): the kernel's result array and the plain program's are the same
  function of the argument.
-/
module

public import proofs.«01_k».proof.Proof.Gen.Attn0Ideal.Value
public import proofs.«01_k».proof.Proof.Gen.AttnRef0Ideal.Run
public import proofs.«01_k».proof.Proof.Tile
public import proofs.«01_k».proof.Proof.RefRead
public import proofs.«01_k».proof.Proof.Pre
public import proofs.«01_k».proof.Proof.Gen.Pre_finite_qk_0
public import proofs.«01_k».proof.Defs
public import Idealize.ShloMosaic.Lib.Quiescent

@[expose] public section

noncomputable section

namespace Cert.Attn0Ideal.Value

open Attn Idealize.ShloMosaic Idealize.ShloMosaic.TcCoe Idealize.SL.Sem Cert.Attn0Ideal Cert.Attn0Ideal.Gen
open Idealize.ShloMosaic.Pipeline (Dat)

/-- The heads' slopes times the dilation. -/
def bias : ℕ → BitVec 32
  | 0 => 0x3F214518#32
  | 1 => 0x3ECB2FF5#32
  | 2 => 0x3E800000#32
  | _ => 0x3E214518#32

/-- The same as numbers. -/
def β (h : ℕ) : EReal := Ideal.ofBits .f32 (bias h)

set_option maxRecDepth 200000
/-- A grid point's output block is the result's rows there. -/
theorem tile (i : grid0.Coords) (x0 : Vec Ideal S1x1x512x512 .bf16) (x1 : Vec Ideal S1x1x128x512 .bf16) (x2 : Vec Ideal S1x1x512x512 .bf16)
    (x3 : Vec Ideal S1x1x128x512 .bf16) (x4 : Vec Ideal S1x1x512x512 .bf16) (X : ℕ → ℕ → ℕ → ℕ → EReal) (b r : ℕ) (hi : (i 2).val < 32)
    (w0 : Win x0 X b r (512 * (i 2).val) 0) (w2 : Win x2 X b r (512 * (i 2).val) 512) (w4 : Win x4 X b r (512 * (i 2).val) 1024)
    (w1 : (i 2).val ≠ 0 → Win x1 X b r (512 * (i 2).val - 128) 512) (w3 : (i 2).val ≠ 0 → Win x3 X b r (512 * (i 2).val - 128) 1024) :
    out0_5 i x0 x1 x2 x3 x4 = block 512 X β b r (512 * (i 2).val) := by
  have L0 (h : ℕ) (hh : 128 * h + 128 ≤ 512) := Loads.of (n := 4 * (i 2).val) (h := h) (bias := bias h) (β := β) w0 w2 w4 (fun hn => w1 (by omega)) (fun hn => w3 (by omega))
    (lim_first (i 2).val (by omega) (by omega)) rfl 0 0 (by omega) (by omega) (by omega) (by omega) hh
  have L1 (h : ℕ) (hh : 128 * h + 128 ≤ 512) := Loads.of (n := 4 * (i 2).val + 1) (h := h) (bias := bias h) (β := β) w0 w2 w4 (fun _ => w2) (fun _ => w4)
    (lim_rest (by omega)) rfl 128 0 (by omega) (by omega) (by omega) (by omega) hh
  have L2 (h : ℕ) (hh : 128 * h + 128 ≤ 512) := Loads.of (n := 4 * (i 2).val + 2) (h := h) (bias := bias h) (β := β) w0 w2 w4 (fun _ => w2) (fun _ => w4)
    (lim_rest (by omega)) rfl 256 128 (by omega) (by omega) (by omega) (by omega) hh
  have L3 (h : ℕ) (hh : 128 * h + 128 ≤ 512) := Loads.of (n := 4 * (i 2).val + 3) (h := h) (bias := bias h) (β := β) w0 w2 w4 (fun _ => w2) (fun _ => w4)
    (lim_rest (by omega)) rfl 384 256 (by omega) (by omega) (by omega) (by omega) hh
  have e0 : 512 * (i 2).val + 0 = 128 * (4 * (i 2).val) := by omega
  have e1 : 512 * (i 2).val + 128 = 128 * (4 * (i 2).val + 1) := by omega
  have e2 : 512 * (i 2).val + 256 = 128 * (4 * (i 2).val + 2) := by omega
  have e3 : 512 * (i 2).val + 384 = 128 * (4 * (i 2).val + 3) := by omega
  funext y
  unfold_out out0_5
  refine View.canon_apply_of_pieces (Val := Elt Ideal) (block 512 X β b r (512 * (i 2).val)) _ ?_ y (cover0_5 _ _ _ _ _ _ _ _ _ _ _ _ _ _ _ _ _ _ _ _ y)
  refine good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ good_nil)))))))))))))))))))
  · intro x; exact lse_good (R := 512) e3 (by omega) (L3 0 (by omega)) (L3 1 (by omega)) (L3 2 (by omega)) (L3 3 (by omega)) x
  · intro x; exact head_good (R := 512) e3 (by omega) (by omega) (L3 3 (by omega)) x
  · intro x; exact head_good (R := 512) e3 (by omega) (by omega) (L3 2 (by omega)) x
  · intro x; exact head_good (R := 512) e3 (by omega) (by omega) (L3 1 (by omega)) x
  · intro x; exact head_good (R := 512) e3 (by omega) (by omega) (L3 0 (by omega)) x
  · intro x; exact lse_good (R := 512) e2 (by omega) (L2 0 (by omega)) (L2 1 (by omega)) (L2 2 (by omega)) (L2 3 (by omega)) x
  · intro x; exact head_good (R := 512) e2 (by omega) (by omega) (L2 3 (by omega)) x
  · intro x; exact head_good (R := 512) e2 (by omega) (by omega) (L2 2 (by omega)) x
  · intro x; exact head_good (R := 512) e2 (by omega) (by omega) (L2 1 (by omega)) x
  · intro x; exact head_good (R := 512) e2 (by omega) (by omega) (L2 0 (by omega)) x
  · intro x; exact lse_good (R := 512) e1 (by omega) (L1 0 (by omega)) (L1 1 (by omega)) (L1 2 (by omega)) (L1 3 (by omega)) x
  · intro x; exact head_good (R := 512) e1 (by omega) (by omega) (L1 3 (by omega)) x
  · intro x; exact head_good (R := 512) e1 (by omega) (by omega) (L1 2 (by omega)) x
  · intro x; exact head_good (R := 512) e1 (by omega) (by omega) (L1 1 (by omega)) x
  · intro x; exact head_good (R := 512) e1 (by omega) (by omega) (L1 0 (by omega)) x
  · intro x; exact lse_good (R := 512) e0 (by omega) (L0 0 (by omega)) (L0 1 (by omega)) (L0 2 (by omega)) (L0 3 (by omega)) x
  · intro x; exact head_good (R := 512) e0 (by omega) (by omega) (L0 3 (by omega)) x
  · intro x; exact head_good (R := 512) e0 (by omega) (by omega) (L0 2 (by omega)) x
  · intro x; exact head_good (R := 512) e0 (by omega) (by omega) (L0 1 (by omega)) x
  · intro x; exact head_good (R := 512) e0 (by omega) (by omega) (L0 0 (by omega)) x

variable (m : (ℓ : Loc nD τ sig) → Buf (Elt Ideal) ℓ) (ρ : Dev nD → PrngReg)

/-- The argument at natural positions. -/
abbrev X (c : Dev nD) : ℕ → ℕ → ℕ → ℕ → EReal := At (m ((c : Thread nD τ).loc main_arg0) : S4x1x4096x1536.Idx → EReal)

theorem pos : ∀ t : Fin cfg0.N, (win0_0.index t 0 = (grid0.coords t 0).val ∧ win0_0.index t 1 = (grid0.coords t 1).val ∧ win0_0.index t 2 = (grid0.coords t 2).val ∧ win0_0.index t 3 = 0)
    ∧ (win0_1.index t 0 = (grid0.coords t 0).val ∧ win0_1.index t 1 = (grid0.coords t 1).val ∧ win0_1.index t 2 = 4 * (grid0.coords t 2).val - 1 ∧ win0_1.index t 3 = 1)
    ∧ (win0_2.index t 0 = (grid0.coords t 0).val ∧ win0_2.index t 1 = (grid0.coords t 1).val ∧ win0_2.index t 2 = (grid0.coords t 2).val ∧ win0_2.index t 3 = 1)
    ∧ (win0_3.index t 0 = (grid0.coords t 0).val ∧ win0_3.index t 1 = (grid0.coords t 1).val ∧ win0_3.index t 2 = 4 * (grid0.coords t 2).val - 1 ∧ win0_3.index t 3 = 2)
    ∧ (win0_4.index t 0 = (grid0.coords t 0).val ∧ win0_4.index t 1 = (grid0.coords t 1).val ∧ win0_4.index t 2 = (grid0.coords t 2).val ∧ win0_4.index t 3 = 2)
    ∧ (win0_5.index t 0 = (grid0.coords t 0).val ∧ win0_5.index t 1 = (grid0.coords t 1).val ∧ win0_5.index t 2 = (grid0.coords t 2).val ∧ win0_5.index t 3 = 0) := by
  decide +kernel

theorem reach : ∀ (b : Fin 4) (r : Fin 1) (n : Fin 8), ∃ t : Fin cfg0.N, win0_5.index t 0 = b ∧ win0_5.index t 1 = r ∧ win0_5.index t 2 = n ∧ win0_5.index t 3 = 0
    ∧ (cfg0.win 5).flush t = true := by
  decide +kernel

theorem win0 (c : Dev nD) (t : Fin cfg0.N) : Win (R := 512) (iblk m c 0 t) (X m c) (grid0.coords t 0).val (grid0.coords t 1).val (512 * (grid0.coords t 2).val) 0 := by
  obtain ⟨h0, h1, h2, h3⟩ := (pos t).1
  intro a y
  refine at_idx (V m c main_arg0) _ ?_ ?_ ?_ ?_
  · show win0_0.index t 0 * 1 + 1 * 0 = _; omega
  · show win0_0.index t 1 * 1 + 1 * 0 = _; omega
  · show win0_0.index t 2 * 512 + 1 * a.val = _; omega
  · show win0_0.index t 3 * 512 + 1 * y.val = _; omega

theorem win2 (c : Dev nD) (t : Fin cfg0.N) : Win (R := 512) (iblk m c 2 t) (X m c) (grid0.coords t 0).val (grid0.coords t 1).val (512 * (grid0.coords t 2).val) 512 := by
  obtain ⟨h0, h1, h2, h3⟩ := (pos t).2.2.1
  intro a y
  refine at_idx (V m c main_arg0) _ ?_ ?_ ?_ ?_
  · show win0_2.index t 0 * 1 + 1 * 0 = _; omega
  · show win0_2.index t 1 * 1 + 1 * 0 = _; omega
  · show win0_2.index t 2 * 512 + 1 * a.val = _; omega
  · show win0_2.index t 3 * 512 + 1 * y.val = _; omega

theorem win4 (c : Dev nD) (t : Fin cfg0.N) : Win (R := 512) (iblk m c 4 t) (X m c) (grid0.coords t 0).val (grid0.coords t 1).val (512 * (grid0.coords t 2).val) 1024 := by
  obtain ⟨h0, h1, h2, h3⟩ := (pos t).2.2.2.2.1
  intro a y
  refine at_idx (V m c main_arg0) _ ?_ ?_ ?_ ?_
  · show win0_4.index t 0 * 1 + 1 * 0 = _; omega
  · show win0_4.index t 1 * 1 + 1 * 0 = _; omega
  · show win0_4.index t 2 * 512 + 1 * a.val = _; omega
  · show win0_4.index t 3 * 512 + 1 * y.val = _; omega

theorem win1 (c : Dev nD) (t : Fin cfg0.N) : Win (R := 128) (iblk m c 1 t) (X m c) (grid0.coords t 0).val (grid0.coords t 1).val (512 * (grid0.coords t 2).val - 128) 512 := by
  obtain ⟨h0, h1, h2, h3⟩ := (pos t).2.1
  intro a y
  refine at_idx (V m c main_arg0) _ ?_ ?_ ?_ ?_
  · show win0_1.index t 0 * 1 + 1 * 0 = _; omega
  · show win0_1.index t 1 * 1 + 1 * 0 = _; omega
  · show win0_1.index t 2 * 128 + 1 * a.val = _; omega
  · show win0_1.index t 3 * 512 + 1 * y.val = _; omega

theorem win3 (c : Dev nD) (t : Fin cfg0.N) : Win (R := 128) (iblk m c 3 t) (X m c) (grid0.coords t 0).val (grid0.coords t 1).val (512 * (grid0.coords t 2).val - 128) 1024 := by
  obtain ⟨h0, h1, h2, h3⟩ := (pos t).2.2.2.1
  intro a y
  refine at_idx (V m c main_arg0) _ ?_ ?_ ?_ ?_
  · show win0_3.index t 0 * 1 + 1 * 0 = _; omega
  · show win0_3.index t 1 * 1 + 1 * 0 = _; omega
  · show win0_3.index t 2 * 128 + 1 * a.val = _; omega
  · show win0_3.index t 3 * 512 + 1 * y.val = _; omega

/-- The whole result. -/
def whole (c : Dev nD) : S4x1x4096x640.Idx → EReal := fun i => result (X m c) β (i 0).val (i 1).val (i 2).val (i 3).val

theorem flushed_eq (c : Dev nD) (t : Fin cfg0.N) : (dats m 0 c).flushed 5 t = ((cfg0.win 5).blk t).view.read (Elt Ideal) (whole m c) := by
  rw [flushed5, tile (grid0.coords t) _ _ _ _ _ (X m c) (grid0.coords t 0).val (grid0.coords t 1).val
    (lt_of_lt_of_le (grid0.coords t 2).isLt (by decide)) (win0 m c t) (win2 m c t) (win4 m c t) (fun _ => win1 m c t) (fun _ => win3 m c t)]
  obtain ⟨h0, h1, h2, h3⟩ := (pos t).2.2.2.2.2
  funext y
  have y0 : (y 0).val < 1 := (y 0).isLt
  have y1 : (y 1).val < 1 := (y 1).isLt
  show result (X m c) β _ _ (512 * (grid0.coords t 2).val + (y 2).val) (y 3).val
    = result (X m c) β (win0_5.index t 0 * 1 + 1 * (y 0).val) (win0_5.index t 1 * 1 + 1 * (y 1).val) (win0_5.index t 2 * 512 + 1 * (y 2).val) (win0_5.index t 3 * 640 + 1 * (y 3).val)
  congr 1 <;> omega

theorem final (c : Dev nD) : (dats m 0 c).arrAt 5 cfg0.N = whole m c :=
  (dats m 0 c).arrAt_eq_of_cover 5 (whole m c) (fun t _ => flushed_eq m c t) fun i => by
    have b0 : (i 0).val < 4 := (i 0).isLt
    have b1 : (i 1).val < 1 := (i 1).isLt
    have b2 : (i 2).val < 4096 := (i 2).isLt
    have b3 : (i 3).val < 640 := (i 3).isLt
    obtain ⟨t, h0, h1, h2, h3, hf⟩ := reach ⟨(i 0).val, b0⟩ ⟨(i 1).val, b1⟩ ⟨(i 2).val / 512, by omega⟩
    refine ⟨t, hf, ?_⟩
    show i ∈ ((View.whole main_v0).slice (win0_5.rect t)).set
    rw [View.set_slice_whole, Rect.mem_set_unit]
    simp only at h0 h1 h2
    intro a
    match a with
    | ⟨0, _⟩ => show win0_5.index t 0 * 1 ≤ (i 0).val ∧ (i 0).val < win0_5.index t 0 * 1 + 1; omega
    | ⟨1, _⟩ => show win0_5.index t 1 * 1 ≤ (i 1).val ∧ (i 1).val < win0_5.index t 1 * 1 + 1; omega
    | ⟨2, _⟩ => show win0_5.index t 2 * 512 ≤ (i 2).val ∧ (i 2).val < win0_5.index t 2 * 512 + 512; omega
    | ⟨3, _⟩ => show win0_5.index t 3 * 640 ≤ (i 3).val ∧ (i 3).val < win0_5.index t 3 * 640 + 640; omega

/-! ### The plain program -/

theorem ok : Ref.Ok 1 32 31 4096 := by constructor <;> decide

/-- The heads' slopes. -/
def slope : Fin 4 → BitVec 32 := ![0x3F214518#32, 0x3ECB2FF5#32, 0x3E800000#32, 0x3E214518#32]

theorem slope_bias : ∀ h : Fin 4, ∃ s : ℝ, Ideal.ofBits .f32 (slope h) = s ∧ β h = ((s * (1 : ℕ) : ℝ) : EReal)
  | 0 => bias_of _ _ 0 (by decide)
  | 1 => bias_of _ _ 0 (by decide)
  | 2 => bias_of _ _ 0 (by decide)
  | 3 => bias_of _ _ 0 (by decide)

theorem ref_eq (m : (ℓ : Loc AttnRef0Ideal.nD AttnRef0Ideal.τ AttnRef0Ideal.sig) → Buf (Elt Ideal) ℓ) (c : Dev AttnRef0Ideal.nD) :
    AttnRef0Ideal.Value.res_main_v88 m c
      = Ref.out ok 1#32 (slope 0) (slope 1) (slope 2) (slope 3) (m ((c.tc : Thread AttnRef0Ideal.nD AttnRef0Ideal.τ).loc AttnRef0Ideal.main_arg0)) := by
  unfold AttnRef0Ideal.Value.res_main_v88
  rfl

/-! ### The claims -/

theorem numbers (c : Dev nD) (h : Cert.Pre_finite_qk_0.fn (F := Ideal) (m ((c.tc : Thread nD τ).loc main_arg0)) = fun _ => 1#1)
    (b r l k : ℕ) (hk : k < 1024) : IsNum (X m c b r l k) := by
  unfold Cert.Pre_finite_qk_0.fn at h
  exact num_of_pre (D := 1) (L := 4096) (m ((c.tc : Thread nD τ).loc main_arg0)) Cert.Pre_finite_qk_0.Facts.slices_S4x1x4096x1536_S4x1x4096x1024_0_0_0_0
    Cert.Pre_finite_qk_0.Facts.bitsLt_bf16_f32 Cert.Pre_finite_qk_0.Facts.bcast_S_S4x1x4096x1024
    Cert.Pre_finite_qk_0.Facts.reducesTo_S4x1x4096x1024_S_d0_1_2_3 Cert.Pre_finite_qk_0.Facts.h_S_ h b r l k hk

theorem frame_ref (m : (ℓ : Loc AttnRef0Ideal.nD AttnRef0Ideal.τ AttnRef0Ideal.sig) → Buf (Elt Ideal) ℓ) (ρ : Dev AttnRef0Ideal.nD → PrngReg) :
    θ_run (AttnRef0Ideal.defs (F := Ideal)) (onTc (τ := AttnRef0Ideal.τ) (AttnRef0Ideal.main (F := Ideal))) ⟨m, fun _ => 0, ρ⟩ (fun r =>
      (∀ c : Dev AttnRef0Ideal.nD, r.2.mem ((c.tc : Thread AttnRef0Ideal.nD AttnRef0Ideal.τ).loc AttnRef0Ideal.main_arg0)
        = m ((c.tc : Thread AttnRef0Ideal.nD AttnRef0Ideal.τ).loc AttnRef0Ideal.main_arg0)) ∧ r.2.sem = fun _ => 0) :=
  (θ_run AttnRef0Ideal.defs _ _).mono (fun r h => ⟨fun c => (h c).2, sem_eq_zero_of_no_sems (by decide) r.2⟩) (AttnRef0Ideal.Value.run (F := Ideal) m ρ)

theorem equal : Cert.algebraic_Attn0Ideal_AttnRef0Ideal_pre_finite_qk_0 := fun m ρ m' ρ' hp hm =>
  ⟨whole m, (θ_run defs _ _).mono (fun r h c => ⟨((h c).1).trans (final m c), (h c).2⟩) (run_blocks m ρ),
    (θ_run AttnRef0Ideal.defs _ _).mono (fun r h c => ⟨(h c).1.trans ((ref_eq m' c).trans (funext fun i => by
      rw [hm c]
      exact Ref.out_eq ok (m ((c.tc : Thread nD τ).loc main_arg0)) (by omega) 1 (by omega) slope β slope_bias (numbers m c (hp c)) i)), (h c).2⟩)
      (AttnRef0Ideal.Value.run (F := Ideal) m' ρ')⟩

end Cert.Attn0Ideal.Value

end
-- ==== Proof.Group1.lean ====
/-
  The attention of the second group (dilation 4): the kernel's result array and the plain program's are the same
  function of the argument.
-/
module

public import proofs.«01_k».proof.Proof.Gen.Attn1Ideal.Value
public import proofs.«01_k».proof.Proof.Gen.AttnRef1Ideal.Run
public import proofs.«01_k».proof.Proof.Tile
public import proofs.«01_k».proof.Proof.RefRead
public import proofs.«01_k».proof.Proof.Pre
public import proofs.«01_k».proof.Proof.Gen.Pre_finite_qk_1
public import proofs.«01_k».proof.Defs
public import Idealize.ShloMosaic.Lib.Quiescent

@[expose] public section

noncomputable section

namespace Cert.Attn1Ideal.Value

open Attn Idealize.ShloMosaic Idealize.ShloMosaic.TcCoe Idealize.SL.Sem Cert.Attn1Ideal Cert.Attn1Ideal.Gen
open Idealize.ShloMosaic.Pipeline (Dat)

/-- The heads' slopes times the dilation. -/
def bias : ℕ → BitVec 32
  | 0 => 0x3ECB2FF5#32
  | 1 => 0x3E800000#32
  | 2 => 0x3E214518#32
  | _ => 0x3DCB2FF5#32

/-- The same as numbers. -/
def β (h : ℕ) : EReal := Ideal.ofBits .f32 (bias h)

set_option maxRecDepth 200000
/-- A grid point's output block is the result's rows there. -/
theorem tile (i : grid0.Coords) (x0 : Vec Ideal S1x1x512x512 .bf16) (x1 : Vec Ideal S1x1x128x512 .bf16) (x2 : Vec Ideal S1x1x512x512 .bf16)
    (x3 : Vec Ideal S1x1x128x512 .bf16) (x4 : Vec Ideal S1x1x512x512 .bf16) (X : ℕ → ℕ → ℕ → ℕ → EReal) (b r : ℕ) (hi : (i 2).val < 32)
    (w0 : Win x0 X b r (512 * (i 2).val) 0) (w2 : Win x2 X b r (512 * (i 2).val) 512) (w4 : Win x4 X b r (512 * (i 2).val) 1024)
    (w1 : (i 2).val ≠ 0 → Win x1 X b r (512 * (i 2).val - 128) 512) (w3 : (i 2).val ≠ 0 → Win x3 X b r (512 * (i 2).val - 128) 1024) :
    out0_5 i x0 x1 x2 x3 x4 = block 512 X β b r (512 * (i 2).val) := by
  have L0 (h : ℕ) (hh : 128 * h + 128 ≤ 512) := Loads.of (n := 4 * (i 2).val) (h := h) (bias := bias h) (β := β) w0 w2 w4 (fun hn => w1 (by omega)) (fun hn => w3 (by omega))
    (lim_first (i 2).val (by omega) (by omega)) rfl 0 0 (by omega) (by omega) (by omega) (by omega) hh
  have L1 (h : ℕ) (hh : 128 * h + 128 ≤ 512) := Loads.of (n := 4 * (i 2).val + 1) (h := h) (bias := bias h) (β := β) w0 w2 w4 (fun _ => w2) (fun _ => w4)
    (lim_rest (by omega)) rfl 128 0 (by omega) (by omega) (by omega) (by omega) hh
  have L2 (h : ℕ) (hh : 128 * h + 128 ≤ 512) := Loads.of (n := 4 * (i 2).val + 2) (h := h) (bias := bias h) (β := β) w0 w2 w4 (fun _ => w2) (fun _ => w4)
    (lim_rest (by omega)) rfl 256 128 (by omega) (by omega) (by omega) (by omega) hh
  have L3 (h : ℕ) (hh : 128 * h + 128 ≤ 512) := Loads.of (n := 4 * (i 2).val + 3) (h := h) (bias := bias h) (β := β) w0 w2 w4 (fun _ => w2) (fun _ => w4)
    (lim_rest (by omega)) rfl 384 256 (by omega) (by omega) (by omega) (by omega) hh
  have e0 : 512 * (i 2).val + 0 = 128 * (4 * (i 2).val) := by omega
  have e1 : 512 * (i 2).val + 128 = 128 * (4 * (i 2).val + 1) := by omega
  have e2 : 512 * (i 2).val + 256 = 128 * (4 * (i 2).val + 2) := by omega
  have e3 : 512 * (i 2).val + 384 = 128 * (4 * (i 2).val + 3) := by omega
  funext y
  unfold_out out0_5
  refine View.canon_apply_of_pieces (Val := Elt Ideal) (block 512 X β b r (512 * (i 2).val)) _ ?_ y (cover0_5 _ _ _ _ _ _ _ _ _ _ _ _ _ _ _ _ _ _ _ _ y)
  refine good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ (good_cons ?_ good_nil)))))))))))))))))))
  · intro x; exact lse_good (R := 512) e3 (by omega) (L3 0 (by omega)) (L3 1 (by omega)) (L3 2 (by omega)) (L3 3 (by omega)) x
  · intro x; exact head_good (R := 512) e3 (by omega) (by omega) (L3 3 (by omega)) x
  · intro x; exact head_good (R := 512) e3 (by omega) (by omega) (L3 2 (by omega)) x
  · intro x; exact head_good (R := 512) e3 (by omega) (by omega) (L3 1 (by omega)) x
  · intro x; exact head_good (R := 512) e3 (by omega) (by omega) (L3 0 (by omega)) x
  · intro x; exact lse_good (R := 512) e2 (by omega) (L2 0 (by omega)) (L2 1 (by omega)) (L2 2 (by omega)) (L2 3 (by omega)) x
  · intro x; exact head_good (R := 512) e2 (by omega) (by omega) (L2 3 (by omega)) x
  · intro x; exact head_good (R := 512) e2 (by omega) (by omega) (L2 2 (by omega)) x
  · intro x; exact head_good (R := 512) e2 (by omega) (by omega) (L2 1 (by omega)) x
  · intro x; exact head_good (R := 512) e2 (by omega) (by omega) (L2 0 (by omega)) x
  · intro x; exact lse_good (R := 512) e1 (by omega) (L1 0 (by omega)) (L1 1 (by omega)) (L1 2 (by omega)) (L1 3 (by omega)) x
  · intro x; exact head_good (R := 512) e1 (by omega) (by omega) (L1 3 (by omega)) x
  · intro x; exact head_good (R := 512) e1 (by omega) (by omega) (L1 2 (by omega)) x
  · intro x; exact head_good (R := 512) e1 (by omega) (by omega) (L1 1 (by omega)) x
  · intro x; exact head_good (R := 512) e1 (by omega) (by omega) (L1 0 (by omega)) x
  · intro x; exact lse_good (R := 512) e0 (by omega) (L0 0 (by omega)) (L0 1 (by omega)) (L0 2 (by omega)) (L0 3 (by omega)) x
  · intro x; exact head_good (R := 512) e0 (by omega) (by omega) (L0 3 (by omega)) x
  · intro x; exact head_good (R := 512) e0 (by omega) (by omega) (L0 2 (by omega)) x
  · intro x; exact head_good (R := 512) e0 (by omega) (by omega) (L0 1 (by omega)) x
  · intro x; exact head_good (R := 512) e0 (by omega) (by omega) (L0 0 (by omega)) x

variable (m : (ℓ : Loc nD τ sig) → Buf (Elt Ideal) ℓ) (ρ : Dev nD → PrngReg)

/-- The argument at natural positions. -/
abbrev X (c : Dev nD) : ℕ → ℕ → ℕ → ℕ → EReal := At (m ((c : Thread nD τ).loc main_arg0) : S4x4x1024x1536.Idx → EReal)

theorem pos : ∀ t : Fin cfg0.N, (win0_0.index t 0 = (grid0.coords t 0).val ∧ win0_0.index t 1 = (grid0.coords t 1).val ∧ win0_0.index t 2 = (grid0.coords t 2).val ∧ win0_0.index t 3 = 0)
    ∧ (win0_1.index t 0 = (grid0.coords t 0).val ∧ win0_1.index t 1 = (grid0.coords t 1).val ∧ win0_1.index t 2 = 4 * (grid0.coords t 2).val - 1 ∧ win0_1.index t 3 = 1)
    ∧ (win0_2.index t 0 = (grid0.coords t 0).val ∧ win0_2.index t 1 = (grid0.coords t 1).val ∧ win0_2.index t 2 = (grid0.coords t 2).val ∧ win0_2.index t 3 = 1)
    ∧ (win0_3.index t 0 = (grid0.coords t 0).val ∧ win0_3.index t 1 = (grid0.coords t 1).val ∧ win0_3.index t 2 = 4 * (grid0.coords t 2).val - 1 ∧ win0_3.index t 3 = 2)
    ∧ (win0_4.index t 0 = (grid0.coords t 0).val ∧ win0_4.index t 1 = (grid0.coords t 1).val ∧ win0_4.index t 2 = (grid0.coords t 2).val ∧ win0_4.index t 3 = 2)
    ∧ (win0_5.index t 0 = (grid0.coords t 0).val ∧ win0_5.index t 1 = (grid0.coords t 1).val ∧ win0_5.index t 2 = (grid0.coords t 2).val ∧ win0_5.index t 3 = 0) := by
  decide +kernel

theorem reach : ∀ (b : Fin 4) (r : Fin 4) (n : Fin 2), ∃ t : Fin cfg0.N, win0_5.index t 0 = b ∧ win0_5.index t 1 = r ∧ win0_5.index t 2 = n ∧ win0_5.index t 3 = 0
    ∧ (cfg0.win 5).flush t = true := by
  decide +kernel

theorem win0 (c : Dev nD) (t : Fin cfg0.N) : Win (R := 512) (iblk m c 0 t) (X m c) (grid0.coords t 0).val (grid0.coords t 1).val (512 * (grid0.coords t 2).val) 0 := by
  obtain ⟨h0, h1, h2, h3⟩ := (pos t).1
  intro a y
  refine at_idx (V m c main_arg0) _ ?_ ?_ ?_ ?_
  · show win0_0.index t 0 * 1 + 1 * 0 = _; omega
  · show win0_0.index t 1 * 1 + 1 * 0 = _; omega
  · show win0_0.index t 2 * 512 + 1 * a.val = _; omega
  · show win0_0.index t 3 * 512 + 1 * y.val = _; omega

theorem win2 (c : Dev nD) (t : Fin cfg0.N) : Win (R := 512) (iblk m c 2 t) (X m c) (grid0.coords t 0).val (grid0.coords t 1).val (512 * (grid0.coords t 2).val) 512 := by
  obtain ⟨h0, h1, h2, h3⟩ := (pos t).2.2.1
  intro a y
  refine at_idx (V m c main_arg0) _ ?_ ?_ ?_ ?_
  · show win0_2.index t 0 * 1 + 1 * 0 = _; omega
  · show win0_2.index t 1 * 1 + 1 * 0 = _; omega
  · show win0_2.index t 2 * 512 + 1 * a.val = _; omega
  · show win0_2.index t 3 * 512 + 1 * y.val = _; omega

theorem win4 (c : Dev nD) (t : Fin cfg0.N) : Win (R := 512) (iblk m c 4 t) (X m c) (grid0.coords t 0).val (grid0.coords t 1).val (512 * (grid0.coords t 2).val) 1024 := by
  obtain ⟨h0, h1, h2, h3⟩ := (pos t).2.2.2.2.1
  intro a y
  refine at_idx (V m c main_arg0) _ ?_ ?_ ?_ ?_
  · show win0_4.index t 0 * 1 + 1 * 0 = _; omega
  · show win0_4.index t 1 * 1 + 1 * 0 = _; omega
  · show win0_4.index t 2 * 512 + 1 * a.val = _; omega
  · show win0_4.index t 3 * 512 + 1 * y.val = _; omega

theorem win1 (c : Dev nD) (t : Fin cfg0.N) : Win (R := 128) (iblk m c 1 t) (X m c) (grid0.coords t 0).val (grid0.coords t 1).val (512 * (grid0.coords t 2).val - 128) 512 := by
  obtain ⟨h0, h1, h2, h3⟩ := (pos t).2.1
  intro a y
  refine at_idx (V m c main_arg0) _ ?_ ?_ ?_ ?_
  · show win0_1.index t 0 * 1 + 1 * 0 = _; omega
  · show win0_1.index t 1 * 1 + 1 * 0 = _; omega
  · show win0_1.index t 2 * 128 + 1 * a.val = _; omega
  · show win0_1.index t 3 * 512 + 1 * y.val = _; omega

theorem win3 (c : Dev nD) (t : Fin cfg0.N) : Win (R := 128) (iblk m c 3 t) (X m c) (grid0.coords t 0).val (grid0.coords t 1).val (512 * (grid0.coords t 2).val - 128) 1024 := by
  obtain ⟨h0, h1, h2, h3⟩ := (pos t).2.2.2.1
  intro a y
  refine at_idx (V m c main_arg0) _ ?_ ?_ ?_ ?_
  · show win0_3.index t 0 * 1 + 1 * 0 = _; omega
  · show win0_3.index t 1 * 1 + 1 * 0 = _; omega
  · show win0_3.index t 2 * 128 + 1 * a.val = _; omega
  · show win0_3.index t 3 * 512 + 1 * y.val = _; omega

/-- The whole result. -/
def whole (c : Dev nD) : S4x4x1024x640.Idx → EReal := fun i => result (X m c) β (i 0).val (i 1).val (i 2).val (i 3).val

theorem flushed_eq (c : Dev nD) (t : Fin cfg0.N) : (dats m 0 c).flushed 5 t = ((cfg0.win 5).blk t).view.read (Elt Ideal) (whole m c) := by
  rw [flushed5, tile (grid0.coords t) _ _ _ _ _ (X m c) (grid0.coords t 0).val (grid0.coords t 1).val
    (lt_of_lt_of_le (grid0.coords t 2).isLt (by decide)) (win0 m c t) (win2 m c t) (win4 m c t) (fun _ => win1 m c t) (fun _ => win3 m c t)]
  obtain ⟨h0, h1, h2, h3⟩ := (pos t).2.2.2.2.2
  funext y
  have y0 : (y 0).val < 1 := (y 0).isLt
  have y1 : (y 1).val < 1 := (y 1).isLt
  show result (X m c) β _ _ (512 * (grid0.coords t 2).val + (y 2).val) (y 3).val
    = result (X m c) β (win0_5.index t 0 * 1 + 1 * (y 0).val) (win0_5.index t 1 * 1 + 1 * (y 1).val) (win0_5.index t 2 * 512 + 1 * (y 2).val) (win0_5.index t 3 * 640 + 1 * (y 3).val)
  congr 1 <;> omega

theorem final (c : Dev nD) : (dats m 0 c).arrAt 5 cfg0.N = whole m c :=
  (dats m 0 c).arrAt_eq_of_cover 5 (whole m c) (fun t _ => flushed_eq m c t) fun i => by
    have b0 : (i 0).val < 4 := (i 0).isLt
    have b1 : (i 1).val < 4 := (i 1).isLt
    have b2 : (i 2).val < 1024 := (i 2).isLt
    have b3 : (i 3).val < 640 := (i 3).isLt
    obtain ⟨t, h0, h1, h2, h3, hf⟩ := reach ⟨(i 0).val, b0⟩ ⟨(i 1).val, b1⟩ ⟨(i 2).val / 512, by omega⟩
    refine ⟨t, hf, ?_⟩
    show i ∈ ((View.whole main_v0).slice (win0_5.rect t)).set
    rw [View.set_slice_whole, Rect.mem_set_unit]
    simp only at h0 h1 h2
    intro a
    match a with
    | ⟨0, _⟩ => show win0_5.index t 0 * 1 ≤ (i 0).val ∧ (i 0).val < win0_5.index t 0 * 1 + 1; omega
    | ⟨1, _⟩ => show win0_5.index t 1 * 1 ≤ (i 1).val ∧ (i 1).val < win0_5.index t 1 * 1 + 1; omega
    | ⟨2, _⟩ => show win0_5.index t 2 * 512 ≤ (i 2).val ∧ (i 2).val < win0_5.index t 2 * 512 + 512; omega
    | ⟨3, _⟩ => show win0_5.index t 3 * 640 ≤ (i 3).val ∧ (i 3).val < win0_5.index t 3 * 640 + 640; omega

/-! ### The plain program -/

theorem ok : Ref.Ok 4 8 7 1024 := by constructor <;> decide

/-- The heads' slopes. -/
def slope : Fin 4 → BitVec 32 := ![0x3DCB2FF5#32, 0x3D800000#32, 0x3D214518#32, 0x3CCB2FF5#32]

theorem slope_bias : ∀ h : Fin 4, ∃ s : ℝ, Ideal.ofBits .f32 (slope h) = s ∧ β h = ((s * (4 : ℕ) : ℝ) : EReal)
  | 0 => bias_of _ _ 2 (by decide)
  | 1 => bias_of _ _ 2 (by decide)
  | 2 => bias_of _ _ 2 (by decide)
  | 3 => bias_of _ _ 2 (by decide)

theorem ref_eq (m : (ℓ : Loc AttnRef1Ideal.nD AttnRef1Ideal.τ AttnRef1Ideal.sig) → Buf (Elt Ideal) ℓ) (c : Dev AttnRef1Ideal.nD) :
    AttnRef1Ideal.Value.res_main_v88 m c
      = Ref.out ok 4#32 (slope 0) (slope 1) (slope 2) (slope 3) (m ((c.tc : Thread AttnRef1Ideal.nD AttnRef1Ideal.τ).loc AttnRef1Ideal.main_arg0)) := by
  unfold AttnRef1Ideal.Value.res_main_v88
  rfl

/-! ### The claims -/

theorem numbers (c : Dev nD) (h : Cert.Pre_finite_qk_1.fn (F := Ideal) (m ((c.tc : Thread nD τ).loc main_arg0)) = fun _ => 1#1)
    (b r l k : ℕ) (hk : k < 1024) : IsNum (X m c b r l k) := by
  unfold Cert.Pre_finite_qk_1.fn at h
  exact num_of_pre (D := 4) (L := 1024) (m ((c.tc : Thread nD τ).loc main_arg0)) Cert.Pre_finite_qk_1.Facts.slices_S4x4x1024x1536_S4x4x1024x1024_0_0_0_0
    Cert.Pre_finite_qk_1.Facts.bitsLt_bf16_f32 Cert.Pre_finite_qk_1.Facts.bcast_S_S4x4x1024x1024
    Cert.Pre_finite_qk_1.Facts.reducesTo_S4x4x1024x1024_S_d0_1_2_3 Cert.Pre_finite_qk_1.Facts.h_S_ h b r l k hk

theorem frame_ref (m : (ℓ : Loc AttnRef1Ideal.nD AttnRef1Ideal.τ AttnRef1Ideal.sig) → Buf (Elt Ideal) ℓ) (ρ : Dev AttnRef1Ideal.nD → PrngReg) :
    θ_run (AttnRef1Ideal.defs (F := Ideal)) (onTc (τ := AttnRef1Ideal.τ) (AttnRef1Ideal.main (F := Ideal))) ⟨m, fun _ => 0, ρ⟩ (fun r =>
      (∀ c : Dev AttnRef1Ideal.nD, r.2.mem ((c.tc : Thread AttnRef1Ideal.nD AttnRef1Ideal.τ).loc AttnRef1Ideal.main_arg0)
        = m ((c.tc : Thread AttnRef1Ideal.nD AttnRef1Ideal.τ).loc AttnRef1Ideal.main_arg0)) ∧ r.2.sem = fun _ => 0) :=
  (θ_run AttnRef1Ideal.defs _ _).mono (fun r h => ⟨fun c => (h c).2, sem_eq_zero_of_no_sems (by decide) r.2⟩) (AttnRef1Ideal.Value.run (F := Ideal) m ρ)

theorem equal : Cert.algebraic_Attn1Ideal_AttnRef1Ideal_pre_finite_qk_1 := fun m ρ m' ρ' hp hm =>
  ⟨whole m, (θ_run defs _ _).mono (fun r h c => ⟨((h c).1).trans (final m c), (h c).2⟩) (run_blocks m ρ),
    (θ_run AttnRef1Ideal.defs _ _).mono (fun r h c => ⟨(h c).1.trans ((ref_eq m' c).trans (funext fun i => by
      rw [hm c]
      exact Ref.out_eq ok (m ((c.tc : Thread nD τ).loc main_arg0)) (by omega) 4 (by omega) slope β slope_bias (numbers m c (hp c)) i)), (h c).2⟩)
      (AttnRef1Ideal.Value.run (F := Ideal) m' ρ')⟩

end Cert.Attn1Ideal.Value

end
-- ==== Proof.Group2.lean ====
/-
  The attention of the third group (dilation 16): the kernel's result array and the plain program's are the same
  function of the argument.
-/
module

public import proofs.«01_k».proof.Proof.Gen.Attn2Ideal.Value
public import proofs.«01_k».proof.Proof.Gen.AttnRef2Ideal.Run
public import proofs.«01_k».proof.Proof.Tile
public import proofs.«01_k».proof.Proof.RefRead
public import proofs.«01_k».proof.Proof.Pre
public import proofs.«01_k».proof.Proof.Gen.Pre_finite_qk_2
public import proofs.«01_k».proof.Defs
public import Idealize.ShloMosaic.Lib.Quiescent

@[expose] public section

noncomputable section

namespace Cert.Attn2Ideal.Value

open Attn Idealize.ShloMosaic Idealize.ShloMosaic.TcCoe Idealize.SL.Sem Cert.Attn2Ideal Cert.Attn2Ideal.Gen
open Idealize.ShloMosaic.Pipeline (Dat)

/-- The heads' slopes times the dilation. -/
def bias : ℕ → BitVec 32
  | 0 => 0x3E800000#32
  | 1 => 0x3E214518#32
  | 2 => 0x3DCB2FF5#32
  | _ => 0x3D800000#32

/-- The same as numbers. -/
def β (h : ℕ) : EReal := Ideal.ofBits .f32 (bias h)

set_option maxRecDepth 16384
/-- A grid point's output block is the result's rows there. -/
theorem tile (i : grid0.Coords) (x0 : Vec Ideal S1x1x256x512 .bf16) (x1 : Vec Ideal S1x1x128x512 .bf16) (x2 : Vec Ideal S1x1x256x512 .bf16)
    (x3 : Vec Ideal S1x1x128x512 .bf16) (x4 : Vec Ideal S1x1x256x512 .bf16) (X : ℕ → ℕ → ℕ → ℕ → EReal) (b r : ℕ) (hi : (i 2).val < 32)
    (w0 : Win x0 X b r (256 * (i 2).val) 0) (w2 : Win x2 X b r (256 * (i 2).val) 512) (w4 : Win x4 X b r (256 * (i 2).val) 1024)
    (w1 : (i 2).val ≠ 0 → Win x1 X b r (256 * (i 2).val - 128) 512) (w3 : (i 2).val ≠ 0 → Win x3 X b r (256 * (i 2).val - 128) 1024) :
    out0_5 i x0 x1 x2 x3 x4 = block 256 X β b r (256 * (i 2).val) := by
  have L0 (h : ℕ) (hh : 128 * h + 128 ≤ 512) := Loads.of (n := 2 * (i 2).val) (h := h) (bias := bias h) (β := β) w0 w2 w4 (fun hn => w1 (by omega)) (fun hn => w3 (by omega))
    (lim_first (i 2).val (by omega) (by omega)) rfl 0 0 (by omega) (by omega) (by omega) (by omega) hh
  have L1 (h : ℕ) (hh : 128 * h + 128 ≤ 512) := Loads.of (n := 2 * (i 2).val + 1) (h := h) (bias := bias h) (β := β) w0 w2 w4 (fun _ => w2) (fun _ => w4)
    (lim_rest (by omega)) rfl 128 0 (by omega) (by omega) (by omega) (by omega) hh
  have e0 : 256 * (i 2).val + 0 = 128 * (2 * (i 2).val) := by omega
  have e1 : 256 * (i 2).val + 128 = 128 * (2 * (i 2).val + 1) := by omega
  funext y
  unfold_out out0_5
  refine View.canon_apply_of_pieces (Val := Elt Ideal) (block 256 X β b r (256 * (i 2).val)) _ ?_ y (cover0_5 _ _ _ _ _ _ _ _ _ _ y)
  refine good_cons ?_ (good_cons ?_ (good_cons ?_ (good_cons ?_ (good_cons ?_ (good_cons ?_ (good_cons ?_ (good_cons ?_ (good_cons ?_ (good_cons ?_ good_nil)))))))))
  · intro x; exact lse_good (R := 256) e1 (by omega) (L1 0 (by omega)) (L1 1 (by omega)) (L1 2 (by omega)) (L1 3 (by omega)) x
  · intro x; exact head_good (R := 256) e1 (by omega) (by omega) (L1 3 (by omega)) x
  · intro x; exact head_good (R := 256) e1 (by omega) (by omega) (L1 2 (by omega)) x
  · intro x; exact head_good (R := 256) e1 (by omega) (by omega) (L1 1 (by omega)) x
  · intro x; exact head_good (R := 256) e1 (by omega) (by omega) (L1 0 (by omega)) x
  · intro x; exact lse_good (R := 256) e0 (by omega) (L0 0 (by omega)) (L0 1 (by omega)) (L0 2 (by omega)) (L0 3 (by omega)) x
  · intro x; exact head_good (R := 256) e0 (by omega) (by omega) (L0 3 (by omega)) x
  · intro x; exact head_good (R := 256) e0 (by omega) (by omega) (L0 2 (by omega)) x
  · intro x; exact head_good (R := 256) e0 (by omega) (by omega) (L0 1 (by omega)) x
  · intro x; exact head_good (R := 256) e0 (by omega) (by omega) (L0 0 (by omega)) x

variable (m : (ℓ : Loc nD τ sig) → Buf (Elt Ideal) ℓ) (ρ : Dev nD → PrngReg)

/-- The argument at natural positions. -/
abbrev X (c : Dev nD) : ℕ → ℕ → ℕ → ℕ → EReal := At (m ((c : Thread nD τ).loc main_arg0) : S4x16x256x1536.Idx → EReal)

theorem pos : ∀ t : Fin cfg0.N, (win0_0.index t 0 = (grid0.coords t 0).val ∧ win0_0.index t 1 = (grid0.coords t 1).val ∧ win0_0.index t 2 = (grid0.coords t 2).val ∧ win0_0.index t 3 = 0)
    ∧ (win0_1.index t 0 = (grid0.coords t 0).val ∧ win0_1.index t 1 = (grid0.coords t 1).val ∧ win0_1.index t 2 = 2 * (grid0.coords t 2).val - 1 ∧ win0_1.index t 3 = 1)
    ∧ (win0_2.index t 0 = (grid0.coords t 0).val ∧ win0_2.index t 1 = (grid0.coords t 1).val ∧ win0_2.index t 2 = (grid0.coords t 2).val ∧ win0_2.index t 3 = 1)
    ∧ (win0_3.index t 0 = (grid0.coords t 0).val ∧ win0_3.index t 1 = (grid0.coords t 1).val ∧ win0_3.index t 2 = 2 * (grid0.coords t 2).val - 1 ∧ win0_3.index t 3 = 2)
    ∧ (win0_4.index t 0 = (grid0.coords t 0).val ∧ win0_4.index t 1 = (grid0.coords t 1).val ∧ win0_4.index t 2 = (grid0.coords t 2).val ∧ win0_4.index t 3 = 2)
    ∧ (win0_5.index t 0 = (grid0.coords t 0).val ∧ win0_5.index t 1 = (grid0.coords t 1).val ∧ win0_5.index t 2 = (grid0.coords t 2).val ∧ win0_5.index t 3 = 0) := by
  decide +kernel

theorem reach : ∀ (b : Fin 4) (r : Fin 16) (n : Fin 1), ∃ t : Fin cfg0.N, win0_5.index t 0 = b ∧ win0_5.index t 1 = r ∧ win0_5.index t 2 = n ∧ win0_5.index t 3 = 0
    ∧ (cfg0.win 5).flush t = true := by
  decide +kernel

theorem win0 (c : Dev nD) (t : Fin cfg0.N) : Win (R := 256) (iblk m c 0 t) (X m c) (grid0.coords t 0).val (grid0.coords t 1).val (256 * (grid0.coords t 2).val) 0 := by
  obtain ⟨h0, h1, h2, h3⟩ := (pos t).1
  intro a y
  refine at_idx (V m c main_arg0) _ ?_ ?_ ?_ ?_
  · show win0_0.index t 0 * 1 + 1 * 0 = _; omega
  · show win0_0.index t 1 * 1 + 1 * 0 = _; omega
  · show win0_0.index t 2 * 256 + 1 * a.val = _; omega
  · show win0_0.index t 3 * 512 + 1 * y.val = _; omega

theorem win2 (c : Dev nD) (t : Fin cfg0.N) : Win (R := 256) (iblk m c 2 t) (X m c) (grid0.coords t 0).val (grid0.coords t 1).val (256 * (grid0.coords t 2).val) 512 := by
  obtain ⟨h0, h1, h2, h3⟩ := (pos t).2.2.1
  intro a y
  refine at_idx (V m c main_arg0) _ ?_ ?_ ?_ ?_
  · show win0_2.index t 0 * 1 + 1 * 0 = _; omega
  · show win0_2.index t 1 * 1 + 1 * 0 = _; omega
  · show win0_2.index t 2 * 256 + 1 * a.val = _; omega
  · show win0_2.index t 3 * 512 + 1 * y.val = _; omega

theorem win4 (c : Dev nD) (t : Fin cfg0.N) : Win (R := 256) (iblk m c 4 t) (X m c) (grid0.coords t 0).val (grid0.coords t 1).val (256 * (grid0.coords t 2).val) 1024 := by
  obtain ⟨h0, h1, h2, h3⟩ := (pos t).2.2.2.2.1
  intro a y
  refine at_idx (V m c main_arg0) _ ?_ ?_ ?_ ?_
  · show win0_4.index t 0 * 1 + 1 * 0 = _; omega
  · show win0_4.index t 1 * 1 + 1 * 0 = _; omega
  · show win0_4.index t 2 * 256 + 1 * a.val = _; omega
  · show win0_4.index t 3 * 512 + 1 * y.val = _; omega

theorem win1 (c : Dev nD) (t : Fin cfg0.N) : Win (R := 128) (iblk m c 1 t) (X m c) (grid0.coords t 0).val (grid0.coords t 1).val (256 * (grid0.coords t 2).val - 128) 512 := by
  obtain ⟨h0, h1, h2, h3⟩ := (pos t).2.1
  intro a y
  refine at_idx (V m c main_arg0) _ ?_ ?_ ?_ ?_
  · show win0_1.index t 0 * 1 + 1 * 0 = _; omega
  · show win0_1.index t 1 * 1 + 1 * 0 = _; omega
  · show win0_1.index t 2 * 128 + 1 * a.val = _; omega
  · show win0_1.index t 3 * 512 + 1 * y.val = _; omega

theorem win3 (c : Dev nD) (t : Fin cfg0.N) : Win (R := 128) (iblk m c 3 t) (X m c) (grid0.coords t 0).val (grid0.coords t 1).val (256 * (grid0.coords t 2).val - 128) 1024 := by
  obtain ⟨h0, h1, h2, h3⟩ := (pos t).2.2.2.1
  intro a y
  refine at_idx (V m c main_arg0) _ ?_ ?_ ?_ ?_
  · show win0_3.index t 0 * 1 + 1 * 0 = _; omega
  · show win0_3.index t 1 * 1 + 1 * 0 = _; omega
  · show win0_3.index t 2 * 128 + 1 * a.val = _; omega
  · show win0_3.index t 3 * 512 + 1 * y.val = _; omega

/-- The whole result. -/
def whole (c : Dev nD) : S4x16x256x640.Idx → EReal := fun i => result (X m c) β (i 0).val (i 1).val (i 2).val (i 3).val

theorem flushed_eq (c : Dev nD) (t : Fin cfg0.N) : (dats m 0 c).flushed 5 t = ((cfg0.win 5).blk t).view.read (Elt Ideal) (whole m c) := by
  rw [flushed5, tile (grid0.coords t) _ _ _ _ _ (X m c) (grid0.coords t 0).val (grid0.coords t 1).val
    (lt_of_lt_of_le (grid0.coords t 2).isLt (by decide)) (win0 m c t) (win2 m c t) (win4 m c t) (fun _ => win1 m c t) (fun _ => win3 m c t)]
  obtain ⟨h0, h1, h2, h3⟩ := (pos t).2.2.2.2.2
  funext y
  have y0 : (y 0).val < 1 := (y 0).isLt
  have y1 : (y 1).val < 1 := (y 1).isLt
  show result (X m c) β _ _ (256 * (grid0.coords t 2).val + (y 2).val) (y 3).val
    = result (X m c) β (win0_5.index t 0 * 1 + 1 * (y 0).val) (win0_5.index t 1 * 1 + 1 * (y 1).val) (win0_5.index t 2 * 256 + 1 * (y 2).val) (win0_5.index t 3 * 640 + 1 * (y 3).val)
  congr 1 <;> omega

theorem final (c : Dev nD) : (dats m 0 c).arrAt 5 cfg0.N = whole m c :=
  (dats m 0 c).arrAt_eq_of_cover 5 (whole m c) (fun t _ => flushed_eq m c t) fun i => by
    have b0 : (i 0).val < 4 := (i 0).isLt
    have b1 : (i 1).val < 16 := (i 1).isLt
    have b2 : (i 2).val < 256 := (i 2).isLt
    have b3 : (i 3).val < 640 := (i 3).isLt
    obtain ⟨t, h0, h1, h2, h3, hf⟩ := reach ⟨(i 0).val, b0⟩ ⟨(i 1).val, b1⟩ ⟨(i 2).val / 256, by omega⟩
    refine ⟨t, hf, ?_⟩
    show i ∈ ((View.whole main_v0).slice (win0_5.rect t)).set
    rw [View.set_slice_whole, Rect.mem_set_unit]
    simp only at h0 h1 h2
    intro a
    match a with
    | ⟨0, _⟩ => show win0_5.index t 0 * 1 ≤ (i 0).val ∧ (i 0).val < win0_5.index t 0 * 1 + 1; omega
    | ⟨1, _⟩ => show win0_5.index t 1 * 1 ≤ (i 1).val ∧ (i 1).val < win0_5.index t 1 * 1 + 1; omega
    | ⟨2, _⟩ => show win0_5.index t 2 * 256 ≤ (i 2).val ∧ (i 2).val < win0_5.index t 2 * 256 + 256; omega
    | ⟨3, _⟩ => show win0_5.index t 3 * 640 ≤ (i 3).val ∧ (i 3).val < win0_5.index t 3 * 640 + 640; omega

/-! ### The plain program -/

theorem ok : Ref.Ok 16 2 1 256 := by constructor <;> decide

/-- The heads' slopes. -/
def slope : Fin 4 → BitVec 32 := ![0x3C800000#32, 0x3C214518#32, 0x3BCB2FF5#32, 0x3B800000#32]

theorem slope_bias : ∀ h : Fin 4, ∃ s : ℝ, Ideal.ofBits .f32 (slope h) = s ∧ β h = ((s * (16 : ℕ) : ℝ) : EReal)
  | 0 => bias_of _ _ 4 (by decide)
  | 1 => bias_of _ _ 4 (by decide)
  | 2 => bias_of _ _ 4 (by decide)
  | 3 => bias_of _ _ 4 (by decide)

theorem ref_eq (m : (ℓ : Loc AttnRef2Ideal.nD AttnRef2Ideal.τ AttnRef2Ideal.sig) → Buf (Elt Ideal) ℓ) (c : Dev AttnRef2Ideal.nD) :
    AttnRef2Ideal.Value.res_main_v88 m c
      = Ref.out ok 16#32 (slope 0) (slope 1) (slope 2) (slope 3) (m ((c.tc : Thread AttnRef2Ideal.nD AttnRef2Ideal.τ).loc AttnRef2Ideal.main_arg0)) := by
  unfold AttnRef2Ideal.Value.res_main_v88
  rfl

/-! ### The claims -/

theorem numbers (c : Dev nD) (h : Cert.Pre_finite_qk_2.fn (F := Ideal) (m ((c.tc : Thread nD τ).loc main_arg0)) = fun _ => 1#1)
    (b r l k : ℕ) (hk : k < 1024) : IsNum (X m c b r l k) := by
  unfold Cert.Pre_finite_qk_2.fn at h
  exact num_of_pre (D := 16) (L := 256) (m ((c.tc : Thread nD τ).loc main_arg0)) Cert.Pre_finite_qk_2.Facts.slices_S4x16x256x1536_S4x16x256x1024_0_0_0_0
    Cert.Pre_finite_qk_2.Facts.bitsLt_bf16_f32 Cert.Pre_finite_qk_2.Facts.bcast_S_S4x16x256x1024
    Cert.Pre_finite_qk_2.Facts.reducesTo_S4x16x256x1024_S_d0_1_2_3 Cert.Pre_finite_qk_2.Facts.h_S_ h b r l k hk

theorem frame_ref (m : (ℓ : Loc AttnRef2Ideal.nD AttnRef2Ideal.τ AttnRef2Ideal.sig) → Buf (Elt Ideal) ℓ) (ρ : Dev AttnRef2Ideal.nD → PrngReg) :
    θ_run (AttnRef2Ideal.defs (F := Ideal)) (onTc (τ := AttnRef2Ideal.τ) (AttnRef2Ideal.main (F := Ideal))) ⟨m, fun _ => 0, ρ⟩ (fun r =>
      (∀ c : Dev AttnRef2Ideal.nD, r.2.mem ((c.tc : Thread AttnRef2Ideal.nD AttnRef2Ideal.τ).loc AttnRef2Ideal.main_arg0)
        = m ((c.tc : Thread AttnRef2Ideal.nD AttnRef2Ideal.τ).loc AttnRef2Ideal.main_arg0)) ∧ r.2.sem = fun _ => 0) :=
  (θ_run AttnRef2Ideal.defs _ _).mono (fun r h => ⟨fun c => (h c).2, sem_eq_zero_of_no_sems (by decide) r.2⟩) (AttnRef2Ideal.Value.run (F := Ideal) m ρ)

theorem equal : Cert.algebraic_Attn2Ideal_AttnRef2Ideal_pre_finite_qk_2 := fun m ρ m' ρ' hp hm =>
  ⟨whole m, (θ_run defs _ _).mono (fun r h c => ⟨((h c).1).trans (final m c), (h c).2⟩) (run_blocks m ρ),
    (θ_run AttnRef2Ideal.defs _ _).mono (fun r h c => ⟨(h c).1.trans ((ref_eq m' c).trans (funext fun i => by
      rw [hm c]
      exact Ref.out_eq ok (m ((c.tc : Thread nD τ).loc main_arg0)) (by omega) 16 le_rfl slope β slope_bias (numbers m c (hp c)) i)), (h c).2⟩)
      (AttnRef2Ideal.Value.run (F := Ideal) m' ρ')⟩

end Cert.Attn2Ideal.Value

end
-- ==== Proof.Rows.lean ====
/-
  A token's row of the layer's input normalised, scaled and modulated, and such a row times a column of weights, over
  the extended reals: what the projections of the kernel and of the plain program are both read as.
-/
module

public import Idealize.ShloMosaic.Lib.Pointwise
public import Idealize.ShloMosaic.PureOps.Ideal

@[expose] public section

noncomputable section

namespace Rows

open Idealize.ShloMosaic

/-- One over the root of a row's mean square, with the layer's small constant under the root. -/
def scale (y : Fin 2048 → EReal) : EReal :=
  Ideal.rsqrt (Ideal.div (∑ j, y j * y j) (Ideal.ofBits .f32 0x45000000#32) + Ideal.ofBits .f32 0x358637BD#32)

/-- A row normalised, times the gain, then modulated. -/
def hid (y g shift sc : Fin 2048 → EReal) (k : Fin 2048) : EReal :=
  y k * scale y * g k * (1 + sc k) + shift k

/-- The row of the hidden state times a column of weights. -/
def proj (y g shift sc w : Fin 2048 → EReal) : EReal := ∑ k, hid y g shift sc k * w k

/-- The input's row plus the gated, normalised and scaled row of the mixer's output. -/
def mixed (x o g gate : Fin 2048 → EReal) (k : Fin 2048) : EReal :=
  x k + gate k * (o k * scale o * g k)

end Rows

end
-- ==== Proof.Proj.lean ====
/-
  The in-projection that gives the recurrence's inputs and the two gates: the kernel's result array and the plain
  program's are the same function of the arguments.
-/
module

public import proofs.«01_k».proof.Proof.Gen.ProjIdeal.Value
public import proofs.«01_k».proof.Proof.Gen.ProjRefIdeal.Run
public import proofs.«01_k».proof.Proof.Rows
public import proofs.«01_k».proof.Defs
public import Idealize.ShloMosaic.Lib.Pipeline
public import Idealize.ShloMosaic.Lib.Pipeline.ValueKit.Acc
public import Idealize.ShloMosaic.Lib.Pipeline.ValueKit.Geometry
public import Idealize.ShloMosaic.Lib.Pipeline.ReadBack
public import Idealize.ShloMosaic.Lib.StableHlo.ReadAt
public import Idealize.ShloMosaic.Lib.Quiescent

@[expose] public section

noncomputable section

namespace Cert.ProjIdeal.Value

open Idealize.ShloMosaic Idealize.ShloMosaic.TcCoe Idealize.SL.Sem Cert.ProjIdeal Cert.ProjIdeal.Gen

set_option maxRecDepth 16384

/-! ### What the body computes -/

theorem hidden_at (v9 : Vec Ideal S1024x2048 .f32) (v21 : Vec Ideal S1x2048 .f32) (v25 v31 : Vec Ideal S1x1x2048 .f32) (a : Fin 1024) (k : Fin 2048) :
    k0_pay1 v9 v21 v25 v31 (ix2 a k) = Rows.hid (fun j => v9 (ix2 a j)) (fun j => v21 (ix2 0 j)) (fun j => v31 (ix3 0 0 j)) (fun j => v25 (ix3 0 0 j)) k := by
  pointwise [k0_pay1, Rows.hid, Rows.scale]

theorem product_at (v3 : Vec Ideal S1024x2048 .bf16) (v4 : Vec Ideal S2048x1024 .bf16) (a b : Fin 1024) :
    k0_pay2 v3 v4 (ix2 a b) = ∑ k, v3 (ix2 a k) * v4 (ix2 k b) := by
  pointwise [k0_pay2]

variable (m : (ℓ : Loc nD τ sig) → Buf (Elt Ideal) ℓ) (ρ : Dev nD → PrngReg)

/-! ### The arguments -/

abbrev x (c : Dev nD) : S4x4096x2048.Idx → EReal := m ((c : Thread nD τ).loc main_arg0)
abbrev gain (c : Dev nD) : S2048.Idx → EReal := m ((c : Thread nD τ).loc main_arg1)
abbrev shift (c : Dev nD) : S4x2048.Idx → EReal := m ((c : Thread nD τ).loc main_arg2)
abbrev sc (c : Dev nD) : S4x2048.Idx → EReal := m ((c : Thread nD τ).loc main_arg3)
abbrev w (c : Dev nD) : S2048x12800.Idx → EReal := m ((c : Thread nD τ).loc main_arg4)

/-- The hidden state of a token. -/
def hidden (c : Dev nD) (b : Fin 4) (s : Fin 4096) : Fin 2048 → EReal :=
  Rows.hid (fun j => x m c (ix3 b s j)) (fun j => gain m c (ix1 j)) (fun j => shift m c (ix2 b j)) (fun j => sc m c (ix2 b j))

/-- The whole result. -/
def whole (c : Dev nD) : S16384x8192.Idx → EReal := fun i =>
  have h0 : (i 0).val < 16384 := (i 0).isLt
  have h1 : (i 1).val < 8192 := (i 1).isLt
  ∑ k, hidden m c ⟨(i 0).val / 4096, by omega⟩ ⟨(i 0).val % 4096, by omega⟩ k * w m c (ix2 k ⟨4608 + (i 1).val, by omega⟩)

theorem whole_at (c : Dev nD) (p : Fin 16384) (q : Fin 8192) : whole m c (ix2 p q)
    = ∑ k, hidden m c ⟨p / 4096, by omega⟩ ⟨p % 4096, by omega⟩ k * w m c (ix2 k ⟨4608 + q, by omega⟩) := rfl

/-! ### The blocks -/

theorem pos : ∀ t : Fin cfg0.N, t.val < 128
    ∧ (win0_0.index t 0 = t.val / 8 ∧ win0_0.index t 1 = 0) ∧ (win0_1.index t 0 = 0 ∧ win0_1.index t 1 = 0)
    ∧ (win0_2.index t 0 = t.val / 32 ∧ win0_2.index t 1 = 0 ∧ win0_2.index t 2 = 0) ∧ (win0_3.index t 0 = t.val / 32 ∧ win0_3.index t 1 = 0 ∧ win0_3.index t 2 = 0)
    ∧ (win0_4.index t 0 = 0 ∧ win0_4.index t 1 = t.val % 8) ∧ (win0_5.index t 0 = t.val / 8 ∧ win0_5.index t 1 = t.val % 8) := by
  decide +kernel

theorem x_at (c : Dev nD) (a : Fin 16384) (k : Fin 2048) : V m c main_v0 (ix2 a k) = x m c (ix3 ⟨a / 4096, by omega⟩ ⟨a % 4096, by omega⟩ k) := by
  unfold V
  after_reads_at

theorem gain_at (c : Dev nD) (k : Fin 2048) : V m c main_v5 (ix2 0 k) = gain m c (ix1 k) := by
  unfold V
  after_reads_at

theorem shift_at (c : Dev nD) (b : Fin 4) (k : Fin 2048) : V m c main_v1 (ix3 b 0 k) = shift m c (ix2 b k) := by
  unfold V
  after_reads_at

theorem sc_at (c : Dev nD) (b : Fin 4) (k : Fin 2048) : V m c main_v2 (ix3 b 0 k) = sc m c (ix2 b k) := by
  unfold V
  after_reads_at

theorem w_at (c : Dev nD) (k : Fin 2048) (n : Fin 8192) : V m c main_v4 (ix2 k n) = w m c (ix2 k ⟨4608 + n, by omega⟩) := by
  unfold V
  after_reads_at

theorem x_blk (c : Dev nD) (t : Fin cfg0.N) (a : Fin 1024) (k : Fin 2048) : iblk m c 0 t (ix2 a k)
    = x m c (ix3 ⟨t.val / 32, by have := (pos t).1; omega⟩ ⟨1024 * (t.val / 8 % 4) + a, by omega⟩ k) := by
  obtain ⟨ht, ⟨h0, h1⟩, _⟩ := pos t
  refine (congrArg (V m c main_v0) (?_ : _ = ix2 ⟨1024 * (t.val / 8) + a, by omega⟩ k)).trans ((x_at m c _ _).trans ?_)
  · funext d; apply Fin.ext
    match d with
    | ⟨0, _⟩ => show win0_0.index t 0 * 1024 + 1 * a.val = 1024 * (t.val / 8) + a; omega
    | ⟨1, _⟩ => show win0_0.index t 1 * 2048 + 1 * k.val = k; omega
  · congr 2 <;> (apply Fin.ext; dsimp only; omega)

theorem gain_blk (c : Dev nD) (t : Fin cfg0.N) (k : Fin 2048) : iblk m c 1 t (ix2 0 k) = gain m c (ix1 k) := by
  obtain ⟨h0, h1⟩ := (pos t).2.2.1
  refine (congrArg (V m c main_v5) (?_ : _ = ix2 0 k)).trans (gain_at m c _)
  funext d; apply Fin.ext
  match d with
  | ⟨0, _⟩ => show win0_1.index t 0 * 1 + 1 * 0 = 0; omega
  | ⟨1, _⟩ => show win0_1.index t 1 * 2048 + 1 * k.val = k; omega

theorem shift_blk (c : Dev nD) (t : Fin cfg0.N) (k : Fin 2048) : iblk m c 2 t (ix3 0 0 k) = shift m c (ix2 ⟨t.val / 32, by have := (pos t).1; omega⟩ k) := by
  obtain ⟨h0, h1, h2⟩ := (pos t).2.2.2.1
  have ht := (pos t).1
  refine (congrArg (V m c main_v1) (?_ : _ = ix3 ⟨t.val / 32, by omega⟩ 0 k)).trans (shift_at m c _ _)
  funext d; apply Fin.ext
  match d with
  | ⟨0, _⟩ => show win0_2.index t 0 * 1 + 1 * 0 = t.val / 32; omega
  | ⟨1, _⟩ => show win0_2.index t 1 * 1 + 1 * 0 = 0; omega
  | ⟨2, _⟩ => show win0_2.index t 2 * 2048 + 1 * k.val = k; omega

theorem sc_blk (c : Dev nD) (t : Fin cfg0.N) (k : Fin 2048) : iblk m c 3 t (ix3 0 0 k) = sc m c (ix2 ⟨t.val / 32, by have := (pos t).1; omega⟩ k) := by
  obtain ⟨h0, h1, h2⟩ := (pos t).2.2.2.2.1
  have ht := (pos t).1
  refine (congrArg (V m c main_v2) (?_ : _ = ix3 ⟨t.val / 32, by omega⟩ 0 k)).trans (sc_at m c _ _)
  funext d; apply Fin.ext
  match d with
  | ⟨0, _⟩ => show win0_3.index t 0 * 1 + 1 * 0 = t.val / 32; omega
  | ⟨1, _⟩ => show win0_3.index t 1 * 1 + 1 * 0 = 0; omega
  | ⟨2, _⟩ => show win0_3.index t 2 * 2048 + 1 * k.val = k; omega

theorem w_blk (c : Dev nD) (t : Fin cfg0.N) (k : Fin 2048) (n : Fin 1024) : iblk m c 4 t (ix2 k n)
    = w m c (ix2 k ⟨4608 + (1024 * (t.val % 8) + n), by omega⟩) := by
  obtain ⟨h0, h1⟩ := (pos t).2.2.2.2.2.1
  refine (congrArg (V m c main_v4) (?_ : _ = ix2 k ⟨1024 * (t.val % 8) + n, by omega⟩)).trans (w_at m c _ _)
  funext d; apply Fin.ext
  match d with
  | ⟨0, _⟩ => show win0_4.index t 0 * 2048 + 1 * k.val = k; omega
  | ⟨1, _⟩ => show win0_4.index t 1 * 1024 + 1 * n.val = 1024 * (t.val % 8) + n; omega

/-! ### The hidden state kept between the column blocks -/

theorem kept_new (c : Dev nD) (t : Fin cfg0.N) (h : t.val % 8 = 0) :
    (outsAt0 m c t.val t.isLt).2 = k0_pay1 (iblk m c 0 t) (iblk m c 1 t) (iblk m c 3 t) (iblk m c 2 t) := by
  rw [outsAt0_A m c t h]
  frame_out

theorem kept_old (c : Dev nD) (t : Fin cfg0.N) (h : ¬ t.val % 8 = 0) :
    (outsAt0 m c t.val t.isLt).2 = (outsAt0 m c (t.val - 1) (Nat.lt_of_le_of_lt (Nat.sub_le _ _) t.isLt)).2 := by
  rw [outsAt0_B m c t h]
  rfl

/-- After every point the scratch holds the hidden state of the point's rows. -/
theorem kept (c : Dev nD) (n : ℕ) : ∀ (hn : n < cfg0.N) (h : n < 128) (a : Fin 1024) (k : Fin 2048), (outsAt0 m c n hn).2 (ix2 a k)
    = hidden m c ⟨n / 32, by omega⟩ ⟨1024 * (n / 8 % 4) + a, by omega⟩ k := by
  induction n with
  | zero =>
    intro hn h a k
    refine (congrFun (kept_new m c ⟨0, hn⟩ rfl) _).trans ?_
    rw [hidden_at]
    unfold hidden
    simp only [x_blk, gain_blk, shift_blk, sc_blk]
  | succ n ih =>
    intro hn h a k
    by_cases h0 : (n + 1) % 8 = 0
    · refine (congrFun (kept_new m c ⟨n + 1, hn⟩ h0) _).trans ?_
      rw [hidden_at]
      unfold hidden
      simp only [x_blk, gain_blk, shift_blk, sc_blk]
    · refine (congrFun (kept_old m c ⟨n + 1, hn⟩ h0) _).trans ((ih (Nat.lt_of_succ_lt hn) (by omega) a k).trans ?_)
      congr 2 <;> omega

theorem out_at (c : Dev nD) (t : Fin cfg0.N) : (outsAt0 m c t.val t.isLt).1 = k0_pay2 (outsAt0 m c t.val t.isLt).2 (iblk m c 4 t) := by
  by_cases h : t.val % 8 = 0
  · rw [outsAt0_A m c t h]
    frame_out
  · rw [kept_old m c t h, outsAt0_B m c t h]
    frame_out
    simp only [read_unread_whole]

theorem final (c : Dev nD) : (dats m 0 c).arrAt 5 cfg0.N = whole m c := by
  refine (dats m 0 c).arrAt_eq_of_covers 5 _ (by decide +kernel) fun t hf y => ?_
  blk_simp
  rw [after0_5, out_at]
  obtain ⟨ht, _, _, _, _, _, h0, h1⟩ := pos t
  obtain ⟨a, b, rfl⟩ : ∃ (a b : Fin 1024), y = ix2 a b := ⟨y 0, y 1, by funext d; match d with | ⟨0, _⟩ => rfl | ⟨1, _⟩ => rfl⟩
  have e : (win0_5.blk t).view.emb (ix2 a b) = ix2 ⟨1024 * (t.val / 8) + a, by omega⟩ ⟨1024 * (t.val % 8) + b, by omega⟩ := by
    funext d; apply Fin.ext
    match d with
    | ⟨0, _⟩ => show win0_5.index t 0 * 1024 + 1 * a.val = 1024 * (t.val / 8) + a; omega
    | ⟨1, _⟩ => show win0_5.index t 1 * 1024 + 1 * b.val = 1024 * (t.val % 8) + b; omega
  rw [e, whole_at]
  refine (product_at _ _ a b).trans (Finset.sum_congr rfl fun k _ => ?_)
  rw [kept m c t.val t.isLt ht, w_blk]
  congr 2 <;> (apply Fin.ext; dsimp only; omega)

/-! ### The claims -/

theorem frame_ref : Cert.quiescent_ProjRefIdeal := fun m ρ _ =>
  (θ_run ProjRefIdeal.defs _ _).mono (fun r h => ⟨fun c => (h c).2, sem_eq_zero_of_no_sems (by decide) r.2⟩) (ProjRefIdeal.Value.run (F := Ideal) m ρ)

theorem equal : Cert.algebraic_ProjIdeal_ProjRefIdeal := fun m ρ m' ρ' _ hm =>
  ⟨whole m, (θ_run defs _ _).mono (fun r h c => ⟨((h c).1).trans (final m c), (h c).2⟩) (run_blocks m ρ),
    (θ_run ProjRefIdeal.defs _ _).mono (fun r h c => ⟨(h c).1.trans (by
      funext i
      idx_vars i
      pointwise [whole, hidden, Rows.hid, Rows.scale]
      simp only [hm]), (h c).2⟩)
      (ProjRefIdeal.Value.run (F := Ideal) m' ρ')⟩

end Cert.ProjIdeal.Value

end
-- ==== Proof.ProjRef0.lean ====
/-
  The plain program's in-projection of the first head group, read at an index.
-/
module

public import proofs.«01_k».proof.Proof.Gen.ProjRef0Ideal.Run
public import proofs.«01_k».proof.Proof.Rows
public import Idealize.ShloMosaic.Lib.Pipeline.ValueKit.Geometry
public import Idealize.ShloMosaic.Lib.StableHlo.ReadAt

@[expose] public section

noncomputable section

namespace Cert.ProjRef0Ideal.Value

open Idealize.ShloMosaic Idealize.ShloMosaic.TcCoe Idealize.SL.Sem Cert.ProjRef0Ideal Cert.ProjRef0Ideal.Gen

/-- The columns of `w_in` that the group's queries, keys and values come from. -/
def col (n : Fin 1536) : Fin 12800 :=
  if h : n.val < 512 then ⟨n, by omega⟩ else if h : n.val - 512 < 512 then ⟨1536 + (n - 512), by omega⟩ else ⟨3072 + (n - 512 - 512), by omega⟩

/-- The group's queries, keys and values cut from the projection. -/
def joined (P : Vec Ideal S4x4096x12800 .f32) : Vec Ideal S4x4096x1536 .f32 :=
  have A := extractStridedSlice S4x4096x4608 ![0, 0, 0] P slices_S4x4096x12800_S4x4096x4608_0_0_0
  concatenate S4x4096x1536 2
    [⟨S4x4096x512, extractStridedSlice S4x4096x512 ![0, 0, 0] (extractStridedSlice S4x4096x1536 ![0, 0, 0] A
        slices_S4x4096x4608_S4x4096x1536_0_0_0) slices_S4x4096x1536_S4x4096x512_0_0_0⟩,
      ⟨S4x4096x512, extractStridedSlice S4x4096x512 ![0, 0, 0] (extractStridedSlice S4x4096x1536 ![0, 0, 1536] A
        slices_S4x4096x4608_S4x4096x1536_0_0_1536) slices_S4x4096x1536_S4x4096x512_0_0_0⟩,
      ⟨S4x4096x512, extractStridedSlice S4x4096x512 ![0, 0, 0] (extractStridedSlice S4x4096x1536 ![0, 0, 3072] A
        slices_S4x4096x4608_S4x4096x1536_0_0_3072) slices_S4x4096x1536_S4x4096x512_0_0_0⟩]
    concatenates_S4x4096x512_S4x4096x512_S4x4096x512_S4x4096x1536_d2

theorem joined_at (P : Vec Ideal S4x4096x12800 .f32) (b : Fin 4) (t : Fin 4096) (q : Fin 1536) :
    joined P (ix3 b t q) = P (ix3 b t (col q)) := by
  pointwise [joined, col]
  by_cases h : q.val < 512
  · rw [dif_pos h, dif_pos h]
  · rw [dif_neg h, dif_neg h]
    by_cases h' : q.val - 512 < 512
    · rw [dif_pos h', dif_pos h']
    · rw [dif_neg h', dif_neg h']

/-- Gathered by stride. -/
def gathered (Q : Vec Ideal S4x4096x1536 .f32) : Vec Ideal S4x1x4096x1536 .f32 :=
  transpose S4x1x4096x1536 [0, 2, 1, 3] (shapeCast S4x4096x1x1536 Q shapeCasts_S4x4096x1536_S4x4096x1x1536)
    transposes_S4x4096x1x1536_S4x1x4096x1536_0_2_1_3

theorem gathered_at (Q : Vec Ideal S4x4096x1536 .f32) (b : Fin 4) (t : Fin 4096) (q : Fin 1536) :
    gathered Q (ix4 b 0 t q) = Q (ix3 b t q) := by
  pointwise [gathered]

/-- Rounded and flattened. -/
def flat (Q : Vec Ideal S4x1x4096x1536 .f32) : Vec Ideal S16384x1536 .bf16 :=
  shapeCast S16384x1536 (truncf (F := Ideal) .bf16 Q bitsLt_bf16_f32 : Vec Ideal S4x1x4096x1536 .bf16)
    shapeCasts_S4x1x4096x1536_S16384x1536

theorem flat_at (Q : Vec Ideal S4x1x4096x1536 .f32) (p : Fin 16384) (q : Fin 1536) :
    flat Q (ix2 p q) = Q (ix4 ⟨p / 4096, by omega⟩ 0 ⟨p % 4096, by omega⟩ q) := by
  pointwise [flat]

variable (m : (ℓ : Loc nD τ sig) → Buf (Elt Ideal) ℓ) (c : Dev nD)

theorem ref_at (p : Fin 16384) (q : Fin 1536) : res_main_v33 m c (ix2 p q)
    = ∑ k, Rows.hid (fun j => (m ((c.tc : Thread nD τ).loc main_arg0) : S4x4096x2048.Idx → EReal) (ix3 ⟨p / 4096, by omega⟩ ⟨p % 4096, by omega⟩ j))
        (fun j => (m ((c.tc : Thread nD τ).loc main_arg1) : S2048.Idx → EReal) (ix1 j))
        (fun j => (m ((c.tc : Thread nD τ).loc main_arg2) : S4x2048.Idx → EReal) (ix2 ⟨p / 4096, by omega⟩ j))
        (fun j => (m ((c.tc : Thread nD τ).loc main_arg3) : S4x2048.Idx → EReal) (ix2 ⟨p / 4096, by omega⟩ j)) k
      * (m ((c.tc : Thread nD τ).loc main_arg4) : S2048x12800.Idx → EReal) (ix2 k (col q)) := by
  unfold res_main_v33
  generalize hP : Host.dotGeneral (F := Ideal) (φ₁ := .f32) (φ₂ := .f32) (so := S4x4096x12800) _ _ _ _ = P
  refine (flat_at (gathered (joined P)) p q).trans ((gathered_at _ _ _ _).trans ((joined_at _ _ _ _).trans ?_))
  rw [← hP]
  generalize col q = n
  pointwise [Rows.hid, Rows.scale]

end Cert.ProjRef0Ideal.Value

end
-- ==== Proof.Proj0.lean ====
/-
  The in-projection of the first head group (dilation 1): the kernel's result array and the plain program's are the same
  function of the arguments.
-/
module

public import proofs.«01_k».proof.Proof.Gen.Proj0Ideal.Value
public import proofs.«01_k».proof.Proof.ProjRef0
public import proofs.«01_k».proof.Proof.Rows
public import proofs.«01_k».proof.Defs
public import Idealize.ShloMosaic.Lib.Pipeline
public import Idealize.ShloMosaic.Lib.Pipeline.ValueKit.Acc
public import Idealize.ShloMosaic.Lib.Pipeline.ValueKit.Geometry
public import Idealize.ShloMosaic.Lib.Pipeline.ReadBack
public import Idealize.ShloMosaic.Lib.StableHlo.ReadAt
public import Idealize.ShloMosaic.Lib.Quiescent

@[expose] public section

noncomputable section

namespace Cert.Proj0Ideal.Value

open Idealize.ShloMosaic Idealize.ShloMosaic.TcCoe Idealize.SL.Sem Cert.Proj0Ideal Cert.Proj0Ideal.Gen

set_option maxRecDepth 16384

/-! ### What the body computes -/

theorem hidden_at (v9 : Vec Ideal S512x2048 .f32) (v21 : Vec Ideal S1x2048 .f32) (v25 v31 : Vec Ideal S1x1x2048 .f32) (a : Fin 512) (k : Fin 2048) :
    k0_pay1 v9 v21 v25 v31 (ix2 a k) = Rows.hid (fun j => v9 (ix2 a j)) (fun j => v21 (ix2 0 j)) (fun j => v31 (ix3 0 0 j)) (fun j => v25 (ix3 0 0 j)) k := by
  pointwise [k0_pay1, Rows.hid, Rows.scale]

theorem product_at (v3 : Vec Ideal S512x2048 .bf16) (v4 : Vec Ideal S2048x1536 .bf16) (a : Fin 512) (b : Fin 1536) :
    k0_pay2 v3 v4 (ix2 a b) = ∑ k, v3 (ix2 a k) * v4 (ix2 k b) := by
  pointwise [k0_pay2]

variable (m : (ℓ : Loc nD τ sig) → Buf (Elt Ideal) ℓ) (ρ : Dev nD → PrngReg)

/-! ### The arguments -/

abbrev x (c : Dev nD) : S4x4096x2048.Idx → EReal := m ((c : Thread nD τ).loc main_arg0)
abbrev gain (c : Dev nD) : S2048.Idx → EReal := m ((c : Thread nD τ).loc main_arg1)
abbrev shift (c : Dev nD) : S4x2048.Idx → EReal := m ((c : Thread nD τ).loc main_arg2)
abbrev sc (c : Dev nD) : S4x2048.Idx → EReal := m ((c : Thread nD τ).loc main_arg3)
abbrev w (c : Dev nD) : S2048x12800.Idx → EReal := m ((c : Thread nD τ).loc main_arg4)

/-- The hidden state of a token. -/
def hidden (c : Dev nD) (b : Fin 4) (s : Fin 4096) : Fin 2048 → EReal :=
  Rows.hid (fun j => x m c (ix3 b s j)) (fun j => gain m c (ix1 j)) (fun j => shift m c (ix2 b j)) (fun j => sc m c (ix2 b j))

/-- The whole result. -/
def whole (c : Dev nD) : S16384x1536.Idx → EReal := fun i =>
  have h0 : (i 0).val < 16384 := (i 0).isLt
  have h1 : (i 1).val < 1536 := (i 1).isLt
  ∑ k, hidden m c ⟨(i 0).val / 4096, by omega⟩ ⟨(i 0).val % 4096, by omega⟩ k * w m c (ix2 k (ProjRef0Ideal.Value.col ⟨(i 1).val, h1⟩))

theorem whole_at (c : Dev nD) (p : Fin 16384) (q : Fin 1536) : whole m c (ix2 p q)
    = ∑ k, hidden m c ⟨p / 4096, by omega⟩ ⟨p % 4096, by omega⟩ k * w m c (ix2 k (ProjRef0Ideal.Value.col q)) := rfl

/-! ### The blocks -/

theorem pos : ∀ t : Fin cfg0.N, t.val < 32
    ∧ (win0_0.index t 0 = t.val ∧ win0_0.index t 1 = 0) ∧ (win0_1.index t 0 = 0 ∧ win0_1.index t 1 = 0)
    ∧ (win0_2.index t 0 = t.val / 8 ∧ win0_2.index t 1 = 0 ∧ win0_2.index t 2 = 0) ∧ (win0_3.index t 0 = t.val / 8 ∧ win0_3.index t 1 = 0 ∧ win0_3.index t 2 = 0)
    ∧ (win0_4.index t 0 = 0 ∧ win0_4.index t 1 = 0) ∧ (win0_5.index t 0 = t.val ∧ win0_5.index t 1 = 0) := by
  decide +kernel

theorem x_at (c : Dev nD) (a : Fin 16384) (k : Fin 2048) : V m c main_v5 (ix2 a k) = x m c (ix3 ⟨a / 4096, by omega⟩ ⟨a % 4096, by omega⟩ k) := by
  unfold V
  after_reads_at

theorem gain_at (c : Dev nD) (k : Fin 2048) : V m c main_v8 (ix2 0 k) = gain m c (ix1 k) := by
  unfold V
  after_reads_at

theorem shift_at (c : Dev nD) (b : Fin 4) (k : Fin 2048) : V m c main_v6 (ix3 b 0 k) = shift m c (ix2 b k) := by
  unfold V
  after_reads_at

theorem sc_at (c : Dev nD) (b : Fin 4) (k : Fin 2048) : V m c main_v7 (ix3 b 0 k) = sc m c (ix2 b k) := by
  unfold V
  after_reads_at

theorem w_at (c : Dev nD) (k : Fin 2048) (n : Fin 1536) : V m c main_v4 (ix2 k n) = w m c (ix2 k (ProjRef0Ideal.Value.col n)) := by
  unfold V
  after_reads_at
  unfold ProjRef0Ideal.Value.col
  split
  · after_reads_at
  · split <;> after_reads_at

theorem x_blk (c : Dev nD) (t : Fin cfg0.N) (a : Fin 512) (k : Fin 2048) : iblk m c 0 t (ix2 a k)
    = x m c (ix3 ⟨t.val / 8, by have := (pos t).1; omega⟩ ⟨512 * (t.val % 8) + a, by omega⟩ k) := by
  obtain ⟨ht, ⟨h0, h1⟩, _⟩ := pos t
  refine (congrArg (V m c main_v5) (?_ : _ = ix2 ⟨512 * t.val + a, by omega⟩ k)).trans ((x_at m c _ _).trans ?_)
  · funext d; apply Fin.ext
    match d with
    | ⟨0, _⟩ => show win0_0.index t 0 * 512 + 1 * a.val = 512 * t.val + a; omega
    | ⟨1, _⟩ => show win0_0.index t 1 * 2048 + 1 * k.val = k; omega
  · congr 2 <;> (apply Fin.ext; dsimp only; omega)

theorem gain_blk (c : Dev nD) (t : Fin cfg0.N) (k : Fin 2048) : iblk m c 1 t (ix2 0 k) = gain m c (ix1 k) := by
  obtain ⟨h0, h1⟩ := (pos t).2.2.1
  refine (congrArg (V m c main_v8) (?_ : _ = ix2 0 k)).trans (gain_at m c _)
  funext d; apply Fin.ext
  match d with
  | ⟨0, _⟩ => show win0_1.index t 0 * 1 + 1 * 0 = 0; omega
  | ⟨1, _⟩ => show win0_1.index t 1 * 2048 + 1 * k.val = k; omega

theorem shift_blk (c : Dev nD) (t : Fin cfg0.N) (k : Fin 2048) : iblk m c 2 t (ix3 0 0 k) = shift m c (ix2 ⟨t.val / 8, by have := (pos t).1; omega⟩ k) := by
  obtain ⟨h0, h1, h2⟩ := (pos t).2.2.2.1
  have ht := (pos t).1
  refine (congrArg (V m c main_v6) (?_ : _ = ix3 ⟨t.val / 8, by omega⟩ 0 k)).trans (shift_at m c _ _)
  funext d; apply Fin.ext
  match d with
  | ⟨0, _⟩ => show win0_2.index t 0 * 1 + 1 * 0 = t.val / 8; omega
  | ⟨1, _⟩ => show win0_2.index t 1 * 1 + 1 * 0 = 0; omega
  | ⟨2, _⟩ => show win0_2.index t 2 * 2048 + 1 * k.val = k; omega

theorem sc_blk (c : Dev nD) (t : Fin cfg0.N) (k : Fin 2048) : iblk m c 3 t (ix3 0 0 k) = sc m c (ix2 ⟨t.val / 8, by have := (pos t).1; omega⟩ k) := by
  obtain ⟨h0, h1, h2⟩ := (pos t).2.2.2.2.1
  have ht := (pos t).1
  refine (congrArg (V m c main_v7) (?_ : _ = ix3 ⟨t.val / 8, by omega⟩ 0 k)).trans (sc_at m c _ _)
  funext d; apply Fin.ext
  match d with
  | ⟨0, _⟩ => show win0_3.index t 0 * 1 + 1 * 0 = t.val / 8; omega
  | ⟨1, _⟩ => show win0_3.index t 1 * 1 + 1 * 0 = 0; omega
  | ⟨2, _⟩ => show win0_3.index t 2 * 2048 + 1 * k.val = k; omega

theorem w_blk (c : Dev nD) (t : Fin cfg0.N) (k : Fin 2048) (n : Fin 1536) : iblk m c 4 t (ix2 k n) = w m c (ix2 k (ProjRef0Ideal.Value.col n)) := by
  obtain ⟨h0, h1⟩ := (pos t).2.2.2.2.2.1
  refine (congrArg (V m c main_v4) (?_ : _ = ix2 k n)).trans (w_at m c _ _)
  funext d; apply Fin.ext
  match d with
  | ⟨0, _⟩ => show win0_4.index t 0 * 2048 + 1 * k.val = k; omega
  | ⟨1, _⟩ => show win0_4.index t 1 * 1536 + 1 * n.val = n; omega

theorem out_at (c : Dev nD) (t : Fin cfg0.N) :
    outsAt0 m c t = k0_pay2 (k0_pay1 (iblk m c 0 t) (iblk m c 1 t) (iblk m c 3 t) (iblk m c 2 t)) (iblk m c 4 t) := by
  unfold outsAt0
  frame_out

theorem final (c : Dev nD) : (dats m 0 c).arrAt 5 cfg0.N = whole m c := by
  refine (dats m 0 c).arrAt_eq_of_covers 5 _ (by decide +kernel) fun t hf y => ?_
  blk_simp
  rw [after0_5, out_at]
  obtain ⟨ht, _, _, _, _, _, h0, h1⟩ := pos t
  obtain ⟨a, b, rfl⟩ : ∃ (a : Fin 512) (b : Fin 1536), y = ix2 a b := ⟨y 0, y 1, by funext d; match d with | ⟨0, _⟩ => rfl | ⟨1, _⟩ => rfl⟩
  have e : (win0_5.blk t).view.emb (ix2 a b) = ix2 ⟨512 * t.val + a, by omega⟩ b := by
    funext d; apply Fin.ext
    match d with
    | ⟨0, _⟩ => show win0_5.index t 0 * 512 + 1 * a.val = 512 * t.val + a; omega
    | ⟨1, _⟩ => show win0_5.index t 1 * 1536 + 1 * b.val = b; omega
  rw [e, whole_at]
  refine (product_at _ _ a b).trans (Finset.sum_congr rfl fun k _ => ?_)
  rw [hidden_at, w_blk]
  unfold hidden
  simp only [x_blk, gain_blk, shift_blk, sc_blk]
  congr 2
  all_goals (funext j; congr 2 <;> (apply Fin.ext; dsimp only; omega))

/-! ### The claims -/

theorem frame_ref : Cert.quiescent_ProjRef0Ideal := fun m ρ _ =>
  (θ_run ProjRef0Ideal.defs _ _).mono (fun r h => ⟨fun c => (h c).2, sem_eq_zero_of_no_sems (by decide) r.2⟩) (ProjRef0Ideal.Value.run (F := Ideal) m ρ)

theorem equal : Cert.algebraic_Proj0Ideal_ProjRef0Ideal := fun m ρ m' ρ' _ hm =>
  ⟨whole m, (θ_run defs _ _).mono (fun r h c => ⟨((h c).1).trans (final m c), (h c).2⟩) (run_blocks m ρ),
    (θ_run ProjRef0Ideal.defs _ _).mono (fun r h c => ⟨(h c).1.trans (by
      funext i
      idx_vars i
      rw [whole_at, ProjRef0Ideal.Value.ref_at]
      unfold hidden
      simp only [hm]), (h c).2⟩)
      (ProjRef0Ideal.Value.run (F := Ideal) m' ρ')⟩

end Cert.Proj0Ideal.Value

end
-- ==== Proof.ProjRef1.lean ====
/-
  The plain program's in-projection of the second head group, read at an index.
-/
module

public import proofs.«01_k».proof.Proof.Gen.ProjRef1Ideal.Run
public import proofs.«01_k».proof.Proof.Rows
public import Idealize.ShloMosaic.Lib.Pipeline.ValueKit.Geometry
public import Idealize.ShloMosaic.Lib.StableHlo.ReadAt

@[expose] public section

noncomputable section

namespace Cert.ProjRef1Ideal.Value

open Idealize.ShloMosaic Idealize.ShloMosaic.TcCoe Idealize.SL.Sem Cert.ProjRef1Ideal Cert.ProjRef1Ideal.Gen

/-- The columns of `w_in` that the group's queries, keys and values come from. -/
def col (n : Fin 1536) : Fin 12800 :=
  if h : n.val < 512 then ⟨512 + n, by omega⟩ else if h : n.val - 512 < 512 then ⟨2048 + (n - 512), by omega⟩ else ⟨3584 + (n - 512 - 512), by omega⟩

/-- The group's queries, keys and values cut from the projection. -/
def joined (P : Vec Ideal S4x4096x12800 .f32) : Vec Ideal S4x4096x1536 .f32 :=
  have A := extractStridedSlice S4x4096x4608 ![0, 0, 0] P slices_S4x4096x12800_S4x4096x4608_0_0_0
  concatenate S4x4096x1536 2
    [⟨S4x4096x512, extractStridedSlice S4x4096x512 ![0, 0, 512] (extractStridedSlice S4x4096x1536 ![0, 0, 0] A
        slices_S4x4096x4608_S4x4096x1536_0_0_0) slices_S4x4096x1536_S4x4096x512_0_0_512⟩,
      ⟨S4x4096x512, extractStridedSlice S4x4096x512 ![0, 0, 512] (extractStridedSlice S4x4096x1536 ![0, 0, 1536] A
        slices_S4x4096x4608_S4x4096x1536_0_0_1536) slices_S4x4096x1536_S4x4096x512_0_0_512⟩,
      ⟨S4x4096x512, extractStridedSlice S4x4096x512 ![0, 0, 512] (extractStridedSlice S4x4096x1536 ![0, 0, 3072] A
        slices_S4x4096x4608_S4x4096x1536_0_0_3072) slices_S4x4096x1536_S4x4096x512_0_0_512⟩]
    concatenates_S4x4096x512_S4x4096x512_S4x4096x512_S4x4096x1536_d2

theorem joined_at (P : Vec Ideal S4x4096x12800 .f32) (b : Fin 4) (t : Fin 4096) (q : Fin 1536) :
    joined P (ix3 b t q) = P (ix3 b t (col q)) := by
  pointwise [joined]
  unfold col
  by_cases h : q.val < 512
  · rw [dif_pos h, dif_pos h]
  · rw [dif_neg h, dif_neg h]
    by_cases h' : q.val - 512 < 512
    · rw [dif_pos h', dif_pos h']
      congr 2 <;> (apply Fin.ext; dsimp only; omega)
    · rw [dif_neg h', dif_neg h']
      congr 2 <;> (apply Fin.ext; dsimp only; omega)

/-- Gathered by stride, and rounded. -/
def gathered (Q : Vec Ideal S4x4096x1536 .f32) : Vec Ideal S4x4x1024x1536 .bf16 :=
  truncf (F := Ideal) .bf16 (transpose S4x4x1024x1536 [0, 2, 1, 3] (shapeCast S4x1024x4x1536 Q shapeCasts_S4x4096x1536_S4x1024x4x1536)
    transposes_S4x1024x4x1536_S4x4x1024x1536_0_2_1_3 : Vec Ideal S4x4x1024x1536 .f32) bitsLt_bf16_f32

theorem gathered_at (Q : Vec Ideal S4x4096x1536 .f32) (b r : Fin 4) (l : Fin 1024) (q : Fin 1536) :
    gathered Q (ix4 b r l q) = Q (ix3 b ⟨l * 4 + r, by omega⟩ q) := by
  pointwise [gathered]

variable (m : (ℓ : Loc nD τ sig) → Buf (Elt Ideal) ℓ) (c : Dev nD)

theorem ref_at (b r : Fin 4) (l : Fin 1024) (q : Fin 1536) : res_main_v32 m c (ix4 b r l q)
    = ∑ k, Rows.hid (fun j => (m ((c.tc : Thread nD τ).loc main_arg0) : S4x4096x2048.Idx → EReal) (ix3 b ⟨l * 4 + r, by omega⟩ j))
        (fun j => (m ((c.tc : Thread nD τ).loc main_arg1) : S2048.Idx → EReal) (ix1 j))
        (fun j => (m ((c.tc : Thread nD τ).loc main_arg2) : S4x2048.Idx → EReal) (ix2 b j))
        (fun j => (m ((c.tc : Thread nD τ).loc main_arg3) : S4x2048.Idx → EReal) (ix2 b j)) k
      * (m ((c.tc : Thread nD τ).loc main_arg4) : S2048x12800.Idx → EReal) (ix2 k (col q)) := by
  unfold res_main_v32
  generalize hP : Host.dotGeneral (F := Ideal) (φ₁ := .f32) (φ₂ := .f32) (so := S4x4096x12800) _ _ _ _ = P
  refine (gathered_at (joined P) _ _ _ _).trans ((joined_at _ _ _ _).trans ?_)
  rw [← hP]
  generalize col q = n
  pointwise [Rows.hid, Rows.scale]

end Cert.ProjRef1Ideal.Value

end
-- ==== Proof.Proj1.lean ====
/-
  The in-projection of the second head group (dilation 4): the kernel's result array and the plain program's are the same
  function of the arguments.
-/
module

public import proofs.«01_k».proof.Proof.Gen.Proj1Ideal.Value
public import proofs.«01_k».proof.Proof.ProjRef1
public import proofs.«01_k».proof.Proof.Rows
public import proofs.«01_k».proof.Defs
public import Idealize.ShloMosaic.Lib.Pipeline
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pipeline.ReadBack
public import Idealize.ShloMosaic.Lib.StableHlo.ReadAt
public import Idealize.ShloMosaic.Lib.Quiescent

@[expose] public section

noncomputable section

namespace Cert.Proj1Ideal.Value

open Idealize.ShloMosaic Idealize.ShloMosaic.TcCoe Idealize.SL.Sem Cert.Proj1Ideal Cert.Proj1Ideal.Gen

set_option maxRecDepth 16384

/-! ### What the body computes -/

theorem hidden_at (v343 : Vec Ideal S512x2048 .f32) (v355 : Vec Ideal S1x2048 .f32) (v359 v365 : Vec Ideal S1x1x2048 .f32) (a : Fin 512) (k : Fin 2048) :
    k0_pay2 v343 v355 v359 v365 (ix2 a k) = Rows.hid (fun j => v343 (ix2 a j)) (fun j => v355 (ix2 0 j)) (fun j => v365 (ix3 0 0 j)) (fun j => v359 (ix3 0 0 j)) k := by
  pointwise [k0_pay2, Rows.hid, Rows.scale]

theorem product_at (v3 : Vec Ideal S512x2048 .bf16) (v4 : Vec Ideal S2048x1536 .bf16) (a : Fin 512) (b : Fin 1536) :
    k0_pay3 v3 v4 (ix2 a b) = ∑ k, v3 (ix2 a k) * v4 (ix2 k b) := by
  pointwise [k0_pay3]

/-! ### The product, kept as twelve slabs of 128 columns and read back at a stride -/

/-- The product laid out by slab, row and column within the slab. -/
def slab (P : S512x1536.Idx → EReal) : S12x512x128.Idx → EReal := fun i =>
  have h0 : (i 0).val < 12 := (i 0).isLt
  have h2 : (i 2).val < 128 := (i 2).isLt
  P (ix2 (i 1) ⟨(i 0).val * 128 + (i 2).val, by omega⟩)

/-- The product with its rows gathered by stride. -/
def spread (P : S512x1536.Idx → EReal) : S1x4x128x1536.Idx → EReal := fun y =>
  have h1 : (y 1).val < 4 := (y 1).isLt
  have h2 : (y 2).val < 128 := (y 2).isLt
  P (ix2 ⟨(y 2).val * 4 + (y 1).val, by omega⟩ (y 3))

/-- What the body stores into the slabs, the last store first. -/
def stores (h : FVec Ideal S512x2048 .bf16) (w : FVec Ideal S2048x1536 .bf16) : List (View.Piece (Elt Ideal) S12x512x128 .f32) :=
  [⟨Rect.unit ![11, 0, 0] ![1, 512, 128] inb_S12x512x128_S1x512x128_11_0_0, k0_pay16 (k0_pay3 (F := Ideal) h w)⟩,
    ⟨Rect.unit ![10, 0, 0] ![1, 512, 128] inb_S12x512x128_S1x512x128_10_0_0, k0_pay15 (k0_pay3 (F := Ideal) h w)⟩,
    ⟨Rect.unit ![9, 0, 0] ![1, 512, 128] inb_S12x512x128_S1x512x128_9_0_0, k0_pay14 (k0_pay3 (F := Ideal) h w)⟩,
    ⟨Rect.unit ![8, 0, 0] ![1, 512, 128] inb_S12x512x128_S1x512x128_8_0_0, k0_pay13 (k0_pay3 (F := Ideal) h w)⟩,
    ⟨Rect.unit ![7, 0, 0] ![1, 512, 128] inb_S12x512x128_S1x512x128_7_0_0, k0_pay12 (k0_pay3 (F := Ideal) h w)⟩,
    ⟨Rect.unit ![6, 0, 0] ![1, 512, 128] inb_S12x512x128_S1x512x128_6_0_0, k0_pay11 (k0_pay3 (F := Ideal) h w)⟩,
    ⟨Rect.unit ![5, 0, 0] ![1, 512, 128] inb_S12x512x128_S1x512x128_5_0_0, k0_pay10 (k0_pay9 (F := Ideal) h w)⟩,
    ⟨Rect.unit ![4, 0, 0] ![1, 512, 128] inb_S12x512x128_S1x512x128_4_0_0, k0_pay8 (F := Ideal) h w⟩,
    ⟨Rect.unit ![3, 0, 0] ![1, 512, 128] inb_S12x512x128_S1x512x128_3_0_0, k0_pay7 (F := Ideal) h w⟩,
    ⟨Rect.unit ![2, 0, 0] ![1, 512, 128] inb_S12x512x128_S1x512x128_2_0_0, k0_pay6 (F := Ideal) h w⟩,
    ⟨Rect.unit ![1, 0, 0] ![1, 512, 128] inb_S12x512x128_S1x512x128_1_0_0, k0_pay5 (F := Ideal) h w⟩,
    ⟨Rect.unit ![0, 0, 0] ![1, 512, 128] inb_S12x512x128_S1x512x128_0_0_0, k0_pay4 (F := Ideal) h w⟩]

theorem slice_at (P : FVec Ideal S512x1536 .f32) (o : ℕ) (hs : S512x1536.Slices ![0, o] S512x128) (x : S1x512x128.Idx) (y : S12x512x128.Idx)
    (x0 : (x 0).val < 1) (h1 : (y 1).val = (x 1).val) (h2 : (y 2).val = (x 2).val) (ho : o = (y 0).val * 128) :
    shapeCast S1x512x128 (extractStridedSlice S512x128 ![0, o] P hs) shapeCasts_S512x128_S1x512x128 x = slab P y := by
  obtain ⟨k, a, b, rfl⟩ : ∃ (k : Fin 1) (a : Fin 512) (b : Fin 128), x = ix3 k a b :=
    ⟨x 0, x 1, x 2, by funext d; match d with | ⟨0, _⟩ => rfl | ⟨1, _⟩ => rfl | ⟨2, _⟩ => rfl⟩
  pointwise [slab]
  refine congrArg P ?_
  funext d; apply Fin.ext
  match d with
  | ⟨0, _⟩ => exact h1.symm
  | ⟨1, _⟩ => show o + b.val = (y 0).val * 128 + (y 2).val; rw [ho, h2]; rfl

theorem cover_stores (h : FVec Ideal S512x2048 .bf16) (w : FVec Ideal S2048x1536 .bf16) (y : S12x512x128.Idx) : ∃ p ∈ stores h w, y ∈ p.1.set :=
  View.cover_of_tiledL (stores h w) S1x512x128.size (by rfl) y

theorem slabs (h : FVec Ideal S512x2048 .bf16) (w : FVec Ideal S2048x1536 .bf16) (y : S12x512x128.Idx) :
    View.canon (stores h w) y = slab (k0_pay3 (F := Ideal) h w) y := by
  unfold stores
  canon_tiles x h using cover_stores h w y
  all_goals (open_payloads; exact slice_at _ _ _ _ _ (by omega) (by omega) (by omega) (by omega))

theorem load_at (P : FVec Ideal S1x128x128 .f32) (a b : Fin 128) :
    shapeCast S1x1x128x128 (truncf (F := Ideal) .bf16 (shapeCast S128x128 P shapeCasts_S1x128x128_S128x128 : FVec Ideal S128x128 .f32) bitsLt_bf16_f32 : FVec Ideal S128x128 .bf16)
      shapeCasts_S128x128_S1x1x128x128 (ix4 0 0 a b) = P (ix3 0 a b) := by
  pointwise []

theorem gather_at (h : FVec Ideal S512x2048 .bf16) (w : FVec Ideal S2048x1536 .bf16) (s r : ℕ)
    (inb : ∀ a, S1x128x128.size a = 0 ∨ (![s, r, 0] : Fin 3 → Nat) a + (![1, 4, 1] : Fin 3 → Nat) a * (S1x128x128.size a - 1) < S12x512x128.size a)
    (x : S1x1x128x128.Idx) (y : S1x4x128x1536.Idx) (x0 : (x 0).val < 1) (x1 : (x 1).val < 1)
    (h1 : (y 1).val = r) (h2 : (y 2).val = (x 2).val) (h3 : (y 3).val = s * 128 + (x 3).val) :
    shapeCast S1x1x128x128 (truncf (F := Ideal) .bf16 (shapeCast S128x128
        ((View.whole cc0_scratch1).readCov (stores h w) { off := ![s, r, 0], size := ![1, 128, 128], stride := ![1, 4, 1], inb := inb }) shapeCasts_S1x128x128_S128x128 : FVec Ideal S128x128 .f32) bitsLt_bf16_f32 : FVec Ideal S128x128 .bf16)
      shapeCasts_S128x128_S1x1x128x128 x = spread (k0_pay3 (F := Ideal) h w) y := by
  obtain ⟨k, l, a, b, rfl⟩ : ∃ (k l : Fin 1) (a : Fin 128) (b : Fin 128), x = ix4 k l a b :=
    ⟨x 0, x 1, x 2, x 3, by funext d; match d with | ⟨0, _⟩ => rfl | ⟨1, _⟩ => rfl | ⟨2, _⟩ => rfl | ⟨3, _⟩ => rfl⟩
  obtain rfl := Subsingleton.elim k 0
  obtain rfl := Subsingleton.elim l 0
  rw [View.readCov_eq_canon _ _ _ fun _ => cover_stores h w _]
  refine (load_at _ a b).trans ?_
  refine (slabs h w _).trans ?_
  have hb := b.isLt
  show k0_pay3 (F := Ideal) h w _ = k0_pay3 (F := Ideal) h w _
  refine congrArg _ ?_
  funext d; apply Fin.ext
  match d with
  | ⟨0, _⟩ => show r + 4 * a.val = (y 2).val * 4 + (y 1).val; rw [h1, h2]; show r + 4 * a.val = a.val * 4 + r; omega
  | ⟨1, _⟩ => show (s + 1 * 0) * 128 + (0 + 1 * b.val) = (y 3).val; rw [h3]; show (s + 1 * 0) * 128 + (0 + 1 * b.val) = s * 128 + b.val; omega

variable (m : (ℓ : Loc nD τ sig) → Buf (Elt Ideal) ℓ) (ρ : Dev nD → PrngReg)

/-! ### The arguments -/

abbrev x (c : Dev nD) : S4x4096x2048.Idx → EReal := m ((c : Thread nD τ).loc main_arg0)
abbrev gain (c : Dev nD) : S2048.Idx → EReal := m ((c : Thread nD τ).loc main_arg1)
abbrev shift (c : Dev nD) : S4x2048.Idx → EReal := m ((c : Thread nD τ).loc main_arg2)
abbrev sc (c : Dev nD) : S4x2048.Idx → EReal := m ((c : Thread nD τ).loc main_arg3)
abbrev w (c : Dev nD) : S2048x12800.Idx → EReal := m ((c : Thread nD τ).loc main_arg4)

/-- The hidden state of a token. -/
def hidden (c : Dev nD) (b : Fin 4) (s : Fin 4096) : Fin 2048 → EReal :=
  Rows.hid (fun j => x m c (ix3 b s j)) (fun j => gain m c (ix1 j)) (fun j => shift m c (ix2 b j)) (fun j => sc m c (ix2 b j))

/-- The whole result. -/
def whole (c : Dev nD) : S4x4x1024x1536.Idx → EReal := fun i =>
  have h1 : (i 1).val < 4 := (i 1).isLt
  have h2 : (i 2).val < 1024 := (i 2).isLt
  ∑ k, hidden m c (i 0) ⟨(i 2).val * 4 + (i 1).val, by omega⟩ k * w m c (ix2 k (ProjRef1Ideal.Value.col (i 3)))

theorem whole_at (c : Dev nD) (b r : Fin 4) (l : Fin 1024) (q : Fin 1536) : whole m c (ix4 b r l q)
    = ∑ k, hidden m c b ⟨l * 4 + r, by omega⟩ k * w m c (ix2 k (ProjRef1Ideal.Value.col q)) := rfl

/-! ### The blocks -/

theorem pos : ∀ t : Fin cfg0.N, t.val < 32
    ∧ (win0_0.index t 0 = t.val ∧ win0_0.index t 1 = 0) ∧ (win0_1.index t 0 = 0 ∧ win0_1.index t 1 = 0)
    ∧ (win0_2.index t 0 = t.val / 8 ∧ win0_2.index t 1 = 0 ∧ win0_2.index t 2 = 0) ∧ (win0_3.index t 0 = t.val / 8 ∧ win0_3.index t 1 = 0 ∧ win0_3.index t 2 = 0)
    ∧ (win0_4.index t 0 = 0 ∧ win0_4.index t 1 = 0) ∧ (win0_5.index t 0 = t.val / 8 ∧ win0_5.index t 1 = 0 ∧ win0_5.index t 2 = t.val % 8 ∧ win0_5.index t 3 = 0) := by
  decide +kernel

theorem x_at (c : Dev nD) (a : Fin 16384) (k : Fin 2048) : V m c main_v5 (ix2 a k) = x m c (ix3 ⟨a / 4096, by omega⟩ ⟨a % 4096, by omega⟩ k) := by
  unfold V
  after_reads_at

theorem gain_at (c : Dev nD) (k : Fin 2048) : V m c main_v8 (ix2 0 k) = gain m c (ix1 k) := by
  unfold V
  after_reads_at

theorem shift_at (c : Dev nD) (b : Fin 4) (k : Fin 2048) : V m c main_v6 (ix3 b 0 k) = shift m c (ix2 b k) := by
  unfold V
  after_reads_at

theorem sc_at (c : Dev nD) (b : Fin 4) (k : Fin 2048) : V m c main_v7 (ix3 b 0 k) = sc m c (ix2 b k) := by
  unfold V
  after_reads_at

theorem w_at (c : Dev nD) (k : Fin 2048) (n : Fin 1536) : V m c main_v4 (ix2 k n) = w m c (ix2 k (ProjRef1Ideal.Value.col n)) := by
  unfold V
  after_reads_at
  unfold ProjRef1Ideal.Value.col
  split
  · after_reads_at
  · split <;> after_reads_at

theorem x_blk (c : Dev nD) (t : Fin cfg0.N) (a : Fin 512) (k : Fin 2048) : iblk m c 0 t (ix2 a k)
    = x m c (ix3 ⟨t.val / 8, by have := (pos t).1; omega⟩ ⟨512 * (t.val % 8) + a, by omega⟩ k) := by
  obtain ⟨ht, ⟨h0, h1⟩, _⟩ := pos t
  refine (congrArg (V m c main_v5) (?_ : _ = ix2 ⟨512 * t.val + a, by omega⟩ k)).trans ((x_at m c _ _).trans ?_)
  · funext d; apply Fin.ext
    match d with
    | ⟨0, _⟩ => show win0_0.index t 0 * 512 + 1 * a.val = 512 * t.val + a; omega
    | ⟨1, _⟩ => show win0_0.index t 1 * 2048 + 1 * k.val = k; omega
  · congr 2 <;> (apply Fin.ext; dsimp only; omega)

theorem gain_blk (c : Dev nD) (t : Fin cfg0.N) (k : Fin 2048) : iblk m c 1 t (ix2 0 k) = gain m c (ix1 k) := by
  obtain ⟨h0, h1⟩ := (pos t).2.2.1
  refine (congrArg (V m c main_v8) (?_ : _ = ix2 0 k)).trans (gain_at m c _)
  funext d; apply Fin.ext
  match d with
  | ⟨0, _⟩ => show win0_1.index t 0 * 1 + 1 * 0 = 0; omega
  | ⟨1, _⟩ => show win0_1.index t 1 * 2048 + 1 * k.val = k; omega

theorem shift_blk (c : Dev nD) (t : Fin cfg0.N) (k : Fin 2048) : iblk m c 2 t (ix3 0 0 k) = shift m c (ix2 ⟨t.val / 8, by have := (pos t).1; omega⟩ k) := by
  obtain ⟨h0, h1, h2⟩ := (pos t).2.2.2.1
  have ht := (pos t).1
  refine (congrArg (V m c main_v6) (?_ : _ = ix3 ⟨t.val / 8, by omega⟩ 0 k)).trans (shift_at m c _ _)
  funext d; apply Fin.ext
  match d with
  | ⟨0, _⟩ => show win0_2.index t 0 * 1 + 1 * 0 = t.val / 8; omega
  | ⟨1, _⟩ => show win0_2.index t 1 * 1 + 1 * 0 = 0; omega
  | ⟨2, _⟩ => show win0_2.index t 2 * 2048 + 1 * k.val = k; omega

theorem sc_blk (c : Dev nD) (t : Fin cfg0.N) (k : Fin 2048) : iblk m c 3 t (ix3 0 0 k) = sc m c (ix2 ⟨t.val / 8, by have := (pos t).1; omega⟩ k) := by
  obtain ⟨h0, h1, h2⟩ := (pos t).2.2.2.2.1
  have ht := (pos t).1
  refine (congrArg (V m c main_v7) (?_ : _ = ix3 ⟨t.val / 8, by omega⟩ 0 k)).trans (sc_at m c _ _)
  funext d; apply Fin.ext
  match d with
  | ⟨0, _⟩ => show win0_3.index t 0 * 1 + 1 * 0 = t.val / 8; omega
  | ⟨1, _⟩ => show win0_3.index t 1 * 1 + 1 * 0 = 0; omega
  | ⟨2, _⟩ => show win0_3.index t 2 * 2048 + 1 * k.val = k; omega

theorem w_blk (c : Dev nD) (t : Fin cfg0.N) (k : Fin 2048) (n : Fin 1536) : iblk m c 4 t (ix2 k n) = w m c (ix2 k (ProjRef1Ideal.Value.col n)) := by
  obtain ⟨h0, h1⟩ := (pos t).2.2.2.2.2.1
  refine (congrArg (V m c main_v4) (?_ : _ = ix2 k n)).trans (w_at m c _ _)
  funext d; apply Fin.ext
  match d with
  | ⟨0, _⟩ => show win0_4.index t 0 * 2048 + 1 * k.val = k; omega
  | ⟨1, _⟩ => show win0_4.index t 1 * 1536 + 1 * n.val = n; omega

theorem out_at (c : Dev nD) (t : Fin cfg0.N) (y : S1x4x128x1536.Idx) :
    outsAt0 m c t y = spread (k0_pay3 (F := Ideal) (k0_pay2 (F := Ideal) (iblk m c 0 t) (iblk m c 1 t) (iblk m c 3 t) (iblk m c 2 t)) (iblk m c 4 t)) y := by
  unfold outsAt0
  frame_out
  generalize k0_pay2 (F := Ideal) (iblk m c 0 t) (iblk m c 1 t) (iblk m c 3 t) (iblk m c 2 t) = h
  generalize iblk m c 4 t = w
  canon_tiles x h
  all_goals (open_payloads; exact gather_at h w _ _ _ _ _ (by omega) (by omega) (by omega) (by omega) (by omega))

theorem final (c : Dev nD) : (dats m 0 c).arrAt 5 cfg0.N = whole m c := by
  refine (dats m 0 c).arrAt_eq_of_covers 5 _ (by decide +kernel) fun t hf y => ?_
  blk_simp
  rw [after0_5, out_at]
  obtain ⟨ht, _, _, _, _, _, h0, h1, h2, h3⟩ := pos t
  obtain ⟨z, r, l, q, rfl⟩ : ∃ (z : Fin 1) (r : Fin 4) (l : Fin 128) (q : Fin 1536), y = ix4 z r l q :=
    ⟨y 0, y 1, y 2, y 3, by funext d; match d with | ⟨0, _⟩ => rfl | ⟨1, _⟩ => rfl | ⟨2, _⟩ => rfl | ⟨3, _⟩ => rfl⟩
  have e : (win0_5.blk t).view.emb (ix4 z r l q) = ix4 ⟨t.val / 8, by omega⟩ r ⟨128 * (t.val % 8) + l, by omega⟩ q := by
    funext d; apply Fin.ext
    match d with
    | ⟨0, _⟩ => show win0_5.index t 0 * 1 + 1 * z.val = t.val / 8; omega
    | ⟨1, _⟩ => show win0_5.index t 1 * 4 + 1 * r.val = r; omega
    | ⟨2, _⟩ => show win0_5.index t 2 * 128 + 1 * l.val = 128 * (t.val % 8) + l; omega
    | ⟨3, _⟩ => show win0_5.index t 3 * 1536 + 1 * q.val = q; omega
  rw [e, whole_at]
  show k0_pay3 (F := Ideal) _ _ (ix2 ⟨l.val * 4 + r.val, by omega⟩ q) = _
  refine (product_at _ _ _ q).trans (Finset.sum_congr rfl fun k _ => ?_)
  rw [hidden_at, w_blk]
  unfold hidden
  simp only [x_blk, gain_blk, shift_blk, sc_blk]
  congr 2
  funext j; congr 2 <;> (apply Fin.ext; dsimp only; omega)

/-! ### The claims -/

theorem frame_ref : Cert.quiescent_ProjRef1Ideal := fun m ρ _ =>
  (θ_run ProjRef1Ideal.defs _ _).mono (fun r h => ⟨fun c => (h c).2, sem_eq_zero_of_no_sems (by decide) r.2⟩) (ProjRef1Ideal.Value.run (F := Ideal) m ρ)

theorem equal : Cert.algebraic_Proj1Ideal_ProjRef1Ideal := fun m ρ m' ρ' _ hm =>
  ⟨whole m, (θ_run defs _ _).mono (fun r h c => ⟨((h c).1).trans (final m c), (h c).2⟩) (run_blocks m ρ),
    (θ_run ProjRef1Ideal.defs _ _).mono (fun r h c => ⟨(h c).1.trans (by
      funext i
      idx_vars i
      rw [whole_at, ProjRef1Ideal.Value.ref_at]
      unfold hidden
      simp only [hm]), (h c).2⟩)
      (ProjRef1Ideal.Value.run (F := Ideal) m' ρ')⟩

end Cert.Proj1Ideal.Value

end
-- ==== Proof.ProjRef2.lean ====
/-
  The plain program's in-projection of the third head group, read at an index.
-/
module

public import proofs.«01_k».proof.Proof.Gen.ProjRef2Ideal.Run
public import proofs.«01_k».proof.Proof.Rows
public import Idealize.ShloMosaic.Lib.Pipeline.ValueKit.Geometry
public import Idealize.ShloMosaic.Lib.StableHlo.ReadAt

@[expose] public section

noncomputable section

namespace Cert.ProjRef2Ideal.Value

open Idealize.ShloMosaic Idealize.ShloMosaic.TcCoe Idealize.SL.Sem Cert.ProjRef2Ideal Cert.ProjRef2Ideal.Gen

/-- The columns of `w_in` that the group's queries, keys and values come from. -/
def col (n : Fin 1536) : Fin 12800 :=
  if h : n.val < 512 then ⟨1024 + n, by omega⟩ else if h : n.val - 512 < 512 then ⟨2560 + (n - 512), by omega⟩ else ⟨4096 + (n - 512 - 512), by omega⟩

/-- The group's queries, keys and values cut from the projection. -/
def joined (P : Vec Ideal S4x4096x12800 .f32) : Vec Ideal S4x4096x1536 .f32 :=
  have A := extractStridedSlice S4x4096x4608 ![0, 0, 0] P slices_S4x4096x12800_S4x4096x4608_0_0_0
  concatenate S4x4096x1536 2
    [⟨S4x4096x512, extractStridedSlice S4x4096x512 ![0, 0, 1024] (extractStridedSlice S4x4096x1536 ![0, 0, 0] A
        slices_S4x4096x4608_S4x4096x1536_0_0_0) slices_S4x4096x1536_S4x4096x512_0_0_1024⟩,
      ⟨S4x4096x512, extractStridedSlice S4x4096x512 ![0, 0, 1024] (extractStridedSlice S4x4096x1536 ![0, 0, 1536] A
        slices_S4x4096x4608_S4x4096x1536_0_0_1536) slices_S4x4096x1536_S4x4096x512_0_0_1024⟩,
      ⟨S4x4096x512, extractStridedSlice S4x4096x512 ![0, 0, 1024] (extractStridedSlice S4x4096x1536 ![0, 0, 3072] A
        slices_S4x4096x4608_S4x4096x1536_0_0_3072) slices_S4x4096x1536_S4x4096x512_0_0_1024⟩]
    concatenates_S4x4096x512_S4x4096x512_S4x4096x512_S4x4096x1536_d2

theorem joined_at (P : Vec Ideal S4x4096x12800 .f32) (b : Fin 4) (t : Fin 4096) (q : Fin 1536) :
    joined P (ix3 b t q) = P (ix3 b t (col q)) := by
  pointwise [joined]
  unfold col
  by_cases h : q.val < 512
  · rw [dif_pos h, dif_pos h]
  · rw [dif_neg h, dif_neg h]
    by_cases h' : q.val - 512 < 512
    · rw [dif_pos h', dif_pos h']
      congr 2 <;> (apply Fin.ext; dsimp only; omega)
    · rw [dif_neg h', dif_neg h']
      congr 2 <;> (apply Fin.ext; dsimp only; omega)

/-- Gathered by stride, and rounded. -/
def gathered (Q : Vec Ideal S4x4096x1536 .f32) : Vec Ideal S4x16x256x1536 .bf16 :=
  truncf (F := Ideal) .bf16 (transpose S4x16x256x1536 [0, 2, 1, 3] (shapeCast S4x256x16x1536 Q shapeCasts_S4x4096x1536_S4x256x16x1536)
    transposes_S4x256x16x1536_S4x16x256x1536_0_2_1_3 : Vec Ideal S4x16x256x1536 .f32) bitsLt_bf16_f32

theorem gathered_at (Q : Vec Ideal S4x4096x1536 .f32) (b : Fin 4) (r : Fin 16) (l : Fin 256) (q : Fin 1536) :
    gathered Q (ix4 b r l q) = Q (ix3 b ⟨l * 16 + r, by omega⟩ q) := by
  pointwise [gathered]

variable (m : (ℓ : Loc nD τ sig) → Buf (Elt Ideal) ℓ) (c : Dev nD)

theorem ref_at (b : Fin 4) (r : Fin 16) (l : Fin 256) (q : Fin 1536) : res_main_v32 m c (ix4 b r l q)
    = ∑ k, Rows.hid (fun j => (m ((c.tc : Thread nD τ).loc main_arg0) : S4x4096x2048.Idx → EReal) (ix3 b ⟨l * 16 + r, by omega⟩ j))
        (fun j => (m ((c.tc : Thread nD τ).loc main_arg1) : S2048.Idx → EReal) (ix1 j))
        (fun j => (m ((c.tc : Thread nD τ).loc main_arg2) : S4x2048.Idx → EReal) (ix2 b j))
        (fun j => (m ((c.tc : Thread nD τ).loc main_arg3) : S4x2048.Idx → EReal) (ix2 b j)) k
      * (m ((c.tc : Thread nD τ).loc main_arg4) : S2048x12800.Idx → EReal) (ix2 k (col q)) := by
  unfold res_main_v32
  generalize hP : Host.dotGeneral (F := Ideal) (φ₁ := .f32) (φ₂ := .f32) (so := S4x4096x12800) _ _ _ _ = P
  refine (gathered_at (joined P) _ _ _ _).trans ((joined_at _ _ _ _).trans ?_)
  rw [← hP]
  generalize col q = n
  pointwise [Rows.hid, Rows.scale]

end Cert.ProjRef2Ideal.Value

end
-- ==== Proof.Proj2.lean ====
/-
  The in-projection of the third head group (dilation 16): the kernel's result array and the plain program's are the same
  function of the arguments.
-/
module

public import proofs.«01_k».proof.Proof.Gen.Proj2Ideal.Value
public import proofs.«01_k».proof.Proof.ProjRef2
public import proofs.«01_k».proof.Proof.Rows
public import proofs.«01_k».proof.Defs
public import Idealize.ShloMosaic.Lib.Pipeline
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pipeline.ReadBack
public import Idealize.ShloMosaic.Lib.StableHlo.ReadAt
public import Idealize.ShloMosaic.Lib.Quiescent

@[expose] public section

noncomputable section

namespace Cert.Proj2Ideal.Value

open Idealize.ShloMosaic Idealize.ShloMosaic.TcCoe Idealize.SL.Sem Cert.Proj2Ideal Cert.Proj2Ideal.Gen

set_option maxRecDepth 16384

/-! ### What the body computes -/

theorem hidden_at (v1476 : Vec Ideal S512x2048 .f32) (v1488 : Vec Ideal S1x2048 .f32) (v1492 v1498 : Vec Ideal S1x1x2048 .f32) (a : Fin 512) (k : Fin 2048) :
    k0_pay3 v1476 v1488 v1492 v1498 (ix2 a k) = Rows.hid (fun j => v1476 (ix2 a j)) (fun j => v1488 (ix2 0 j)) (fun j => v1498 (ix3 0 0 j)) (fun j => v1492 (ix3 0 0 j)) k := by
  pointwise [k0_pay3, Rows.hid, Rows.scale]

theorem product_at (v3 : Vec Ideal S512x2048 .bf16) (v4 : Vec Ideal S2048x1536 .bf16) (a : Fin 512) (b : Fin 1536) :
    k0_pay4 v3 v4 (ix2 a b) = ∑ k, v3 (ix2 a k) * v4 (ix2 k b) := by
  pointwise [k0_pay4]

/-! ### The product, kept as twelve slabs of 128 columns, gathered at stride 4 and once more at stride 4 -/

/-- The product laid out by slab, row and column within the slab. -/
def slab (P : S512x1536.Idx → EReal) : S12x512x128.Idx → EReal := fun i =>
  have h0 : (i 0).val < 12 := (i 0).isLt
  have h2 : (i 2).val < 128 := (i 2).isLt
  P (ix2 (i 1) ⟨(i 0).val * 128 + (i 2).val, by omega⟩)

/-- The same with the rows gathered at stride 4. -/
def quarter (P : S512x1536.Idx → EReal) : S12x4x128x128.Idx → EReal := fun i =>
  have h0 : (i 0).val < 12 := (i 0).isLt
  have h1 : (i 1).val < 4 := (i 1).isLt
  have h2 : (i 2).val < 128 := (i 2).isLt
  have h3 : (i 3).val < 128 := (i 3).isLt
  P (ix2 ⟨(i 2).val * 4 + (i 1).val, by omega⟩ ⟨(i 0).val * 128 + (i 3).val, by omega⟩)

/-- The product with its rows gathered at stride 16. -/
def spread (P : S512x1536.Idx → EReal) : S1x16x32x1536.Idx → EReal := fun y =>
  have h1 : (y 1).val < 16 := (y 1).isLt
  have h2 : (y 2).val < 32 := (y 2).isLt
  P (ix2 ⟨(y 2).val * 16 + (y 1).val, by omega⟩ (y 3))

/-- What the body stores into the slabs, the last store first. -/
def stores (h : FVec Ideal S512x2048 .bf16) (w : FVec Ideal S2048x1536 .bf16) : List (View.Piece (Elt Ideal) S12x512x128 .f32) :=
  [⟨Rect.unit ![11, 0, 0] ![1, 512, 128] inb_S12x512x128_S1x512x128_11_0_0, k0_pay17 (k0_pay4 (F := Ideal) h w)⟩,
    ⟨Rect.unit ![10, 0, 0] ![1, 512, 128] inb_S12x512x128_S1x512x128_10_0_0, k0_pay16 (k0_pay4 (F := Ideal) h w)⟩,
    ⟨Rect.unit ![9, 0, 0] ![1, 512, 128] inb_S12x512x128_S1x512x128_9_0_0, k0_pay15 (k0_pay4 (F := Ideal) h w)⟩,
    ⟨Rect.unit ![8, 0, 0] ![1, 512, 128] inb_S12x512x128_S1x512x128_8_0_0, k0_pay14 (k0_pay4 (F := Ideal) h w)⟩,
    ⟨Rect.unit ![7, 0, 0] ![1, 512, 128] inb_S12x512x128_S1x512x128_7_0_0, k0_pay13 (k0_pay4 (F := Ideal) h w)⟩,
    ⟨Rect.unit ![6, 0, 0] ![1, 512, 128] inb_S12x512x128_S1x512x128_6_0_0, k0_pay12 (k0_pay4 (F := Ideal) h w)⟩,
    ⟨Rect.unit ![5, 0, 0] ![1, 512, 128] inb_S12x512x128_S1x512x128_5_0_0, k0_pay11 (k0_pay10 (F := Ideal) h w)⟩,
    ⟨Rect.unit ![4, 0, 0] ![1, 512, 128] inb_S12x512x128_S1x512x128_4_0_0, k0_pay9 (F := Ideal) h w⟩,
    ⟨Rect.unit ![3, 0, 0] ![1, 512, 128] inb_S12x512x128_S1x512x128_3_0_0, k0_pay8 (F := Ideal) h w⟩,
    ⟨Rect.unit ![2, 0, 0] ![1, 512, 128] inb_S12x512x128_S1x512x128_2_0_0, k0_pay7 (F := Ideal) h w⟩,
    ⟨Rect.unit ![1, 0, 0] ![1, 512, 128] inb_S12x512x128_S1x512x128_1_0_0, k0_pay6 (F := Ideal) h w⟩,
    ⟨Rect.unit ![0, 0, 0] ![1, 512, 128] inb_S12x512x128_S1x512x128_0_0_0, k0_pay5 (F := Ideal) h w⟩]

theorem slice_at (P : FVec Ideal S512x1536 .f32) (o : ℕ) (hs : S512x1536.Slices ![0, o] S512x128) (x : S1x512x128.Idx) (y : S12x512x128.Idx)
    (x0 : (x 0).val < 1) (h1 : (y 1).val = (x 1).val) (h2 : (y 2).val = (x 2).val) (ho : o = (y 0).val * 128) :
    shapeCast S1x512x128 (extractStridedSlice S512x128 ![0, o] P hs) shapeCasts_S512x128_S1x512x128 x = slab P y := by
  obtain ⟨k, a, b, rfl⟩ : ∃ (k : Fin 1) (a : Fin 512) (b : Fin 128), x = ix3 k a b :=
    ⟨x 0, x 1, x 2, by funext d; match d with | ⟨0, _⟩ => rfl | ⟨1, _⟩ => rfl | ⟨2, _⟩ => rfl⟩
  pointwise [slab]
  refine congrArg P ?_
  funext d; apply Fin.ext
  match d with
  | ⟨0, _⟩ => exact h1.symm
  | ⟨1, _⟩ => show o + b.val = (y 0).val * 128 + (y 2).val; rw [ho, h2]; rfl

theorem cover_stores (h : FVec Ideal S512x2048 .bf16) (w : FVec Ideal S2048x1536 .bf16) (y : S12x512x128.Idx) : ∃ p ∈ stores h w, y ∈ p.1.set :=
  View.cover_of_tiledL (stores h w) S1x512x128.size (by rfl) y

theorem slabs (h : FVec Ideal S512x2048 .bf16) (w : FVec Ideal S2048x1536 .bf16) (y : S12x512x128.Idx) :
    View.canon (stores h w) y = slab (k0_pay4 (F := Ideal) h w) y := by
  unfold stores
  canon_tiles x h using cover_stores h w y
  all_goals (open_payloads; exact slice_at _ _ _ _ _ (by omega) (by omega) (by omega) (by omega))

theorem keep_at (P : FVec Ideal S1x128x128 .f32) (a b : Fin 128) :
    shapeCast S1x1x128x128 (shapeCast S128x128 P shapeCasts_S1x128x128_S128x128 : FVec Ideal S128x128 .f32) shapeCasts_S128x128_S1x1x128x128 (ix4 0 0 a b)
      = P (ix3 0 a b) := by
  pointwise []

theorem load_at (P : FVec Ideal S1x1x32x128 .f32) (a : Fin 32) (b : Fin 128) :
    shapeCast S1x1x32x128 (truncf (F := Ideal) .bf16 (shapeCast S32x128 P shapeCasts_S1x1x32x128_S32x128 : FVec Ideal S32x128 .f32) bitsLt_bf16_f32 : FVec Ideal S32x128 .bf16)
      shapeCasts_S32x128_S1x1x32x128 (ix4 0 0 a b) = P (ix4 0 0 a b) := by
  pointwise []

/-- The rows of slab `s` from row `r` at stride 4, as the body stores them. -/
def piece (h : FVec Ideal S512x2048 .bf16) (w : FVec Ideal S2048x1536 .bf16) (s r : ℕ) (hs : s < 12) (hr : r < 4) : View.Piece (Elt Ideal) S12x4x128x128 .f32 :=
  ⟨Rect.unit ![s, r, 0, 0] ![1, 1, 128, 128] (fun a => match a with
      | ⟨0, _⟩ => hs | ⟨1, _⟩ => hr | ⟨2, _⟩ => le_refl 128 | ⟨3, _⟩ => le_refl 128),
    shapeCast S1x1x128x128 (shapeCast S128x128 ((View.whole cc0_scratch1).readCov (stores h w)
        { off := ![s, r, 0], size := ![1, 128, 128], stride := ![1, 4, 1], inb := fun a => match a with
          | ⟨0, _⟩ => .inr (show s + 0 < 12 by omega) | ⟨1, _⟩ => .inr (show r + 508 < 512 by omega) | ⟨2, _⟩ => .inr (show 0 + 127 < 128 by omega) })
      shapeCasts_S1x128x128_S128x128 : FVec Ideal S128x128 .f32) shapeCasts_S128x128_S1x1x128x128⟩

/-- What the body has stored into the second scratch once `n` slabs are gathered, the last store first. -/
def stores' (h : FVec Ideal S512x2048 .bf16) (w : FVec Ideal S2048x1536 .bf16) : (n : ℕ) → n ≤ 12 → List (View.Piece (Elt Ideal) S12x4x128x128 .f32)
  | 0, _ => []
  | s + 1, hs => piece h w s 3 hs (by omega) :: piece h w s 2 hs (by omega) :: piece h w s 1 hs (by omega) :: piece h w s 0 hs (by omega)
      :: stores' h w s (by omega)

theorem piece_at (h : FVec Ideal S512x2048 .bf16) (w : FVec Ideal S2048x1536 .bf16) (s r : ℕ) (hs : s < 12) (hr : r < 4) (y : S12x4x128x128.Idx) :
    View.RectAt y (piece h w s r hs hr).1 (piece h w s r hs hr).2 (quarter (k0_pay4 (F := Ideal) h w) y) := by
  intro x hx
  subst hx
  obtain ⟨k, l, a, b, rfl⟩ : ∃ (k l : Fin 1) (a b : Fin 128), x = ix4 k l a b :=
    ⟨x 0, x 1, x 2, x 3, by funext d; match d with | ⟨0, _⟩ => rfl | ⟨1, _⟩ => rfl | ⟨2, _⟩ => rfl | ⟨3, _⟩ => rfl⟩
  obtain rfl := Subsingleton.elim k 0
  obtain rfl := Subsingleton.elim l 0
  unfold piece
  dsimp only
  rw [View.readCov_eq_canon']
  refine (keep_at _ a b).trans ((slabs h w _).trans ?_)
  show k0_pay4 (F := Ideal) h w _ = k0_pay4 (F := Ideal) h w _
  refine congrArg _ ?_
  funext d; apply Fin.ext
  match d with
  | ⟨0, _⟩ => show r + 4 * a.val = (0 + 1 * a.val) * 4 + (r + 1 * 0); omega
  | ⟨1, _⟩ => show (s + 1 * 0) * 128 + (0 + 1 * b.val) = (s + 1 * 0) * 128 + (0 + 1 * b.val); rfl

theorem allAt (h : FVec Ideal S512x2048 .bf16) (w : FVec Ideal S2048x1536 .bf16) (y : S12x4x128x128.Idx) (n : ℕ) (hn : n ≤ 12) :
    View.AllAt (stores' h w n hn) y (quarter (k0_pay4 (F := Ideal) h w) y) := by
  induction n with
  | zero => exact View.allAt_nil _ _
  | succ s ih =>
    rw [stores']
    intro p hp
    obtain rfl | hp := List.mem_cons.mp hp
    · exact piece_at h w s 3 _ _ y
    obtain rfl | hp := List.mem_cons.mp hp
    · exact piece_at h w s 2 _ _ y
    obtain rfl | hp := List.mem_cons.mp hp
    · exact piece_at h w s 1 _ _ y
    obtain rfl | hp := List.mem_cons.mp hp
    · exact piece_at h w s 0 _ _ y
    · exact ih _ p hp

theorem mem_piece (h : FVec Ideal S512x2048 .bf16) (w : FVec Ideal S2048x1536 .bf16) (s r : ℕ) (hs : s < 12) (hr : r < 4) (y : S12x4x128x128.Idx)
    (h0 : (y 0).val = s) (h1 : (y 1).val = r) : y ∈ (piece h w s r hs hr).1.set := by
  have h2 : (y 2).val < 128 := (y 2).isLt
  have h3 : (y 3).val < 128 := (y 3).isLt
  unfold piece
  rw [Rect.mem_set_unit]
  intro a
  match a with
  | ⟨0, _⟩ => exact ⟨h0.ge, show (y 0).val < s + 1 by omega⟩
  | ⟨1, _⟩ => exact ⟨h1.ge, show (y 1).val < r + 1 by omega⟩
  | ⟨2, _⟩ => exact ⟨Nat.zero_le _, show (y 2).val < 0 + 128 by omega⟩
  | ⟨3, _⟩ => exact ⟨Nat.zero_le _, show (y 3).val < 0 + 128 by omega⟩

theorem cover_at (h : FVec Ideal S512x2048 .bf16) (w : FVec Ideal S2048x1536 .bf16) (y : S12x4x128x128.Idx) : ∀ (n : ℕ) (hn : n ≤ 12),
    (y 0).val < n → ∃ p ∈ stores' h w n hn, y ∈ p.1.set
  | 0, _, h0 => absurd h0 (Nat.not_lt_zero _)
  | s + 1, hs, h0 => by
    have h1 : (y 1).val < 4 := (y 1).isLt
    by_cases e : (y 0).val = s
    · obtain q | q | q | q : (y 1).val = 3 ∨ (y 1).val = 2 ∨ (y 1).val = 1 ∨ (y 1).val = 0 := by omega
      · exact ⟨_, List.mem_cons_self, mem_piece h w s 3 hs (by omega) y e q⟩
      · exact ⟨_, List.mem_cons_of_mem _ List.mem_cons_self, mem_piece h w s 2 hs (by omega) y e q⟩
      · exact ⟨_, List.mem_cons_of_mem _ (List.mem_cons_of_mem _ List.mem_cons_self), mem_piece h w s 1 hs (by omega) y e q⟩
      · exact ⟨_, List.mem_cons_of_mem _ (List.mem_cons_of_mem _ (List.mem_cons_of_mem _ List.mem_cons_self)), mem_piece h w s 0 hs (by omega) y e q⟩
    · obtain ⟨p, hp, hy⟩ := cover_at h w y s (by omega) (by omega)
      exact ⟨p, List.mem_cons_of_mem _ (List.mem_cons_of_mem _ (List.mem_cons_of_mem _ (List.mem_cons_of_mem _ hp))), hy⟩

theorem quarters (h : FVec Ideal S512x2048 .bf16) (w : FVec Ideal S2048x1536 .bf16) (n : ℕ) (hn : n ≤ 12) (y : S12x4x128x128.Idx) (hy : (y 0).val < n) :
    View.canon (stores' h w n hn) y = quarter (k0_pay4 (F := Ideal) h w) y :=
  View.canon_eq_of_allAt _ y _ (cover_at h w y n hn hy) (allAt h w y n hn)

theorem gather_at (h : FVec Ideal S512x2048 .bf16) (w : FVec Ideal S2048x1536 .bf16) (s r r' : ℕ) (hs : s + 1 ≤ 12)
    (inb : ∀ a, S1x1x32x128.size a = 0 ∨ (![s, r, r', 0] : Fin 4 → Nat) a + (![1, 1, 4, 1] : Fin 4 → Nat) a * (S1x1x32x128.size a - 1) < S12x4x128x128.size a)
    (x : S1x1x32x128.Idx) (y : S1x16x32x1536.Idx) (x0 : (x 0).val < 1) (x1 : (x 1).val < 1)
    (h1 : (y 1).val = r + 4 * r') (h2 : (y 2).val = (x 2).val) (h3 : (y 3).val = s * 128 + (x 3).val) :
    shapeCast S1x1x32x128 (truncf (F := Ideal) .bf16 (shapeCast S32x128
        ((View.whole cc0_scratch2).readCov (stores' h w (s + 1) hs) { off := ![s, r, r', 0], size := ![1, 1, 32, 128], stride := ![1, 1, 4, 1], inb := inb }) shapeCasts_S1x1x32x128_S32x128 : FVec Ideal S32x128 .f32) bitsLt_bf16_f32 : FVec Ideal S32x128 .bf16)
      shapeCasts_S32x128_S1x1x32x128 x = spread (k0_pay4 (F := Ideal) h w) y := by
  obtain ⟨k, l, a, b, rfl⟩ : ∃ (k l : Fin 1) (a : Fin 32) (b : Fin 128), x = ix4 k l a b :=
    ⟨x 0, x 1, x 2, x 3, by funext d; match d with | ⟨0, _⟩ => rfl | ⟨1, _⟩ => rfl | ⟨2, _⟩ => rfl | ⟨3, _⟩ => rfl⟩
  obtain rfl := Subsingleton.elim k 0
  obtain rfl := Subsingleton.elim l 0
  rw [View.readCov_eq_canon']
  refine (load_at _ a b).trans ?_
  refine (quarters h w _ _ _ (show s + 1 * 0 < s + 1 by omega)).trans ?_
  have hb := b.isLt
  show k0_pay4 (F := Ideal) h w _ = k0_pay4 (F := Ideal) h w _
  refine congrArg _ ?_
  funext d; apply Fin.ext
  match d with
  | ⟨0, _⟩ =>
    show (r' + 4 * a.val) * 4 + (r + 1 * 0) = (y 2).val * 16 + (y 1).val
    rw [h1, h2]; show (r' + 4 * a.val) * 4 + (r + 1 * 0) = a.val * 16 + (r + 4 * r'); omega
  | ⟨1, _⟩ => show (s + 1 * 0) * 128 + (0 + 1 * b.val) = (y 3).val; rw [h3]; show (s + 1 * 0) * 128 + (0 + 1 * b.val) = s * 128 + b.val; omega

variable (m : (ℓ : Loc nD τ sig) → Buf (Elt Ideal) ℓ) (ρ : Dev nD → PrngReg)

/-! ### The arguments -/

abbrev x (c : Dev nD) : S4x4096x2048.Idx → EReal := m ((c : Thread nD τ).loc main_arg0)
abbrev gain (c : Dev nD) : S2048.Idx → EReal := m ((c : Thread nD τ).loc main_arg1)
abbrev shift (c : Dev nD) : S4x2048.Idx → EReal := m ((c : Thread nD τ).loc main_arg2)
abbrev sc (c : Dev nD) : S4x2048.Idx → EReal := m ((c : Thread nD τ).loc main_arg3)
abbrev w (c : Dev nD) : S2048x12800.Idx → EReal := m ((c : Thread nD τ).loc main_arg4)

/-- The hidden state of a token. -/
def hidden (c : Dev nD) (b : Fin 4) (s : Fin 4096) : Fin 2048 → EReal :=
  Rows.hid (fun j => x m c (ix3 b s j)) (fun j => gain m c (ix1 j)) (fun j => shift m c (ix2 b j)) (fun j => sc m c (ix2 b j))

/-- The whole result. -/
def whole (c : Dev nD) : S4x16x256x1536.Idx → EReal := fun i =>
  have h1 : (i 1).val < 16 := (i 1).isLt
  have h2 : (i 2).val < 256 := (i 2).isLt
  ∑ k, hidden m c (i 0) ⟨(i 2).val * 16 + (i 1).val, by omega⟩ k * w m c (ix2 k (ProjRef2Ideal.Value.col (i 3)))

theorem whole_at (c : Dev nD) (b : Fin 4) (r : Fin 16) (l : Fin 256) (q : Fin 1536) : whole m c (ix4 b r l q)
    = ∑ k, hidden m c b ⟨l * 16 + r, by omega⟩ k * w m c (ix2 k (ProjRef2Ideal.Value.col q)) := rfl

/-! ### The blocks -/

theorem pos : ∀ t : Fin cfg0.N, t.val < 32
    ∧ (win0_0.index t 0 = t.val ∧ win0_0.index t 1 = 0) ∧ (win0_1.index t 0 = 0 ∧ win0_1.index t 1 = 0)
    ∧ (win0_2.index t 0 = t.val / 8 ∧ win0_2.index t 1 = 0 ∧ win0_2.index t 2 = 0) ∧ (win0_3.index t 0 = t.val / 8 ∧ win0_3.index t 1 = 0 ∧ win0_3.index t 2 = 0)
    ∧ (win0_4.index t 0 = 0 ∧ win0_4.index t 1 = 0) ∧ (win0_5.index t 0 = t.val / 8 ∧ win0_5.index t 1 = 0 ∧ win0_5.index t 2 = t.val % 8 ∧ win0_5.index t 3 = 0) := by
  decide +kernel

theorem x_at (c : Dev nD) (a : Fin 16384) (k : Fin 2048) : V m c main_v5 (ix2 a k) = x m c (ix3 ⟨a / 4096, by omega⟩ ⟨a % 4096, by omega⟩ k) := by
  unfold V
  after_reads_at

theorem gain_at (c : Dev nD) (k : Fin 2048) : V m c main_v8 (ix2 0 k) = gain m c (ix1 k) := by
  unfold V
  after_reads_at

theorem shift_at (c : Dev nD) (b : Fin 4) (k : Fin 2048) : V m c main_v6 (ix3 b 0 k) = shift m c (ix2 b k) := by
  unfold V
  after_reads_at

theorem sc_at (c : Dev nD) (b : Fin 4) (k : Fin 2048) : V m c main_v7 (ix3 b 0 k) = sc m c (ix2 b k) := by
  unfold V
  after_reads_at

theorem w_at (c : Dev nD) (k : Fin 2048) (n : Fin 1536) : V m c main_v4 (ix2 k n) = w m c (ix2 k (ProjRef2Ideal.Value.col n)) := by
  unfold V
  after_reads_at
  unfold ProjRef2Ideal.Value.col
  split
  · after_reads_at
  · split <;> after_reads_at

theorem x_blk (c : Dev nD) (t : Fin cfg0.N) (a : Fin 512) (k : Fin 2048) : iblk m c 0 t (ix2 a k)
    = x m c (ix3 ⟨t.val / 8, by have := (pos t).1; omega⟩ ⟨512 * (t.val % 8) + a, by omega⟩ k) := by
  obtain ⟨ht, ⟨h0, h1⟩, _⟩ := pos t
  refine (congrArg (V m c main_v5) (?_ : _ = ix2 ⟨512 * t.val + a, by omega⟩ k)).trans ((x_at m c _ _).trans ?_)
  · funext d; apply Fin.ext
    match d with
    | ⟨0, _⟩ => show win0_0.index t 0 * 512 + 1 * a.val = 512 * t.val + a; omega
    | ⟨1, _⟩ => show win0_0.index t 1 * 2048 + 1 * k.val = k; omega
  · congr 2 <;> (apply Fin.ext; dsimp only; omega)

theorem gain_blk (c : Dev nD) (t : Fin cfg0.N) (k : Fin 2048) : iblk m c 1 t (ix2 0 k) = gain m c (ix1 k) := by
  obtain ⟨h0, h1⟩ := (pos t).2.2.1
  refine (congrArg (V m c main_v8) (?_ : _ = ix2 0 k)).trans (gain_at m c _)
  funext d; apply Fin.ext
  match d with
  | ⟨0, _⟩ => show win0_1.index t 0 * 1 + 1 * 0 = 0; omega
  | ⟨1, _⟩ => show win0_1.index t 1 * 2048 + 1 * k.val = k; omega

theorem shift_blk (c : Dev nD) (t : Fin cfg0.N) (k : Fin 2048) : iblk m c 2 t (ix3 0 0 k) = shift m c (ix2 ⟨t.val / 8, by have := (pos t).1; omega⟩ k) := by
  obtain ⟨h0, h1, h2⟩ := (pos t).2.2.2.1
  have ht := (pos t).1
  refine (congrArg (V m c main_v6) (?_ : _ = ix3 ⟨t.val / 8, by omega⟩ 0 k)).trans (shift_at m c _ _)
  funext d; apply Fin.ext
  match d with
  | ⟨0, _⟩ => show win0_2.index t 0 * 1 + 1 * 0 = t.val / 8; omega
  | ⟨1, _⟩ => show win0_2.index t 1 * 1 + 1 * 0 = 0; omega
  | ⟨2, _⟩ => show win0_2.index t 2 * 2048 + 1 * k.val = k; omega

theorem sc_blk (c : Dev nD) (t : Fin cfg0.N) (k : Fin 2048) : iblk m c 3 t (ix3 0 0 k) = sc m c (ix2 ⟨t.val / 8, by have := (pos t).1; omega⟩ k) := by
  obtain ⟨h0, h1, h2⟩ := (pos t).2.2.2.2.1
  have ht := (pos t).1
  refine (congrArg (V m c main_v7) (?_ : _ = ix3 ⟨t.val / 8, by omega⟩ 0 k)).trans (sc_at m c _ _)
  funext d; apply Fin.ext
  match d with
  | ⟨0, _⟩ => show win0_3.index t 0 * 1 + 1 * 0 = t.val / 8; omega
  | ⟨1, _⟩ => show win0_3.index t 1 * 1 + 1 * 0 = 0; omega
  | ⟨2, _⟩ => show win0_3.index t 2 * 2048 + 1 * k.val = k; omega

theorem w_blk (c : Dev nD) (t : Fin cfg0.N) (k : Fin 2048) (n : Fin 1536) : iblk m c 4 t (ix2 k n) = w m c (ix2 k (ProjRef2Ideal.Value.col n)) := by
  obtain ⟨h0, h1⟩ := (pos t).2.2.2.2.2.1
  refine (congrArg (V m c main_v4) (?_ : _ = ix2 k n)).trans (w_at m c _ _)
  funext d; apply Fin.ext
  match d with
  | ⟨0, _⟩ => show win0_4.index t 0 * 2048 + 1 * k.val = k; omega
  | ⟨1, _⟩ => show win0_4.index t 1 * 1536 + 1 * n.val = n; omega

set_option maxHeartbeats 0 in
theorem out_at (c : Dev nD) (t : Fin cfg0.N) (y : S1x16x32x1536.Idx) :
    outsAt0 m c t y = spread (k0_pay4 (F := Ideal) (k0_pay3 (F := Ideal) (iblk m c 0 t) (iblk m c 1 t) (iblk m c 3 t) (iblk m c 2 t)) (iblk m c 4 t)) y := by
  unfold outsAt0
  frame_out
  generalize k0_pay3 (F := Ideal) (iblk m c 0 t) (iblk m c 1 t) (iblk m c 3 t) (iblk m c 2 t) = h
  generalize iblk m c 4 t = w
  canon_tiles x h
  all_goals (open_payloads; exact gather_at h w _ _ _ (by omega) _ _ _ (by omega) (by omega) (by omega) (by omega) (by omega))

theorem final (c : Dev nD) : (dats m 0 c).arrAt 5 cfg0.N = whole m c := by
  refine (dats m 0 c).arrAt_eq_of_covers 5 _ (by decide +kernel) fun t hf y => ?_
  blk_simp
  rw [after0_5, out_at]
  obtain ⟨ht, _, _, _, _, _, h0, h1, h2, h3⟩ := pos t
  obtain ⟨z, r, l, q, rfl⟩ : ∃ (z : Fin 1) (r : Fin 16) (l : Fin 32) (q : Fin 1536), y = ix4 z r l q :=
    ⟨y 0, y 1, y 2, y 3, by funext d; match d with | ⟨0, _⟩ => rfl | ⟨1, _⟩ => rfl | ⟨2, _⟩ => rfl | ⟨3, _⟩ => rfl⟩
  have e : (win0_5.blk t).view.emb (ix4 z r l q) = ix4 ⟨t.val / 8, by omega⟩ r ⟨32 * (t.val % 8) + l, by omega⟩ q := by
    funext d; apply Fin.ext
    match d with
    | ⟨0, _⟩ => show win0_5.index t 0 * 1 + 1 * z.val = t.val / 8; omega
    | ⟨1, _⟩ => show win0_5.index t 1 * 16 + 1 * r.val = r; omega
    | ⟨2, _⟩ => show win0_5.index t 2 * 32 + 1 * l.val = 32 * (t.val % 8) + l; omega
    | ⟨3, _⟩ => show win0_5.index t 3 * 1536 + 1 * q.val = q; omega
  rw [e, whole_at]
  show k0_pay4 (F := Ideal) _ _ (ix2 ⟨l.val * 16 + r.val, by omega⟩ q) = _
  refine (product_at _ _ _ q).trans (Finset.sum_congr rfl fun k _ => ?_)
  rw [hidden_at, w_blk]
  unfold hidden
  simp only [x_blk, gain_blk, shift_blk, sc_blk]
  congr 2
  funext j; congr 2 <;> (apply Fin.ext; dsimp only; omega)

/-! ### The claims -/

theorem frame_ref : Cert.quiescent_ProjRef2Ideal := fun m ρ _ =>
  (θ_run ProjRef2Ideal.defs _ _).mono (fun r h => ⟨fun c => (h c).2, sem_eq_zero_of_no_sems (by decide) r.2⟩) (ProjRef2Ideal.Value.run (F := Ideal) m ρ)

theorem equal : Cert.algebraic_Proj2Ideal_ProjRef2Ideal := fun m ρ m' ρ' _ hm =>
  ⟨whole m, (θ_run defs _ _).mono (fun r h c => ⟨((h c).1).trans (final m c), (h c).2⟩) (run_blocks m ρ),
    (θ_run ProjRef2Ideal.defs _ _).mono (fun r h c => ⟨(h c).1.trans (by
      funext i
      idx_vars i
      rw [whole_at, ProjRef2Ideal.Value.ref_at]
      unfold hidden
      simp only [hm]), (h c).2⟩)
      (ProjRef2Ideal.Value.run (F := Ideal) m' ρ')⟩

end Cert.Proj2Ideal.Value

end
-- ==== Proof.OutRef.lean ====
/-
  The plain program's output projection, read at an index.
-/
module

public import proofs.«01_k».proof.Proof.Gen.OutRefIdeal.Run
public import proofs.«01_k».proof.Proof.Rows
public import Idealize.ShloMosaic.Lib.Pipeline.ValueKit.Geometry
public import Idealize.ShloMosaic.Lib.StableHlo.ReadAt

@[expose] public section

noncomputable section

namespace Cert.OutRefIdeal.Value

open Idealize.ShloMosaic Idealize.ShloMosaic.TcCoe Idealize.SL.Sem Cert.OutRefIdeal Cert.OutRefIdeal.Gen

/-- The projection of the merged heads. -/
def product (M : FVec Ideal S16384x2048 .bf16) (W : FVec Ideal S2048x2048 .f32) : FVec Ideal S4x4096x2048 .f32 :=
  Host.dotGeneral dot_S4x4096x2048_S2048x2048_S4x4096x2048_2_0_01_1_n_n none
    (shapeCast S4x4096x2048 (extf (F := Ideal) .f32 M bitsLt_bf16_f32 : FVec Ideal S16384x2048 .f32) shapeCasts_S16384x2048_S4x4096x2048) W

theorem product_at (M : FVec Ideal S16384x2048 .bf16) (W : FVec Ideal S2048x2048 .f32) (b : Fin 4) (t : Fin 4096) (k : Fin 2048) :
    product M W (ix3 b t k) = ∑ j, M (ix2 ⟨b * 4096 + t, by omega⟩ j) * W (ix2 j k) := by
  pointwise [product]

/-- One over the root of the rows' mean squares. -/
def factor (P : FVec Ideal S4x4096x2048 .f32) : FVec Ideal S4x4096x2048 .f32 :=
  broadcastInDim S4x4096x2048 ![0, 1, 2] bcast_S4x4096x1_S4x4096x2048_0_1_2 (Host.rsqrt (addf (Host.divf (broadcastInDim S4x4096x1 ![0, 1] bcast_S4x4096_S4x4096x1_0_1
    (Host.reduceAdd (mulf P P) (constant S_ .f32 0x00000000#32) reducesTo_S4x4096x2048_S4x4096_d2 h_S_))
    (broadcastInDim S4x4096x1 ![] bcast_S_S4x4096x1 (constant S_ .f32 0x45000000#32))) (broadcastInDim S4x4096x1 ![] bcast_S_S4x4096x1 (constant S_ .f32 0x358637BD#32))))

theorem factor_at (P : FVec Ideal S4x4096x2048 .f32) (b : Fin 4) (t : Fin 4096) (k : Fin 2048) :
    factor P (ix3 b t k) = Rows.scale fun j => P (ix3 b t j) := by
  pointwise [factor, Rows.scale]

/-- A gain on every row. -/
def gains (g : FVec Ideal S2048 .f32) : FVec Ideal S4x4096x2048 .f32 :=
  broadcastInDim S4x4096x2048 ![0, 1, 2] bcast_S1x1x2048_S4x4096x2048_0_1_2 (broadcastInDim S1x1x2048 ![2] bcast_S2048_S1x1x2048_2 g)

/-- A row per batch entry on every token. -/
def perBatch (g : FVec Ideal S4x1x2048 .f32) : FVec Ideal S4x4096x2048 .f32 :=
  broadcastInDim S4x4096x2048 ![0, 1, 2] bcast_S4x1x2048_S4x4096x2048_0_1_2 g

/-- The row of a batch entry with an axis of one between. -/
def lifted (g : FVec Ideal S4x2048 .f32) : FVec Ideal S4x1x2048 .f32 := broadcastInDim S4x1x2048 ![0, 2] bcast_S4x2048_S4x1x2048_0_2 g

/-- The layer's input plus the gated output. -/
def added (P x : FVec Ideal S4x4096x2048 .f32) (gate : FVec Ideal S4x2048 .f32) (g : FVec Ideal S2048 .f32) : FVec Ideal S4x4096x2048 .f32 :=
  addf x (mulf (perBatch (lifted gate)) (mulf (mulf P (factor P)) (gains g)))

theorem added_at (P x : FVec Ideal S4x4096x2048 .f32) (gate : FVec Ideal S4x2048 .f32) (g : FVec Ideal S2048 .f32) (b : Fin 4) (t : Fin 4096) (k : Fin 2048) :
    added P x gate g (ix3 b t k) = Rows.mixed (fun j => x (ix3 b t j)) (fun j => P (ix3 b t j)) (fun j => g (ix1 j)) (fun j => gate (ix2 b j)) k := by
  have h := factor_at P b t k
  unfold added Rows.mixed
  generalize factor P = Q at h ⊢
  rw [← h]
  pointwise [gains, perBatch, lifted]

/-- The next hidden state. -/
def next (A : FVec Ideal S4x4096x2048 .f32) (g : FVec Ideal S2048 .f32) (shift sc : FVec Ideal S4x2048 .f32) : FVec Ideal S4x4096x2048 .f32 :=
  addf (mulf (mulf (mulf A (factor A)) (gains g)) (perBatch (addf (broadcastInDim S4x1x2048 ![] bcast_S_S4x1x2048 (constant S_ .f32 0x3F800000#32)) (lifted sc))))
    (perBatch (lifted shift))

theorem next_at (A : FVec Ideal S4x4096x2048 .f32) (g : FVec Ideal S2048 .f32) (shift sc : FVec Ideal S4x2048 .f32) (b : Fin 4) (t : Fin 4096) (k : Fin 2048) :
    next A g shift sc (ix3 b t k) = Rows.hid (fun j => A (ix3 b t j)) (fun j => g (ix1 j)) (fun j => shift (ix2 b j)) (fun j => sc (ix2 b j)) k := by
  have h := factor_at A b t k
  unfold next Rows.hid
  generalize factor A = Q at h ⊢
  rw [← h]
  pointwise [gains, perBatch, lifted]

theorem flat_at (A : FVec Ideal S4x4096x2048 .f32) (p : Fin 16384) (k : Fin 2048) :
    shapeCast S16384x2048 A shapeCasts_S4x4096x2048_S16384x2048 (ix2 p k) = A (ix3 ⟨p / 4096, by omega⟩ ⟨p % 4096, by omega⟩ k) := by
  pointwise

theorem flat_rounded_at (A : FVec Ideal S4x4096x2048 .f32) (p : Fin 16384) (k : Fin 2048) :
    shapeCast S16384x2048 (truncf (F := Ideal) .bf16 A bitsLt_bf16_f32 : FVec Ideal S4x4096x2048 .bf16) shapeCasts_S4x4096x2048_S16384x2048 (ix2 p k)
      = A (ix3 ⟨p / 4096, by omega⟩ ⟨p % 4096, by omega⟩ k) := by
  pointwise

theorem heads_at (A : FVec Ideal S4x4096x2048 .f32) (p : Fin 16384) (h : Fin 16) (d : Fin 128) :
    shapeCast S16384x16x128 (truncf (F := Ideal) .bf16 A bitsLt_bf16_f32 : FVec Ideal S4x4096x2048 .bf16) shapeCasts_S4x4096x2048_S16384x16x128 (ix3 p h d)
      = A (ix3 ⟨p / 4096, by omega⟩ ⟨p % 4096, by omega⟩ ⟨h * 128 + d, by omega⟩) := by
  pointwise

variable (m : (ℓ : Loc nD τ sig) → Buf (Elt Ideal) ℓ) (c : Dev nD)

abbrev merged : S16384x2048.Idx → EReal := m ((c.tc : Thread nD τ).loc main_arg0)
abbrev w : S2048x2048.Idx → EReal := m ((c.tc : Thread nD τ).loc main_arg1)
abbrev x : S4x4096x2048.Idx → EReal := m ((c.tc : Thread nD τ).loc main_arg2)
abbrev gate : S4x2048.Idx → EReal := m ((c.tc : Thread nD τ).loc main_arg3)
abbrev gainMix : S2048.Idx → EReal := m ((c.tc : Thread nD τ).loc main_arg4)
abbrev gainNext : S2048.Idx → EReal := m ((c.tc : Thread nD τ).loc main_arg5)
abbrev shift : S4x2048.Idx → EReal := m ((c.tc : Thread nD τ).loc main_arg6)
abbrev sc : S4x2048.Idx → EReal := m ((c.tc : Thread nD τ).loc main_arg7)

/-- The first result before it is flattened. -/
def first : FVec Ideal S4x4096x2048 .f32 :=
  added (product (merged m c) (w m c)) (x m c)
    (gate m c) (gainMix m c)

/-- The other two results before they are rounded and laid out. -/
def second : FVec Ideal S4x4096x2048 .f32 :=
  next (first m c) (gainNext m c) (shift m c) (sc m c)

theorem first_at (b : Fin 4) (t : Fin 4096) (k : Fin 2048) : first m c (ix3 b t k)
    = Rows.mixed (fun j => x m c (ix3 b t j))
        (fun j => ∑ i, merged m c (ix2 ⟨b * 4096 + t, by omega⟩ i)
          * w m c (ix2 i j))
        (fun j => gainMix m c (ix1 j))
        (fun j => gate m c (ix2 b j)) k := by
  unfold first
  rw [added_at]
  simp only [product_at]

theorem second_at (b : Fin 4) (t : Fin 4096) (k : Fin 2048) : second m c (ix3 b t k)
    = Rows.hid (fun j => first m c (ix3 b t j))
        (fun j => gainNext m c (ix1 j))
        (fun j => shift m c (ix2 b j))
        (fun j => sc m c (ix2 b j)) k := by
  unfold second
  rw [next_at]

theorem res1_eq : res_main_v43 m c
    = shapeCast S16384x16x128 (truncf (F := Ideal) .bf16 (second m c) bitsLt_bf16_f32 : FVec Ideal S4x4096x2048 .bf16) shapeCasts_S4x4096x2048_S16384x16x128 := by
  unfold res_main_v43 second next first added product factor gains perBatch lifted
  rfl

theorem res2_eq : res_main_v44 m c
    = shapeCast S16384x2048 (truncf (F := Ideal) .bf16 (second m c) bitsLt_bf16_f32 : FVec Ideal S4x4096x2048 .bf16) shapeCasts_S4x4096x2048_S16384x2048 := by
  unfold res_main_v44 second next first added product factor gains perBatch lifted
  rfl

end Cert.OutRefIdeal.Value

end
-- ==== Proof.Out.lean ====
/-
  The output projection, the gated residual and the modulated norm before the experts: the kernel's three result arrays
  and the plain program's are the same functions of the arguments.
-/
module

public import proofs.«01_k».proof.Proof.Gen.OutIdeal.Frame
public import proofs.«01_k».proof.Proof.OutRef
public import proofs.«01_k».proof.Proof.Rows
public import proofs.«01_k».proof.Defs
public import Idealize.ShloMosaic.Lib.Pipeline
public import Idealize.ShloMosaic.Lib.Pipeline.ValueKit.Acc
public import Idealize.ShloMosaic.Lib.Pipeline.ValueKit.Geometry
public import Idealize.ShloMosaic.Lib.Pipeline.ReadBack
public import Idealize.ShloMosaic.Lib.StableHlo.ReadAt
public import Idealize.ShloMosaic.Lib.Quiescent

@[expose] public section

noncomputable section

namespace Cert.OutIdeal.Value

open Idealize.ShloMosaic Idealize.ShloMosaic.TcCoe Idealize.SL.Sem Cert.OutIdeal Cert.OutIdeal.Gen

set_option maxRecDepth 16384

/-! ### What the body computes -/

/-- The products of the block's rows with the weights. -/
def product (v0 : FVec Ideal S256x2048 .bf16) (v1 : FVec Ideal S2048x2048 .bf16) : FVec Ideal S256x2048 .f32 :=
  matmul dot_S256x2048_S2048x2048_S256x2048_1_0_0_1_n_n none v0 (shapeCast S2048x2048 v1 shapeCasts_S2048x2048_S2048x2048) (constant S256x2048 .f32 0x00000000#32)

theorem product_at (v0 : FVec Ideal S256x2048 .bf16) (v1 : FVec Ideal S2048x2048 .bf16) (a : Fin 256) (k : Fin 2048) :
    product v0 v1 (ix2 a k) = ∑ j, v0 (ix2 a j) * v1 (ix2 j k) := by
  pointwise [product]

/-- One over the root of the rows' mean squares. -/
def factor (P : FVec Ideal S256x2048 .f32) : FVec Ideal S256x2048 .f32 :=
  broadcastTo S256x2048 (rsqrt (addf (divf (shapeCast S256x1 (multiReduction .add [1] S256 (mulf P P) 0x00000000#32 reduces_S256x2048_S256 (.inl rfl) rfl) shapeCasts_S256_S256x1)
    (broadcast S256x1 (Scalar.ofBits .f32 0x45000000#32))) (broadcast S256x1 (Scalar.ofBits .f32 0x358637BD#32)))) broadcasts_S256x1_S256x2048

theorem factor_at (P : FVec Ideal S256x2048 .f32) (a : Fin 256) (k : Fin 2048) : factor P (ix2 a k) = Rows.scale fun j => P (ix2 a j) := by
  pointwise [factor, Rows.scale]

/-- The residual stream of a block, of the products. -/
def added (P : FVec Ideal S256x2048 .f32) (v4 : FVec Ideal S256x2048 .f32) (v6 : FVec Ideal S1x1x2048 .f32) (v18 : FVec Ideal S1x2048 .f32) : FVec Ideal S256x2048 .f32 :=
  addf (shapeCast S256x2048 v4 shapeCasts_S256x2048_S256x2048) (mulf (broadcastTo S256x2048 (shapeCast S1x2048 v6 shapeCasts_S1x1x2048_S1x2048) broadcasts_S1x2048_S256x2048)
    (mulf (mulf P (factor P)) (broadcastTo S256x2048 (shapeCast S1x2048 v18 shapeCasts_S1x2048_S1x2048) broadcasts_S1x2048_S256x2048)))

theorem added_at (P v4 : FVec Ideal S256x2048 .f32) (v6 : FVec Ideal S1x1x2048 .f32) (v18 : FVec Ideal S1x2048 .f32) (a : Fin 256) (k : Fin 2048) :
    added P v4 v6 v18 (ix2 a k) = Rows.mixed (fun j => v4 (ix2 a j)) (fun j => P (ix2 a j)) (fun j => v18 (ix2 0 j)) (fun j => v6 (ix3 0 0 j)) k := by
  have h := factor_at P a k
  unfold added Rows.mixed
  generalize factor P = Q at h ⊢
  rw [← h]
  pointwise

theorem pay1_eq (v0 : FVec Ideal S256x2048 .bf16) (v1 : FVec Ideal S2048x2048 .bf16) (v4 : FVec Ideal S256x2048 .f32) (v6 : FVec Ideal S1x1x2048 .f32) (v18 : FVec Ideal S1x2048 .f32) :
    k0_pay1 (F := Ideal) v0 v1 v4 v6 v18 = added (product v0 v1) v4 v6 v18 := rfl

theorem pay2_eq (v0 : FVec Ideal S256x2048 .bf16) (v1 : FVec Ideal S2048x2048 .bf16) (v4 : FVec Ideal S256x2048 .f32) (v6 : FVec Ideal S1x1x2048 .f32) (v18 : FVec Ideal S1x2048 .f32) :
    k0_pay2 (F := Ideal) v0 v1 v4 v6 v18 = mulf (k0_pay1 v0 v1 v4 v6 v18) (factor (k0_pay1 v0 v1 v4 v6 v18)) := rfl

theorem next_at (A : FVec Ideal S256x2048 .f32) (v36 : FVec Ideal S1x2048 .f32) (v40 v46 : FVec Ideal S1x1x2048 .f32) (a : Fin 256) (k : Fin 2048) :
    k0_pay3 (F := Ideal) (mulf A (factor A)) v36 v40 v46 (ix2 a k)
      = Rows.hid (fun j => A (ix2 a j)) (fun j => v36 (ix2 0 j)) (fun j => v46 (ix3 0 0 j)) (fun j => v40 (ix3 0 0 j)) k := by
  have h := factor_at A a k
  unfold Rows.hid
  generalize factor A = Q at h ⊢
  rw [← h]
  pointwise [k0_pay3]

theorem heads_at (v35 : FVec Ideal S256x2048 .f32) (v36 : FVec Ideal S1x2048 .f32) (v40 v46 : FVec Ideal S1x1x2048 .f32) (a : Fin 256) (h : Fin 16) (d : Fin 128) :
    k0_pay4 (F := Ideal) v35 v36 v40 v46 (ix3 a h d) = k0_pay3 (F := Ideal) v35 v36 v40 v46 (ix2 a ⟨h * 128 + d, by omega⟩) := by
  unfold k0_pay4
  generalize k0_pay3 (F := Ideal) v35 v36 v40 v46 = P
  obtain ⟨h, hh⟩ := h
  pointwise
  interval_cases h <;> first | rfl | simp

theorem out_first (x0 : FVec Ideal S256x2048 .bf16) (x1 : FVec Ideal S2048x2048 .bf16) (x2 : FVec Ideal S256x2048 .f32) (x3 : FVec Ideal S1x1x2048 .f32)
    (x4 x5 : FVec Ideal S1x2048 .f32) (x6 x7 : FVec Ideal S1x1x2048 .f32) : out0_8 (F := Ideal) x0 x1 x2 x3 x4 x5 x6 x7 = k0_pay1 (F := Ideal) x0 x1 x2 x3 x4 := by
  unfold_out out0_8
  frame_out

theorem out_heads (x0 : FVec Ideal S256x2048 .bf16) (x1 : FVec Ideal S2048x2048 .bf16) (x2 : FVec Ideal S256x2048 .f32) (x3 : FVec Ideal S1x1x2048 .f32)
    (x4 x5 : FVec Ideal S1x2048 .f32) (x6 x7 : FVec Ideal S1x1x2048 .f32) : out0_9 (F := Ideal) x0 x1 x2 x3 x4 x5 x6 x7 = k0_pay4 (F := Ideal) (k0_pay2 (F := Ideal) x0 x1 x2 x3 x4) x5 x7 x6 := by
  unfold_out out0_9
  frame_out

theorem out_flat (x0 : FVec Ideal S256x2048 .bf16) (x1 : FVec Ideal S2048x2048 .bf16) (x2 : FVec Ideal S256x2048 .f32) (x3 : FVec Ideal S1x1x2048 .f32)
    (x4 x5 : FVec Ideal S1x2048 .f32) (x6 x7 : FVec Ideal S1x1x2048 .f32) : out0_10 (F := Ideal) x0 x1 x2 x3 x4 x5 x6 x7 = k0_pay3 (F := Ideal) (k0_pay2 (F := Ideal) x0 x1 x2 x3 x4) x5 x7 x6 := by
  unfold_out out0_10
  frame_out

variable (m : (ℓ : Loc nD τ sig) → Buf (Elt Ideal) ℓ) (ρ : Dev nD → PrngReg)

/-! ### The arguments -/

abbrev merged (c : Dev nD) : S16384x2048.Idx → EReal := m ((c : Thread nD τ).loc main_arg0)
abbrev w (c : Dev nD) : S2048x2048.Idx → EReal := m ((c : Thread nD τ).loc main_arg1)
abbrev x (c : Dev nD) : S4x4096x2048.Idx → EReal := m ((c : Thread nD τ).loc main_arg2)
abbrev gate (c : Dev nD) : S4x2048.Idx → EReal := m ((c : Thread nD τ).loc main_arg3)
abbrev gainMix (c : Dev nD) : S2048.Idx → EReal := m ((c : Thread nD τ).loc main_arg4)
abbrev gainNext (c : Dev nD) : S2048.Idx → EReal := m ((c : Thread nD τ).loc main_arg5)
abbrev shift (c : Dev nD) : S4x2048.Idx → EReal := m ((c : Thread nD τ).loc main_arg6)
abbrev sc (c : Dev nD) : S4x2048.Idx → EReal := m ((c : Thread nD τ).loc main_arg7)

/-- The residual stream of token `p` of the flattened batch. -/
def stream (c : Dev nD) (p : Fin 16384) : Fin 2048 → EReal :=
  Rows.mixed (fun j => x m c (ix3 ⟨p / 4096, by omega⟩ ⟨p % 4096, by omega⟩ j)) (fun j => ∑ i, merged m c (ix2 p i) * w m c (ix2 i j))
    (fun j => gainMix m c (ix1 j)) (fun j => gate m c (ix2 ⟨p / 4096, by omega⟩ j))

/-- Its next hidden state. -/
def hidden (c : Dev nD) (p : Fin 16384) : Fin 2048 → EReal :=
  Rows.hid (stream m c p) (fun j => gainNext m c (ix1 j)) (fun j => shift m c (ix2 ⟨p / 4096, by omega⟩ j)) (fun j => sc m c (ix2 ⟨p / 4096, by omega⟩ j))

/-! ### The blocks -/

theorem pos : ∀ t : Fin cfg0.N, t.val < 64
    ∧ (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = t.val / 16 ∧ win0_3.index t 1 = 0 ∧ win0_3.index t 2 = 0) ∧ (win0_4.index t 0 = 0 ∧ win0_4.index t 1 = 0)
    ∧ (win0_5.index t 0 = 0 ∧ win0_5.index t 1 = 0) ∧ (win0_6.index t 0 = t.val / 16 ∧ win0_6.index t 1 = 0 ∧ win0_6.index t 2 = 0)
    ∧ (win0_7.index t 0 = t.val / 16 ∧ win0_7.index t 1 = 0 ∧ win0_7.index t 2 = 0) ∧ (win0_8.index t 0 = t.val ∧ win0_8.index t 1 = 0)
    ∧ (win0_9.index t 0 = t.val ∧ win0_9.index t 1 = 0 ∧ win0_9.index t 2 = 0) ∧ (win0_10.index t 0 = t.val ∧ win0_10.index t 1 = 0) := by
  decide +kernel

theorem w_at (c : Dev nD) (j k : Fin 2048) : V m c main_v0 (ix2 j k) = w m c (ix2 j k) := by
  unfold V
  after_reads_at

theorem x_at (c : Dev nD) (p : Fin 16384) (k : Fin 2048) : V m c main_v1 (ix2 p k) = x m c (ix3 ⟨p / 4096, by omega⟩ ⟨p % 4096, by omega⟩ k) := by
  unfold V
  after_reads_at

theorem gate_at (c : Dev nD) (b : Fin 4) (k : Fin 2048) : V m c main_v2 (ix3 b 0 k) = gate m c (ix2 b k) := by
  unfold V
  after_reads_at

theorem shift_at (c : Dev nD) (b : Fin 4) (k : Fin 2048) : V m c main_v3 (ix3 b 0 k) = shift m c (ix2 b k) := by
  unfold V
  after_reads_at

theorem sc_at (c : Dev nD) (b : Fin 4) (k : Fin 2048) : V m c main_v4 (ix3 b 0 k) = sc m c (ix2 b k) := by
  unfold V
  after_reads_at

theorem gainMix_at (c : Dev nD) (k : Fin 2048) : V m c main_v5 (ix2 0 k) = gainMix m c (ix1 k) := by
  unfold V
  after_reads_at

theorem gainNext_at (c : Dev nD) (k : Fin 2048) : V m c main_v6 (ix2 0 k) = gainNext m c (ix1 k) := by
  unfold V
  after_reads_at

/-- The token of a block's row. -/
def tok (t : Fin cfg0.N) (a : Fin 256) : Fin 16384 := ⟨256 * t.val + a, by have := (pos t).1; omega⟩

theorem merged_blk (c : Dev nD) (t : Fin cfg0.N) (a : Fin 256) (k : Fin 2048) : iblk m c 0 t (ix2 a k) = merged m c (ix2 (tok t a) k) := by
  obtain ⟨h0, h1⟩ := (pos t).2.1
  refine (congrArg (V m c main_arg0) (?_ : _ = ix2 (tok t a) k)).trans (congrFun (V_main_arg0 m c) _)
  funext d; apply Fin.ext
  match d with
  | ⟨0, _⟩ => show win0_0.index t 0 * 256 + 1 * a.val = 256 * t.val + a; omega
  | ⟨1, _⟩ => show win0_0.index t 1 * 2048 + 1 * k.val = k; omega

theorem w_blk (c : Dev nD) (t : Fin cfg0.N) (j k : Fin 2048) : iblk m c 1 t (ix2 j k) = w m c (ix2 j k) := by
  obtain ⟨h0, h1⟩ := (pos t).2.2.1
  refine (congrArg (V m c main_v0) (?_ : _ = ix2 j k)).trans (w_at m c _ _)
  funext d; apply Fin.ext
  match d with
  | ⟨0, _⟩ => show win0_1.index t 0 * 2048 + 1 * j.val = j; omega
  | ⟨1, _⟩ => show win0_1.index t 1 * 2048 + 1 * k.val = k; omega

theorem x_blk (c : Dev nD) (t : Fin cfg0.N) (a : Fin 256) (k : Fin 2048) : iblk m c 2 t (ix2 a k)
    = x m c (ix3 ⟨(tok t a).val / 4096, by omega⟩ ⟨(tok t a).val % 4096, by omega⟩ k) := by
  obtain ⟨h0, h1⟩ := (pos t).2.2.2.1
  refine (congrArg (V m c main_v1) (?_ : _ = ix2 (tok t a) k)).trans (x_at m c _ _)
  funext d; apply Fin.ext
  match d with
  | ⟨0, _⟩ => show win0_2.index t 0 * 256 + 1 * a.val = 256 * t.val + a; omega
  | ⟨1, _⟩ => show win0_2.index t 1 * 2048 + 1 * k.val = k; omega

theorem batch (t : Fin cfg0.N) (a : Fin 256) : (tok t a).val / 4096 = t.val / 16 := by
  show (256 * t.val + a.val) / 4096 = t.val / 16
  omega

theorem gate_blk (c : Dev nD) (t : Fin cfg0.N) (a : Fin 256) (k : Fin 2048) : iblk m c 3 t (ix3 0 0 k) = gate m c (ix2 ⟨(tok t a).val / 4096, by omega⟩ k) := by
  obtain ⟨h0, h1, h2⟩ := (pos t).2.2.2.2.1
  have e := batch t a
  refine (congrArg (V m c main_v2) (?_ : _ = ix3 ⟨(tok t a).val / 4096, by omega⟩ 0 k)).trans (gate_at m c _ _)
  funext d; apply Fin.ext
  match d with
  | ⟨0, _⟩ => show win0_3.index t 0 * 1 + 1 * 0 = (tok t a).val / 4096; omega
  | ⟨1, _⟩ => show win0_3.index t 1 * 1 + 1 * 0 = 0; omega
  | ⟨2, _⟩ => show win0_3.index t 2 * 2048 + 1 * k.val = k; omega

theorem gainMix_blk (c : Dev nD) (t : Fin cfg0.N) (k : Fin 2048) : iblk m c 4 t (ix2 0 k) = gainMix m c (ix1 k) := by
  obtain ⟨h0, h1⟩ := (pos t).2.2.2.2.2.1
  refine (congrArg (V m c main_v5) (?_ : _ = ix2 0 k)).trans (gainMix_at m c _)
  funext d; apply Fin.ext
  match d with
  | ⟨0, _⟩ => show win0_4.index t 0 * 1 + 1 * 0 = 0; omega
  | ⟨1, _⟩ => show win0_4.index t 1 * 2048 + 1 * k.val = k; omega

theorem gainNext_blk (c : Dev nD) (t : Fin cfg0.N) (k : Fin 2048) : iblk m c 5 t (ix2 0 k) = gainNext m c (ix1 k) := by
  obtain ⟨h0, h1⟩ := (pos t).2.2.2.2.2.2.1
  refine (congrArg (V m c main_v6) (?_ : _ = ix2 0 k)).trans (gainNext_at m c _)
  funext d; apply Fin.ext
  match d with
  | ⟨0, _⟩ => show win0_5.index t 0 * 1 + 1 * 0 = 0; omega
  | ⟨1, _⟩ => show win0_5.index t 1 * 2048 + 1 * k.val = k; omega

theorem shift_blk (c : Dev nD) (t : Fin cfg0.N) (a : Fin 256) (k : Fin 2048) : iblk m c 6 t (ix3 0 0 k) = shift m c (ix2 ⟨(tok t a).val / 4096, by omega⟩ k) := by
  obtain ⟨h0, h1, h2⟩ := (pos t).2.2.2.2.2.2.2.1
  have e := batch t a
  refine (congrArg (V m c main_v3) (?_ : _ = ix3 ⟨(tok t a).val / 4096, by omega⟩ 0 k)).trans (shift_at m c _ _)
  funext d; apply Fin.ext
  match d with
  | ⟨0, _⟩ => show win0_6.index t 0 * 1 + 1 * 0 = (tok t a).val / 4096; omega
  | ⟨1, _⟩ => show win0_6.index t 1 * 1 + 1 * 0 = 0; omega
  | ⟨2, _⟩ => show win0_6.index t 2 * 2048 + 1 * k.val = k; omega

theorem sc_blk (c : Dev nD) (t : Fin cfg0.N) (a : Fin 256) (k : Fin 2048) : iblk m c 7 t (ix3 0 0 k) = sc m c (ix2 ⟨(tok t a).val / 4096, by omega⟩ k) := by
  obtain ⟨h0, h1, h2⟩ := (pos t).2.2.2.2.2.2.2.2.1
  have e := batch t a
  refine (congrArg (V m c main_v4) (?_ : _ = ix3 ⟨(tok t a).val / 4096, by omega⟩ 0 k)).trans (sc_at m c _ _)
  funext d; apply Fin.ext
  match d with
  | ⟨0, _⟩ => show win0_7.index t 0 * 1 + 1 * 0 = (tok t a).val / 4096; omega
  | ⟨1, _⟩ => show win0_7.index t 1 * 1 + 1 * 0 = 0; omega
  | ⟨2, _⟩ => show win0_7.index t 2 * 2048 + 1 * k.val = k; omega

/-! ### What a grid point leaves -/

theorem stream_blk (c : Dev nD) (t : Fin cfg0.N) (a : Fin 256) (k : Fin 2048) :
    k0_pay1 (F := Ideal) (iblk m c 0 t) (iblk m c 1 t) (iblk m c 2 t) (iblk m c 3 t) (iblk m c 4 t) (ix2 a k) = stream m c (tok t a) k := by
  rw [pay1_eq, added_at]
  unfold stream
  simp only [product_at, merged_blk, w_blk, x_blk, gate_blk m c t a, gainMix_blk]

theorem hidden_blk (c : Dev nD) (t : Fin cfg0.N) (a : Fin 256) (k : Fin 2048) :
    k0_pay3 (F := Ideal) (k0_pay2 (iblk m c 0 t) (iblk m c 1 t) (iblk m c 2 t) (iblk m c 3 t) (iblk m c 4 t)) (iblk m c 5 t) (iblk m c 7 t) (iblk m c 6 t) (ix2 a k)
      = hidden m c (tok t a) k := by
  rw [pay2_eq, next_at]
  unfold hidden
  simp only [stream_blk, gainNext_blk, shift_blk m c t a, sc_blk m c t a]

/-! ### The results -/

/-- The first result: the residual stream. -/
def whole1 (c : Dev nD) : S16384x2048.Idx → EReal := fun i => stream m c (i 0) (i 1)

/-- The third result: the hidden state. -/
def whole3 (c : Dev nD) : S16384x2048.Idx → EReal := fun i => hidden m c (i 0) (i 1)

/-- The second result: the hidden state as 16 runs of 128 columns. -/
def whole2 (c : Dev nD) : S16384x16x128.Idx → EReal := fun i =>
  have h1 : (i 1).val < 16 := (i 1).isLt
  have h2 : (i 2).val < 128 := (i 2).isLt
  hidden m c (i 0) ⟨(i 1).val * 128 + (i 2).val, by omega⟩

theorem final1 (c : Dev nD) : (dats m 0 c).arrAt 8 cfg0.N = whole1 m c := by
  refine (dats m 0 c).arrAt_eq_of_covers 8 _ (by decide +kernel) fun t hf y => ?_
  blk_simp
  rw [after0_8, out_first]
  obtain ⟨h0, h1⟩ := (pos t).2.2.2.2.2.2.2.2.2.1
  obtain ⟨a, b, rfl⟩ : ∃ (a : Fin 256) (b : Fin 2048), y = ix2 a b := ⟨y 0, y 1, by funext d; match d with | ⟨0, _⟩ => rfl | ⟨1, _⟩ => rfl⟩
  have e : (win0_8.blk t).view.emb (ix2 a b) = ix2 (tok t a) b := by
    funext d; apply Fin.ext
    match d with
    | ⟨0, _⟩ => show win0_8.index t 0 * 256 + 1 * a.val = 256 * t.val + a; omega
    | ⟨1, _⟩ => show win0_8.index t 1 * 2048 + 1 * b.val = b; omega
  rw [e]
  exact stream_blk m c t a b

theorem final3 (c : Dev nD) : (dats m 0 c).arrAt 10 cfg0.N = whole3 m c := by
  refine (dats m 0 c).arrAt_eq_of_covers 10 _ (by decide +kernel) fun t hf y => ?_
  blk_simp
  rw [after0_10, out_flat]
  obtain ⟨h0, h1⟩ := (pos t).2.2.2.2.2.2.2.2.2.2.2
  obtain ⟨a, b, rfl⟩ : ∃ (a : Fin 256) (b : Fin 2048), y = ix2 a b := ⟨y 0, y 1, by funext d; match d with | ⟨0, _⟩ => rfl | ⟨1, _⟩ => rfl⟩
  have e : (win0_10.blk t).view.emb (ix2 a b) = ix2 (tok t a) b := by
    funext d; apply Fin.ext
    match d with
    | ⟨0, _⟩ => show win0_10.index t 0 * 256 + 1 * a.val = 256 * t.val + a; omega
    | ⟨1, _⟩ => show win0_10.index t 1 * 2048 + 1 * b.val = b; omega
  rw [e]
  exact hidden_blk m c t a b

theorem final2 (c : Dev nD) : (dats m 0 c).arrAt 9 cfg0.N = whole2 m c := by
  refine (dats m 0 c).arrAt_eq_of_covers 9 _ (by decide +kernel) fun t hf y => ?_
  blk_simp
  rw [after0_9, out_heads]
  obtain ⟨h0, h1, h2⟩ := (pos t).2.2.2.2.2.2.2.2.2.2.1
  obtain ⟨a, h, d, rfl⟩ : ∃ (a : Fin 256) (h : Fin 16) (d : Fin 128), y = ix3 a h d :=
    ⟨y 0, y 1, y 2, by funext d; match d with | ⟨0, _⟩ => rfl | ⟨1, _⟩ => rfl | ⟨2, _⟩ => rfl⟩
  have e : (win0_9.blk t).view.emb (ix3 a h d) = ix3 (tok t a) h d := by
    funext d'; apply Fin.ext
    match d' with
    | ⟨0, _⟩ => show win0_9.index t 0 * 256 + 1 * a.val = 256 * t.val + a; omega
    | ⟨1, _⟩ => show win0_9.index t 1 * 16 + 1 * h.val = h; omega
    | ⟨2, _⟩ => show win0_9.index t 2 * 128 + 1 * d.val = d; omega
  rw [e]
  exact (heads_at _ _ _ _ a h d).trans (hidden_blk m c t a _)

/-! ### The claims -/

theorem stream_ref (m : (ℓ : Loc OutRefIdeal.nD OutRefIdeal.τ OutRefIdeal.sig) → Buf (Elt Ideal) ℓ) (c : Dev OutRefIdeal.nD) (p : Fin 16384) (k : Fin 2048) :
    OutRefIdeal.Value.first m c (ix3 ⟨p / 4096, by omega⟩ ⟨p % 4096, by omega⟩ k)
      = Rows.mixed (fun j => OutRefIdeal.Value.x m c (ix3 ⟨p / 4096, by omega⟩ ⟨p % 4096, by omega⟩ j))
          (fun j => ∑ i, OutRefIdeal.Value.merged m c (ix2 p i) * OutRefIdeal.Value.w m c (ix2 i j))
          (fun j => OutRefIdeal.Value.gainMix m c (ix1 j)) (fun j => OutRefIdeal.Value.gate m c (ix2 ⟨p / 4096, by omega⟩ j)) k := by
  have e : (⟨p.val / 4096 * 4096 + p.val % 4096, by omega⟩ : Fin 16384) = p := Fin.ext (by dsimp only; omega)
  rw [OutRefIdeal.Value.first_at]
  simp only [e]

theorem frame_ref : Cert.quiescent_OutRefIdeal := fun m ρ _ =>
  (θ_run OutRefIdeal.defs _ _).mono (fun r h => ⟨fun c => (h c).2.2.2, sem_eq_zero_of_no_sems (by decide) r.2⟩) (OutRefIdeal.Value.run (F := Ideal) m ρ)

/-- The kernel's run with its three result arrays named. -/
theorem runs : θ_run defs (onTc (τ := τ) (main (F := Ideal))) ⟨m, fun _ => 0, ρ⟩ (fun r => ∀ c : Dev nD,
    r.2.mem ((c.tc : Thread nD τ).loc main_v7_0) = whole1 m c
      ∧ r.2.mem ((c.tc : Thread nD τ).loc main_v7_1) = whole2 m c
      ∧ r.2.mem ((c.tc : Thread nD τ).loc main_v7_2) = whole3 m c) :=
  (θ_run defs _ _).mono (fun _ h c => ⟨((h c).1 8).trans (final1 m c), ((h c).1 9).trans (final2 m c), ((h c).1 10).trans (final3 m c)⟩) (run_main m ρ)

theorem equal : Cert.algebraic_OutIdeal_OutRefIdeal := fun m ρ m' ρ' _ hm =>
  ⟨whole1 m, whole2 m, whole3 m,
    (θ_run defs _ _).mono (fun r h c => ⟨(h.1 c).1, (h.1 c).2.1, (h.1 c).2.2, h.2 c⟩) (θ_run_and (runs m ρ) (unchanged m ρ)),
    (θ_run OutRefIdeal.defs _ _).mono (fun r h c => by
      obtain ⟨a0, a1, a2, a3, a4, a5, a6, a7⟩ := hm c
      have es (p : Fin 16384) (k : Fin 2048) : OutRefIdeal.Value.first m' c (ix3 ⟨p / 4096, by omega⟩ ⟨p % 4096, by omega⟩ k) = stream m c p k := by
        rw [stream_ref]
        unfold stream OutRefIdeal.Value.x OutRefIdeal.Value.merged OutRefIdeal.Value.w OutRefIdeal.Value.gainMix OutRefIdeal.Value.gate
        rw [a0, a1, a2, a3, a4]
      have eh (p : Fin 16384) (k : Fin 2048) : OutRefIdeal.Value.second m' c (ix3 ⟨p / 4096, by omega⟩ ⟨p % 4096, by omega⟩ k) = hidden m c p k := by
        rw [OutRefIdeal.Value.second_at]
        simp only [es]
        unfold hidden OutRefIdeal.Value.gainNext OutRefIdeal.Value.shift OutRefIdeal.Value.sc
        rw [a5, a6, a7]
      refine ⟨(h c).1.trans ?_, (h c).2.1.trans ?_, (h c).2.2.1.trans ?_, (h c).2.2.2⟩
      · funext i
        idx_vars i
        exact (OutRefIdeal.Value.flat_at (OutRefIdeal.Value.first m' c) _ _).trans (es _ _)
      · rw [OutRefIdeal.Value.res1_eq]
        funext i
        idx_vars i
        exact (OutRefIdeal.Value.heads_at _ _ _ _).trans (eh _ _)
      · rw [OutRefIdeal.Value.res2_eq]
        funext i
        idx_vars i
        exact (OutRefIdeal.Value.flat_rounded_at _ _ _).trans (eh _ _))
      (OutRefIdeal.Value.run (F := Ideal) m' ρ')⟩

end Cert.OutIdeal.Value

end
-- ==== Proof.Mix.lean ====
/-
  The mixture of the three head groups' outputs at one entry, over the extended reals: the softmax of the groups'
  log-denominators times the groups' outputs.
-/
module

public import Idealize.ShloMosaic.Lib.Pointwise
public import Idealize.ShloMosaic.PureOps.Ideal

@[expose] public section

noncomputable section

namespace Mix

open Idealize.ShloMosaic

/-- The greatest of three log-denominators. -/
def top (l : Fin 3 → EReal) : EReal := max (max (l 0) (l 1)) (l 2)

/-- A group's weight. -/
def weight (l : Fin 3 → EReal) (g : Fin 3) : EReal := Ideal.div (Ideal.exp (l g - top l)) (∑ g', Ideal.exp (l g' - top l))

/-- The outputs mixed. -/
def mix (l x : Fin 3 → EReal) : EReal := ∑ g, weight l g * x g

/-- Three entries by group. -/
def by3 (a b c : EReal) : Fin 3 → EReal := fun g => match g with | 0 => a | 1 => b | 2 => c

end Mix

end
-- ==== Proof.MergeRef.lean ====
/-
  The plain program's mixture of the head groups and merge of the two branches, read at an index.
-/
module

public import proofs.«01_k».proof.Proof.Gen.MergeRefIdeal.Run
public import proofs.«01_k».proof.Proof.Mix
public import proofs.«01_k».proof.Proof.Spec
public import Idealize.ShloMosaic.Lib.Pipeline.ValueKit.Geometry
public import Idealize.ShloMosaic.Lib.StableHlo.ReadAt

@[expose] public section

noncomputable section

namespace Cert.MergeRefIdeal.Value

open Idealize.ShloMosaic Idealize.ShloMosaic.TcCoe Idealize.SL.Sem Cert.MergeRefIdeal Cert.MergeRefIdeal.Gen

/-- A group's array with its positions back in the order of the tokens. -/
def rows0 (A : FVec Ideal S4x1x4096x640 .f32) : FVec Ideal S4x4096x640 .f32 :=
  shapeCast S4x4096x640 (transpose S4x4096x1x640 [0, 2, 1, 3] A transposes_S4x1x4096x640_S4x4096x1x640_0_2_1_3 : FVec Ideal S4x4096x1x640 .f32) shapeCasts_S4x4096x1x640_S4x4096x640
def rows1 (A : FVec Ideal S4x4x1024x640 .f32) : FVec Ideal S4x4096x640 .f32 :=
  shapeCast S4x4096x640 (transpose S4x1024x4x640 [0, 2, 1, 3] A transposes_S4x4x1024x640_S4x1024x4x640_0_2_1_3 : FVec Ideal S4x1024x4x640 .f32) shapeCasts_S4x1024x4x640_S4x4096x640
def rows2 (A : FVec Ideal S4x16x256x640 .f32) : FVec Ideal S4x4096x640 .f32 :=
  shapeCast S4x4096x640 (transpose S4x256x16x640 [0, 2, 1, 3] A transposes_S4x16x256x640_S4x256x16x640_0_2_1_3 : FVec Ideal S4x256x16x640 .f32) shapeCasts_S4x256x16x640_S4x4096x640

theorem rows0_at (A : FVec Ideal S4x1x4096x640 .f32) (b : Fin 4) (t : Fin 4096) (q : Fin 640) : rows0 A (ix3 b t q) = A (ix4 b 0 t q) := by
  pointwise [rows0]

theorem rows1_at (A : FVec Ideal S4x4x1024x640 .f32) (b : Fin 4) (t : Fin 4096) (q : Fin 640) :
    rows1 A (ix3 b t q) = A (ix4 b ⟨t % 4, by omega⟩ ⟨t / 4, by omega⟩ q) := by
  pointwise [rows1]

theorem rows2_at (A : FVec Ideal S4x16x256x640 .f32) (b : Fin 4) (t : Fin 4096) (q : Fin 640) :
    rows2 A (ix3 b t q) = A (ix4 b ⟨t % 16, by omega⟩ ⟨t / 16, by omega⟩ q) := by
  pointwise [rows2]

/-- The four heads' log-denominators of a group. -/
def scores (R : FVec Ideal S4x4096x640 .f32) : FVec Ideal S1x4x4096x4 .f32 :=
  broadcastInDim S1x4x4096x4 ![1, 2, 3] bcast_S4x4096x4_S1x4x4096x4_1_2_3 (shapeCast S4x4096x4 (extractStridedSlice S4x4096x4x1 ![0, 0, 0, 0]
    (shapeCast S4x4096x4x32 (extractStridedSlice S4x4096x128 ![0, 0, 512] R slices_S4x4096x640_S4x4096x128_0_0_512 : FVec Ideal S4x4096x128 .f32) shapeCasts_S4x4096x128_S4x4096x4x32 : FVec Ideal S4x4096x4x32 .f32)
    slices_S4x4096x4x32_S4x4096x4x1_0_0_0_0 : FVec Ideal S4x4096x4x1 .f32) shapeCasts_S4x4096x4x1_S4x4096x4 : FVec Ideal S4x4096x4 .f32)

theorem scores_at (R : FVec Ideal S4x4096x640 .f32) (b : Fin 4) (t : Fin 4096) (h : Fin 4) :
    scores R (ix4 0 b t h) = R (ix3 b t ⟨512 + h * 32, by omega⟩) := by
  pointwise [scores]

/-- The four heads' outputs of a group. -/
def heads (R : FVec Ideal S4x4096x640 .f32) : FVec Ideal S1x4x4096x4x128 .f32 :=
  broadcastInDim S1x4x4096x4x128 ![1, 2, 3, 4] bcast_S4x4096x4x128_S1x4x4096x4x128_1_2_3_4 (shapeCast S4x4096x4x128
    (extractStridedSlice S4x4096x512 ![0, 0, 0] R slices_S4x4096x640_S4x4096x512_0_0_0 : FVec Ideal S4x4096x512 .f32) shapeCasts_S4x4096x512_S4x4096x4x128 : FVec Ideal S4x4096x4x128 .f32)

theorem heads_at (R : FVec Ideal S4x4096x640 .f32) (b : Fin 4) (t : Fin 4096) (h : Fin 4) (d : Fin 128) :
    heads R (ix5 0 b t h d) = R (ix3 b t ⟨h * 128 + d, by omega⟩) := by
  pointwise [heads]

/-- The groups side by side. -/
def stack (X Y Z : FVec Ideal S1x4x4096x4 .f32) : FVec Ideal S3x4x4096x4 .f32 :=
  concatenate S3x4x4096x4 0 [⟨S1x4x4096x4, X⟩, ⟨S1x4x4096x4, Y⟩, ⟨S1x4x4096x4, Z⟩] concatenates_S1x4x4096x4_S1x4x4096x4_S1x4x4096x4_S3x4x4096x4_d0
def stack' (X Y Z : FVec Ideal S1x4x4096x4x128 .f32) : FVec Ideal S3x4x4096x4x128 .f32 :=
  concatenate S3x4x4096x4x128 0 [⟨S1x4x4096x4x128, X⟩, ⟨S1x4x4096x4x128, Y⟩, ⟨S1x4x4096x4x128, Z⟩] concatenates_S1x4x4096x4x128_S1x4x4096x4x128_S1x4x4096x4x128_S3x4x4096x4x128_d0

theorem stack_at (X Y Z : FVec Ideal S1x4x4096x4 .f32) (g : Fin 3) (b : Fin 4) (t : Fin 4096) (h : Fin 4) :
    stack X Y Z (ix4 g b t h) = Mix.by3 (X (ix4 0 b t h)) (Y (ix4 0 b t h)) (Z (ix4 0 b t h)) g := by
  match g with
  | 0 => pointwise [stack, Mix.by3]
  | 1 => pointwise [stack, Mix.by3]
  | 2 => pointwise [stack, Mix.by3]

theorem stack'_at (X Y Z : FVec Ideal S1x4x4096x4x128 .f32) (g : Fin 3) (b : Fin 4) (t : Fin 4096) (h : Fin 4) (d : Fin 128) :
    stack' X Y Z (ix5 g b t h d) = Mix.by3 (X (ix5 0 b t h d)) (Y (ix5 0 b t h d)) (Z (ix5 0 b t h d)) g := by
  match g with
  | 0 => pointwise [stack', Mix.by3]
  | 1 => pointwise [stack', Mix.by3]
  | 2 => pointwise [stack', Mix.by3]

/-- The greatest over the groups, at every group. -/
def top (L : FVec Ideal S3x4x4096x4 .f32) : FVec Ideal S3x4x4096x4 .f32 :=
  broadcastInDim S3x4x4096x4 ![0, 1, 2, 3] bcast_S1x4x4096x4_S3x4x4096x4_0_1_2_3 (broadcastInDim S1x4x4096x4 ![1, 2, 3] bcast_S4x4096x4_S1x4x4096x4_1_2_3
    (maximumf (broadcastInDim S4x4096x4 ![] bcast_S_S4x4096x4 (constant (F := Ideal) S_ .f32 0xFF800000#32))
      (Host.reduce FloatOps.maximumf L (constant (F := Ideal) S_ .f32 0xFF800000#32) reducesTo_S3x4x4096x4_S4x4096x4_d0 h_S_)))

theorem top_at (L : FVec Ideal S3x4x4096x4 .f32) (g : Fin 3) (b : Fin 4) (t : Fin 4096) (h : Fin 4) :
    top L (ix4 g b t h) = Mix.top fun g' => L (ix4 g' b t h) := by
  pointwise [top]
  rw [Attn.neg_inf]
  unfold Mix.top
  rw [show (Finset.univ : Finset (Fin 3)) = {0, 1, 2} by decide, Finset.fold_insert (by decide), Finset.fold_insert (by decide), Finset.fold_singleton]
  simp only [bot_le, max_eq_left, max_eq_right, max_assoc]

/-- The groups' weights. -/
def weights (L T : FVec Ideal S3x4x4096x4 .f32) : FVec Ideal S3x4x4096x4 .f32 :=
  Host.divf (Host.exp (subf L T)) (broadcastInDim S3x4x4096x4 ![0, 1, 2, 3] bcast_S1x4x4096x4_S3x4x4096x4_0_1_2_3 (broadcastInDim S1x4x4096x4 ![1, 2, 3] bcast_S4x4096x4_S1x4x4096x4_1_2_3
    (Host.reduceAdd (Host.exp (subf L T)) (constant S_ .f32 0x00000000#32) reducesTo_S3x4x4096x4_S4x4096x4_d0 h_S_)))

theorem weights_at (L : FVec Ideal S3x4x4096x4 .f32) (g : Fin 3) (b : Fin 4) (t : Fin 4096) (h : Fin 4) :
    weights L (top L) (ix4 g b t h) = Mix.weight (fun g' => L (ix4 g' b t h)) g := by
  have e := fun g' => top_at L g' b t h
  unfold Mix.weight
  generalize top L = T at e ⊢
  simp only [← e 0]
  pointwise [weights]
  simp only [e]

/-- The outputs mixed, the heads' columns side by side. -/
def mixed (W : FVec Ideal S3x4x4096x4 .f32) (O : FVec Ideal S3x4x4096x4x128 .f32) : FVec Ideal S16384x512 .f32 :=
  shapeCast S16384x512 (Host.reduceAdd (mulf (broadcastInDim S3x4x4096x4x128 ![0, 1, 2, 3, 4] bcast_S3x4x4096x4x1_S3x4x4096x4x128_0_1_2_3_4
    (broadcastInDim S3x4x4096x4x1 ![0, 1, 2, 3] bcast_S3x4x4096x4_S3x4x4096x4x1_0_1_2_3 W)) O) (constant S_ .f32 0x00000000#32)
    reducesTo_S3x4x4096x4x128_S4x4096x4x128_d0 h_S_ : FVec Ideal S4x4096x4x128 .f32) shapeCasts_S4x4096x4x128_S16384x512

theorem mixed_at (W : FVec Ideal S3x4x4096x4 .f32) (O : FVec Ideal S3x4x4096x4x128 .f32) (p : Fin 16384) (j : Fin 512) :
    mixed W O (ix2 p j) = ∑ g, W (ix4 g ⟨p / 4096, by omega⟩ ⟨p % 4096, by omega⟩ ⟨j / 128, by omega⟩)
      * O (ix5 g ⟨p / 4096, by omega⟩ ⟨p % 4096, by omega⟩ ⟨j / 128, by omega⟩ ⟨j % 128, by omega⟩) := by
  pointwise [mixed]

/-- One branch's product with its weights, gated. -/
def gate (o : ℕ) (hs : S16384x8192.Slices ![0, o] S16384x2048) (P : FVec Ideal S16384x8192 .bf16) : FVec Ideal S16384x2048 .f32 :=
  Host.divf (broadcastInDim S16384x2048 ![] bcast_S_S16384x2048 (constant S_ .f32 0x3F800000#32)) (addf (broadcastInDim S16384x2048 ![] bcast_S_S16384x2048 (constant S_ .f32 0x3F800000#32))
    (Host.exp (Host.negf (extf .f32 (extractStridedSlice S16384x2048 ![0, o] P hs : FVec Ideal S16384x2048 .bf16) bitsLt_bf16_f32))))

theorem gate_a (P : FVec Ideal S16384x8192 .bf16) (p : Fin 16384) (k : Fin 2048) :
    gate 4096 slices_S16384x8192_S16384x2048_0_4096 P (ix2 p k) = Ideal.logistic (P (ix2 p ⟨4096 + k, by omega⟩)) := by
  pointwise [gate]
  rfl

theorem gate_b (P : FVec Ideal S16384x8192 .bf16) (p : Fin 16384) (k : Fin 2048) :
    gate 6144 slices_S16384x8192_S16384x2048_0_6144 P (ix2 p k) = Ideal.logistic (P (ix2 p ⟨6144 + k, by omega⟩)) := by
  pointwise [gate]
  rfl

/-- The merge of the two branches. -/
def merged (A0 : FVec Ideal S4x1x4096x640 .f32) (A1 : FVec Ideal S4x4x1024x640 .f32) (A2 : FVec Ideal S4x16x256x640 .f32) (R : FVec Ideal S16384x1024 .bf16)
    (P : FVec Ideal S16384x8192 .bf16) (wa : FVec Ideal S512x2048 .f32) (wr : FVec Ideal S1024x2048 .f32) : FVec Ideal S16384x2048 .bf16 :=
  truncf (F := Ideal) .bf16 (addf (mulf (gate 4096 slices_S16384x8192_S16384x2048_0_4096 P) (Host.dotGeneral dot_S16384x512_S512x2048_S16384x2048_1_0_0_1_n_n none
      (mixed (weights (stack (scores (rows0 A0)) (scores (rows1 A1)) (scores (rows2 A2))) (top (stack (scores (rows0 A0)) (scores (rows1 A1)) (scores (rows2 A2)))))
        (stack' (heads (rows0 A0)) (heads (rows1 A1)) (heads (rows2 A2)))) wa))
    (mulf (gate 6144 slices_S16384x8192_S16384x2048_0_6144 P) (Host.dotGeneral dot_S16384x1024_S1024x2048_S16384x2048_1_0_0_1_n_n none
      (extf (F := Ideal) .f32 R bitsLt_bf16_f32 : FVec Ideal S16384x1024 .f32) wr)) : FVec Ideal S16384x2048 .f32) bitsLt_bf16_f32

theorem merged_at (A0 : FVec Ideal S4x1x4096x640 .f32) (A1 : FVec Ideal S4x4x1024x640 .f32) (A2 : FVec Ideal S4x16x256x640 .f32) (R : FVec Ideal S16384x1024 .bf16)
    (P : FVec Ideal S16384x8192 .bf16) (wa : FVec Ideal S512x2048 .f32) (wr : FVec Ideal S1024x2048 .f32) (p : Fin 16384) (k : Fin 2048) :
    merged A0 A1 A2 R P wa wr (ix2 p k)
      = Ideal.logistic (P (ix2 p ⟨4096 + k, by omega⟩)) * (∑ j : Fin 512, Mix.mix
            (Mix.by3 (A0 (ix4 ⟨p / 4096, by omega⟩ 0 ⟨p % 4096, by omega⟩ ⟨512 + j / 128 * 32, by omega⟩))
              (A1 (ix4 ⟨p / 4096, by omega⟩ ⟨p % 4096 % 4, by omega⟩ ⟨p % 4096 / 4, by omega⟩ ⟨512 + j / 128 * 32, by omega⟩))
              (A2 (ix4 ⟨p / 4096, by omega⟩ ⟨p % 4096 % 16, by omega⟩ ⟨p % 4096 / 16, by omega⟩ ⟨512 + j / 128 * 32, by omega⟩)))
            (Mix.by3 (A0 (ix4 ⟨p / 4096, by omega⟩ 0 ⟨p % 4096, by omega⟩ ⟨j, by omega⟩))
              (A1 (ix4 ⟨p / 4096, by omega⟩ ⟨p % 4096 % 4, by omega⟩ ⟨p % 4096 / 4, by omega⟩ ⟨j, by omega⟩))
              (A2 (ix4 ⟨p / 4096, by omega⟩ ⟨p % 4096 % 16, by omega⟩ ⟨p % 4096 / 16, by omega⟩ ⟨j, by omega⟩)))
          * wa (ix2 j k))
        + Ideal.logistic (P (ix2 p ⟨6144 + k, by omega⟩)) * (∑ i : Fin 1024, R (ix2 p i) * wr (ix2 i k)) := by
  rw [← gate_a, ← gate_b]
  unfold merged
  generalize gate 4096 slices_S16384x8192_S16384x2048_0_4096 P = ga
  generalize gate 6144 slices_S16384x8192_S16384x2048_0_6144 P = gb
  generalize hQ : mixed _ _ = Q
  pointwise
  congr 2
  refine Finset.sum_congr rfl fun j _ => congrArg (· * wa (ix2 j k)) ?_
  rw [← hQ, mixed_at]
  unfold Mix.mix
  refine Finset.sum_congr rfl fun g _ => ?_
  rw [weights_at]
  simp only [stack_at, stack'_at, scores_at, heads_at, rows0_at, rows1_at, rows2_at]
  have e : (⟨(j.val / 128) * 128 + j.val % 128, by omega⟩ : Fin 640) = ⟨j, by omega⟩ := Fin.ext (by dsimp only; omega)
  rw [e]

variable (m : (ℓ : Loc nD τ sig) → Buf (Elt Ideal) ℓ) (c : Dev nD)

theorem res_eq : res_main_v70 m c = merged (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6)) := rfl

end Cert.MergeRefIdeal.Value

end
-- ==== Proof.Merge.lean ====
/-
  The mixture of the head groups and the merge of the two branches: the kernel's result array and the plain program's are the
  same function of the arguments.
-/
module

public import proofs.«01_k».proof.Proof.Gen.MergeIdeal.Frame
public import proofs.«01_k».proof.Proof.MergeRef
public import proofs.«01_k».proof.Defs
public import Idealize.ShloMosaic.Lib.Pipeline
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pipeline.ReadBack
public import Idealize.ShloMosaic.Lib.StableHlo.ReadAt
public import Idealize.ShloMosaic.Lib.Quiescent

@[expose] public section

noncomputable section

namespace Cert.MergeIdeal.Value

open Idealize.ShloMosaic Idealize.ShloMosaic.TcCoe Idealize.SL.Sem Cert.MergeIdeal Cert.MergeIdeal.Gen

set_option maxRecDepth 16384

/-! ### What the body computes -/

theorem product_at (v648 : FVec Ideal S256x512 .bf16) (v649 : FVec Ideal S512x2048 .bf16) (a : Fin 256) (k : Fin 2048) :
    k0_pay156 (F := Ideal) v648 v649 (ix2 a k) = ∑ j, v648 (ix2 a j) * v649 (ix2 j k) := by
  pointwise [k0_pay156]

theorem merge_at (v651 : FVec Ideal S256x2048 .f32) (v652 : FVec Ideal S256x1024 .bf16) (v653 : FVec Ideal S1024x2048 .bf16) (v656 v660 : FVec Ideal S256x2048 .bf16)
    (a : Fin 256) (k : Fin 2048) : k0_pay1 (F := Ideal) v651 v652 v653 v656 v660 (ix2 a k)
      = Ideal.logistic (v656 (ix2 a k)) * v651 (ix2 a k) + Ideal.logistic (v660 (ix2 a k)) * ∑ i, v652 (ix2 a i) * v653 (ix2 i k) := by
  pointwise [k0_pay1]

/-- A head's outputs mixed, as the body writes it. -/
def blend (l0 : FVec Ideal S256x1 .f32) (l1 l2 : FVec Ideal S1x1x256x1 .f32) (x0 : FVec Ideal S256x128 .f32) (x1 x2 : FVec Ideal S1x1x256x128 .f32) : FVec Ideal S256x128 .bf16 :=
  k0_pay155 (F := Ideal) (k0_pay151 l0 l1 l2) (k0_pay152 l0 l1 l2) (k0_pay153 l0 l1 l2 x0) (k0_pay154 l0 l1 l2) x1 x2

theorem blend_at (l0 : FVec Ideal S256x1 .f32) (l1 l2 : FVec Ideal S1x1x256x1 .f32) (x0 : FVec Ideal S256x128 .f32) (x1 x2 : FVec Ideal S1x1x256x128 .f32) (a : Fin 256) (d : Fin 128) :
    blend l0 l1 l2 x0 x1 x2 (ix2 a d) = Mix.mix (Mix.by3 (l0 (ix2 a 0)) (l1 (ix4 0 0 a 0)) (l2 (ix4 0 0 a 0)))
      (Mix.by3 (x0 (ix2 a d)) (x1 (ix4 0 0 a d)) (x2 (ix4 0 0 a d))) := by
  unfold Mix.mix Mix.weight Mix.top
  simp only [Fin.sum_univ_three]
  pointwise [blend, Mix.by3, k0_pay145, k0_pay146, k0_pay147, k0_pay148, k0_pay149, k0_pay150, k0_pay151, k0_pay152, k0_pay153, k0_pay154, k0_pay155]

/-! ### The two strided groups' rows, scattered back to the order of the tokens -/

/-- What the scratch holds: the groups' columns by 128, the rows in the order of the tokens. -/
def natural (a1 : FVec Ideal S1x4x64x640 .f32) (a2 : FVec Ideal S1x16x16x640 .f32) : S2x5x256x128.Idx → EReal := fun i =>
  have h1 : (i 1).val < 5 := (i 1).isLt
  have h2 : (i 2).val < 256 := (i 2).isLt
  have h3 : (i 3).val < 128 := (i 3).isLt
  if (i 0).val = 0 then a1 (ix4 0 ⟨(i 2).val % 4, by omega⟩ ⟨(i 2).val / 4, by omega⟩ ⟨(i 1).val * 128 + (i 3).val, by omega⟩)
  else a2 (ix4 0 ⟨(i 2).val % 16, by omega⟩ ⟨(i 2).val / 16, by omega⟩ ⟨(i 1).val * 128 + (i 3).val, by omega⟩)

theorem natural_fst (a1 : FVec Ideal S1x4x64x640 .f32) (a2 : FVec Ideal S1x16x16x640 .f32) (i : S2x5x256x128.Idx) (h1 : (i 1).val < 5) (h2 : (i 2).val < 256) (h3 : (i 3).val < 128)
    (h : (i 0).val = 0) : natural a1 a2 i = a1 (ix4 0 ⟨(i 2).val % 4, by omega⟩ ⟨(i 2).val / 4, by omega⟩ ⟨(i 1).val * 128 + (i 3).val, by omega⟩) :=
  if_pos h

theorem natural_snd (a1 : FVec Ideal S1x4x64x640 .f32) (a2 : FVec Ideal S1x16x16x640 .f32) (i : S2x5x256x128.Idx) (h1 : (i 1).val < 5) (h2 : (i 2).val < 256) (h3 : (i 3).val < 128)
    (h : ¬(i 0).val = 0) : natural a1 a2 i = a2 (ix4 0 ⟨(i 2).val % 16, by omega⟩ ⟨(i 2).val / 16, by omega⟩ ⟨(i 1).val * 128 + (i 3).val, by omega⟩) :=
  if_neg h

/-- Row set `r` and columns `c` of the second group, as the body stores them. -/
def piece1 (a1 : FVec Ideal S1x4x64x640 .f32) (r c o : ℕ) (hr : r < 4) (hc : c < 5) (ho : o + 128 ≤ 640) : View.Piece (Elt Ideal) S2x5x256x128 .f32 :=
  ⟨{ off := ![0, c, r, 0], size := ![1, 1, 64, 128], stride := ![1, 1, 4, 1],
      inb := (fun d => match d with
        | ⟨0, _⟩ => .inr (show 0 + 1 * 0 < 2 by omega) | ⟨1, _⟩ => .inr (show c + 1 * 0 < 5 by omega)
        | ⟨2, _⟩ => .inr (show r + 4 * 63 < 256 by omega) | ⟨3, _⟩ => .inr (show 0 + 1 * 127 < 128 by omega)),
      stride_pos := (fun d => match d with
        | ⟨0, _⟩ => Nat.one_pos | ⟨1, _⟩ => Nat.one_pos | ⟨2, _⟩ => Nat.succ_pos _ | ⟨3, _⟩ => Nat.one_pos) },
    shapeCast S1x1x64x128 (shapeCast S64x128 (View.ld (Val := Elt Ideal) (e' := .f32) a1 (Rect.unit (s := S1x4x64x640) ![0, r, 0, o] ![1, 1, 64, 128] (fun d => match d with
        | ⟨0, _⟩ => le_refl 1 | ⟨1, _⟩ => hr | ⟨2, _⟩ => le_refl 64 | ⟨3, _⟩ => ho)))
      shapeCasts_S1x1x64x128_S64x128 : FVec Ideal S64x128 .f32) shapeCasts_S64x128_S1x1x64x128⟩

theorem keep64_at (P : FVec Ideal S1x1x64x128 .f32) (a : Fin 64) (b : Fin 128) :
    shapeCast S1x1x64x128 (shapeCast S64x128 P shapeCasts_S1x1x64x128_S64x128 : FVec Ideal S64x128 .f32) shapeCasts_S64x128_S1x1x64x128 (ix4 0 0 a b) = P (ix4 0 0 a b) := by
  pointwise []

theorem piece1_at (a1 : FVec Ideal S1x4x64x640 .f32) (a2 : FVec Ideal S1x16x16x640 .f32) (r c o : ℕ) (hr : r < 4) (hc : c < 5) (ho : o + 128 ≤ 640) (e : o = c * 128)
    (y : S2x5x256x128.Idx) : View.RectAt y (piece1 a1 r c o hr hc ho).1 (piece1 a1 r c o hr hc ho).2 (natural a1 a2 y) := by
  intro x hx
  subst hx e
  obtain ⟨k, l, a, b, rfl⟩ : ∃ (k l : Fin 1) (a : Fin 64) (b : Fin 128), x = ix4 k l a b :=
    ⟨x 0, x 1, x 2, x 3, by funext d; match d with | ⟨0, _⟩ => rfl | ⟨1, _⟩ => rfl | ⟨2, _⟩ => rfl | ⟨3, _⟩ => rfl⟩
  obtain rfl := Subsingleton.elim k 0
  obtain rfl := Subsingleton.elim l 0
  unfold piece1
  dsimp only
  refine (keep64_at _ a b).trans ?_
  refine Eq.trans ?_ (natural_fst a1 a2 _ (Fin.isLt _) (Fin.isLt _) (Fin.isLt _) rfl).symm
  refine congrArg a1 ?_
  funext d; apply Fin.ext
  match d with
  | ⟨0, _⟩ => rfl
  | ⟨1, _⟩ => show r + 1 * 0 = (r + 4 * a.val) % 4; omega
  | ⟨2, _⟩ => show 0 + 1 * a.val = (r + 4 * a.val) / 4; omega
  | ⟨3, _⟩ => show c * 128 + 1 * b.val = (c + 1 * 0) * 128 + (0 + 1 * b.val); omega

theorem piece1_mem (a1 : FVec Ideal S1x4x64x640 .f32) (r c o : ℕ) (hr : r < 4) (hc : c < 5) (ho : o + 128 ≤ 640) (y : S2x5x256x128.Idx)
    (h0 : (y 0).val = 0) (h1 : (y 1).val = c) (h2 : (y 2).val % 4 = r) : y ∈ (piece1 a1 r c o hr hc ho).1.set := by
  have h : (y 2).val < 256 := (y 2).isLt
  have e : (piece1 a1 r c o hr hc ho).1.emb (ix4 (0 : Fin 1) (0 : Fin 1) (⟨(y 2).val / 4, by omega⟩ : Fin 64) (⟨(y 3).val, (y 3).isLt⟩ : Fin 128)) = y := by
    funext d; apply Fin.ext
    match d with
    | ⟨0, _⟩ => show 0 + 1 * 0 = (y 0).val; omega
    | ⟨1, _⟩ => show c + 1 * 0 = (y 1).val; omega
    | ⟨2, _⟩ => show r + 4 * ((y 2).val / 4) = (y 2).val; omega
    | ⟨3, _⟩ => show 0 + 1 * (y 3).val = (y 3).val; omega
  rw [← e]
  exact LoadRect.idx_mem _ _

/-- The stores of the first `n` row sets of the second group, the last store first. -/
def stores1 (a1 : FVec Ideal S1x4x64x640 .f32) : (n : ℕ) → n ≤ 4 → List (View.Piece (Elt Ideal) S2x5x256x128 .f32)
  | 0, _ => []
  | r + 1, hr => piece1 a1 r 4 512 hr (by omega) (by omega) :: piece1 a1 r 3 384 hr (by omega) (by omega) :: piece1 a1 r 2 256 hr (by omega) (by omega)
      :: piece1 a1 r 1 128 hr (by omega) (by omega) :: piece1 a1 r 0 0 hr (by omega) (by omega) :: stores1 a1 r (by omega)

theorem stores1_all (a1 : FVec Ideal S1x4x64x640 .f32) (a2 : FVec Ideal S1x16x16x640 .f32) (y : S2x5x256x128.Idx) (n : ℕ) (hn : n ≤ 4) :
    View.AllAt (stores1 a1 n hn) y (natural a1 a2 y) := by
  induction n with
  | zero => exact View.allAt_nil _ _
  | succ r ih =>
    rw [stores1]
    intro p hp
    obtain rfl | hp := List.mem_cons.mp hp
    · exact piece1_at a1 a2 r 4 512 _ _ _ rfl y
    obtain rfl | hp := List.mem_cons.mp hp
    · exact piece1_at a1 a2 r 3 384 _ _ _ rfl y
    obtain rfl | hp := List.mem_cons.mp hp
    · exact piece1_at a1 a2 r 2 256 _ _ _ rfl y
    obtain rfl | hp := List.mem_cons.mp hp
    · exact piece1_at a1 a2 r 1 128 _ _ _ rfl y
    obtain rfl | hp := List.mem_cons.mp hp
    · exact piece1_at a1 a2 r 0 0 _ _ _ rfl y
    · exact ih _ p hp

theorem stores1_cover (a1 : FVec Ideal S1x4x64x640 .f32) (y : S2x5x256x128.Idx) (h0 : (y 0).val = 0) (n : ℕ) (hn : n ≤ 4) (h2 : (y 2).val % 4 < n) :
    ∃ p ∈ stores1 a1 n hn, y ∈ p.1.set := by
  induction n with
  | zero => exact absurd h2 (Nat.not_lt_zero _)
  | succ r ih =>
    have h1 : (y 1).val < 5 := (y 1).isLt
    rw [stores1]
    by_cases e : (y 2).val % 4 = r
    · obtain q | q | q | q | q : (y 1).val = 4 ∨ (y 1).val = 3 ∨ (y 1).val = 2 ∨ (y 1).val = 1 ∨ (y 1).val = 0 := by omega
      · exact ⟨_, List.mem_cons_self, piece1_mem a1 r 4 512 _ _ _ y h0 q e⟩
      · exact ⟨_, .tail _ List.mem_cons_self, piece1_mem a1 r 3 384 _ _ _ y h0 q e⟩
      · exact ⟨_, .tail _ (.tail _ List.mem_cons_self), piece1_mem a1 r 2 256 _ _ _ y h0 q e⟩
      · exact ⟨_, .tail _ (.tail _ (.tail _ List.mem_cons_self)), piece1_mem a1 r 1 128 _ _ _ y h0 q e⟩
      · exact ⟨_, .tail _ (.tail _ (.tail _ (.tail _ List.mem_cons_self))), piece1_mem a1 r 0 0 _ _ _ y h0 q e⟩
    · obtain ⟨p, hp, hy⟩ := ih (by omega) (by omega)
      exact ⟨p, .tail _ (.tail _ (.tail _ (.tail _ (.tail _ hp)))), hy⟩

/-- Row set `r` and columns `c` of the third group, as the body stores them. -/
def piece2 (a2 : FVec Ideal S1x16x16x640 .f32) (r c o : ℕ) (hr : r < 16) (hc : c < 5) (ho : o + 128 ≤ 640) : View.Piece (Elt Ideal) S2x5x256x128 .f32 :=
  ⟨{ off := ![1, c, r, 0], size := ![1, 1, 16, 128], stride := ![1, 1, 16, 1],
      inb := (fun d => match d with
        | ⟨0, _⟩ => .inr (show 1 + 1 * 0 < 2 by omega) | ⟨1, _⟩ => .inr (show c + 1 * 0 < 5 by omega)
        | ⟨2, _⟩ => .inr (show r + 16 * 15 < 256 by omega) | ⟨3, _⟩ => .inr (show 0 + 1 * 127 < 128 by omega)),
      stride_pos := (fun d => match d with
        | ⟨0, _⟩ => Nat.one_pos | ⟨1, _⟩ => Nat.one_pos | ⟨2, _⟩ => Nat.succ_pos _ | ⟨3, _⟩ => Nat.one_pos) },
    shapeCast S1x1x16x128 (shapeCast S16x128 (View.ld (Val := Elt Ideal) (e' := .f32) a2 (Rect.unit (s := S1x16x16x640) ![0, r, 0, o] ![1, 1, 16, 128] (fun d => match d with
        | ⟨0, _⟩ => le_refl 1 | ⟨1, _⟩ => hr | ⟨2, _⟩ => le_refl 16 | ⟨3, _⟩ => ho)))
      shapeCasts_S1x1x16x128_S16x128 : FVec Ideal S16x128 .f32) shapeCasts_S16x128_S1x1x16x128⟩

theorem keep16_at (P : FVec Ideal S1x1x16x128 .f32) (a : Fin 16) (b : Fin 128) :
    shapeCast S1x1x16x128 (shapeCast S16x128 P shapeCasts_S1x1x16x128_S16x128 : FVec Ideal S16x128 .f32) shapeCasts_S16x128_S1x1x16x128 (ix4 0 0 a b) = P (ix4 0 0 a b) := by
  pointwise []

theorem piece2_at (a1 : FVec Ideal S1x4x64x640 .f32) (a2 : FVec Ideal S1x16x16x640 .f32) (r c o : ℕ) (hr : r < 16) (hc : c < 5) (ho : o + 128 ≤ 640) (e : o = c * 128)
    (y : S2x5x256x128.Idx) : View.RectAt y (piece2 a2 r c o hr hc ho).1 (piece2 a2 r c o hr hc ho).2 (natural a1 a2 y) := by
  intro x hx
  subst hx e
  obtain ⟨k, l, a, b, rfl⟩ : ∃ (k l : Fin 1) (a : Fin 16) (b : Fin 128), x = ix4 k l a b :=
    ⟨x 0, x 1, x 2, x 3, by funext d; match d with | ⟨0, _⟩ => rfl | ⟨1, _⟩ => rfl | ⟨2, _⟩ => rfl | ⟨3, _⟩ => rfl⟩
  obtain rfl := Subsingleton.elim k 0
  obtain rfl := Subsingleton.elim l 0
  unfold piece2
  dsimp only
  refine (keep16_at _ a b).trans ?_
  refine Eq.trans ?_ (natural_snd a1 a2 _ (Fin.isLt _) (Fin.isLt _) (Fin.isLt _) Nat.one_ne_zero).symm
  refine congrArg a2 ?_
  funext d; apply Fin.ext
  match d with
  | ⟨0, _⟩ => rfl
  | ⟨1, _⟩ => show r + 1 * 0 = (r + 16 * a.val) % 16; omega
  | ⟨2, _⟩ => show 0 + 1 * a.val = (r + 16 * a.val) / 16; omega
  | ⟨3, _⟩ => show c * 128 + 1 * b.val = (c + 1 * 0) * 128 + (0 + 1 * b.val); omega

theorem piece2_mem (a2 : FVec Ideal S1x16x16x640 .f32) (r c o : ℕ) (hr : r < 16) (hc : c < 5) (ho : o + 128 ≤ 640) (y : S2x5x256x128.Idx)
    (h0 : (y 0).val = 1) (h1 : (y 1).val = c) (h2 : (y 2).val % 16 = r) : y ∈ (piece2 a2 r c o hr hc ho).1.set := by
  have h : (y 2).val < 256 := (y 2).isLt
  have e : (piece2 a2 r c o hr hc ho).1.emb (ix4 (0 : Fin 1) (0 : Fin 1) (⟨(y 2).val / 16, by omega⟩ : Fin 16) (⟨(y 3).val, (y 3).isLt⟩ : Fin 128)) = y := by
    funext d; apply Fin.ext
    match d with
    | ⟨0, _⟩ => show 1 + 1 * 0 = (y 0).val; omega
    | ⟨1, _⟩ => show c + 1 * 0 = (y 1).val; omega
    | ⟨2, _⟩ => show r + 16 * ((y 2).val / 16) = (y 2).val; omega
    | ⟨3, _⟩ => show 0 + 1 * (y 3).val = (y 3).val; omega
  rw [← e]
  exact LoadRect.idx_mem _ _

/-- The stores of the first `n` row sets of the third group, the last store first, over what was stored before. -/
def stores2 (a1 : FVec Ideal S1x4x64x640 .f32) (a2 : FVec Ideal S1x16x16x640 .f32) : (n : ℕ) → n ≤ 16 → List (View.Piece (Elt Ideal) S2x5x256x128 .f32)
  | 0, _ => stores1 a1 4 (le_refl 4)
  | r + 1, hr => piece2 a2 r 4 512 hr (by omega) (by omega) :: piece2 a2 r 3 384 hr (by omega) (by omega) :: piece2 a2 r 2 256 hr (by omega) (by omega)
      :: piece2 a2 r 1 128 hr (by omega) (by omega) :: piece2 a2 r 0 0 hr (by omega) (by omega) :: stores2 a1 a2 r (by omega)

theorem stores2_all (a1 : FVec Ideal S1x4x64x640 .f32) (a2 : FVec Ideal S1x16x16x640 .f32) (y : S2x5x256x128.Idx) (n : ℕ) (hn : n ≤ 16) :
    View.AllAt (stores2 a1 a2 n hn) y (natural a1 a2 y) := by
  induction n with
  | zero => exact stores1_all a1 a2 y 4 (le_refl 4)
  | succ r ih =>
    rw [stores2]
    intro p hp
    obtain rfl | hp := List.mem_cons.mp hp
    · exact piece2_at a1 a2 r 4 512 _ _ _ rfl y
    obtain rfl | hp := List.mem_cons.mp hp
    · exact piece2_at a1 a2 r 3 384 _ _ _ rfl y
    obtain rfl | hp := List.mem_cons.mp hp
    · exact piece2_at a1 a2 r 2 256 _ _ _ rfl y
    obtain rfl | hp := List.mem_cons.mp hp
    · exact piece2_at a1 a2 r 1 128 _ _ _ rfl y
    obtain rfl | hp := List.mem_cons.mp hp
    · exact piece2_at a1 a2 r 0 0 _ _ _ rfl y
    · exact ih _ p hp

theorem stores2_cover (a1 : FVec Ideal S1x4x64x640 .f32) (a2 : FVec Ideal S1x16x16x640 .f32) (y : S2x5x256x128.Idx) (h0 : (y 0).val = 1) (n : ℕ) (hn : n ≤ 16) (h2 : (y 2).val % 16 < n) :
    ∃ p ∈ stores2 a1 a2 n hn, y ∈ p.1.set := by
  induction n with
  | zero => exact absurd h2 (Nat.not_lt_zero _)
  | succ r ih =>
    have h1 : (y 1).val < 5 := (y 1).isLt
    rw [stores2]
    by_cases e : (y 2).val % 16 = r
    · obtain q | q | q | q | q : (y 1).val = 4 ∨ (y 1).val = 3 ∨ (y 1).val = 2 ∨ (y 1).val = 1 ∨ (y 1).val = 0 := by omega
      · exact ⟨_, List.mem_cons_self, piece2_mem a2 r 4 512 _ _ _ y h0 q e⟩
      · exact ⟨_, .tail _ List.mem_cons_self, piece2_mem a2 r 3 384 _ _ _ y h0 q e⟩
      · exact ⟨_, .tail _ (.tail _ List.mem_cons_self), piece2_mem a2 r 2 256 _ _ _ y h0 q e⟩
      · exact ⟨_, .tail _ (.tail _ (.tail _ List.mem_cons_self)), piece2_mem a2 r 1 128 _ _ _ y h0 q e⟩
      · exact ⟨_, .tail _ (.tail _ (.tail _ (.tail _ List.mem_cons_self))), piece2_mem a2 r 0 0 _ _ _ y h0 q e⟩
    · obtain ⟨p, hp, hy⟩ := ih (by omega) (by omega)
      exact ⟨p, .tail _ (.tail _ (.tail _ (.tail _ (.tail _ hp)))), hy⟩

theorem stores1_sub (a1 : FVec Ideal S1x4x64x640 .f32) (a2 : FVec Ideal S1x16x16x640 .f32) (p : View.Piece (Elt Ideal) S2x5x256x128 .f32)
    (hp : p ∈ stores1 a1 4 (le_refl 4)) (n : ℕ) (hn : n ≤ 16) : p ∈ stores2 a1 a2 n hn := by
  induction n with
  | zero => exact hp
  | succ r ih =>
    rw [stores2]
    exact .tail _ (.tail _ (.tail _ (.tail _ (.tail _ (ih _)))))

theorem naturals (a1 : FVec Ideal S1x4x64x640 .f32) (a2 : FVec Ideal S1x16x16x640 .f32) (y : S2x5x256x128.Idx) :
    View.canon (stores2 a1 a2 16 (le_refl 16)) y = natural a1 a2 y := by
  have h0 : (y 0).val < 2 := (y 0).isLt
  refine View.canon_eq_of_allAt _ y _ ?_ (stores2_all a1 a2 y 16 _)
  obtain h | h : (y 0).val = 0 ∨ (y 0).val = 1 := by omega
  · obtain ⟨p, hp, hy⟩ := stores1_cover a1 y h 4 (le_refl 4) (Nat.mod_lt _ (by omega))
    exact ⟨p, stores1_sub a1 a2 p hp 16 _, hy⟩
  · exact stores2_cover a1 a2 y h 16 (le_refl 16) (Nat.mod_lt _ (by omega))

/-! ### The mixed heads -/

/-- The mixed heads of a block's row. -/
def heads (a0 : FVec Ideal S256x640 .f32) (a1 : FVec Ideal S1x4x64x640 .f32) (a2 : FVec Ideal S1x16x16x640 .f32) (a : Fin 256) (j : Fin 512) : EReal :=
  Mix.mix (Mix.by3 (a0 (ix2 a ⟨512 + j / 128 * 32, by omega⟩)) (a1 (ix4 0 ⟨a % 4, by omega⟩ ⟨a / 4, by omega⟩ ⟨512 + j / 128 * 32, by omega⟩))
      (a2 (ix4 0 ⟨a % 16, by omega⟩ ⟨a / 16, by omega⟩ ⟨512 + j / 128 * 32, by omega⟩)))
    (Mix.by3 (a0 (ix2 a ⟨j, by omega⟩)) (a1 (ix4 0 ⟨a % 4, by omega⟩ ⟨a / 4, by omega⟩ ⟨j, by omega⟩))
      (a2 (ix4 0 ⟨a % 16, by omega⟩ ⟨a / 16, by omega⟩ ⟨j, by omega⟩)))

theorem load_at (a1 : FVec Ideal S1x4x64x640 .f32) (a2 : FVec Ideal S1x16x16x640 .f32) (g : Fin 2) (c o n : ℕ) (inb : ∀ d, (![g.val, c, 0, o] : Fin 4 → ℕ) d + (![1, 1, 256, n] : Fin 4 → ℕ) d ≤ S2x5x256x128.size d)
    (a : Fin 256) (b : Fin n) (q : Fin 640) (hq : q.val = c * 128 + (o + b)) :
    (View.whole cc0_scratch1).readCov (stores2 a1 a2 16 (le_refl 16)) (Rect.unit (s := S2x5x256x128) ![g.val, c, 0, o] ![1, 1, 256, n] inb).toLoadRect (ix4 (0 : Fin 1) (0 : Fin 1) a b)
      = if g.val = 0 then a1 (ix4 0 ⟨a % 4, by omega⟩ ⟨a / 4, by omega⟩ q) else a2 (ix4 0 ⟨a % 16, by omega⟩ ⟨a / 16, by omega⟩ q) := by
  rw [View.readCov_eq_canon']
  refine (naturals a1 a2 _).trans ?_
  refine if_congr (by show g.val + 1 * 0 = 0 ↔ g.val = 0; omega) (congrArg a1 ?_) (congrArg a2 ?_)
  · funext d; apply Fin.ext
    match d with
    | ⟨0, _⟩ => rfl
    | ⟨1, _⟩ => show (0 + 1 * a.val) % 4 = a.val % 4; omega
    | ⟨2, _⟩ => show (0 + 1 * a.val) / 4 = a.val / 4; omega
    | ⟨3, _⟩ => show (c + 1 * 0) * 128 + (o + 1 * b.val) = q.val; omega
  · funext d; apply Fin.ext
    match d with
    | ⟨0, _⟩ => rfl
    | ⟨1, _⟩ => show (0 + 1 * a.val) % 16 = a.val % 16; omega
    | ⟨2, _⟩ => show (0 + 1 * a.val) / 16 = a.val / 16; omega
    | ⟨3, _⟩ => show (c + 1 * 0) * 128 + (o + 1 * b.val) = q.val; omega

theorem by3_congr {x y z x' y' z' : EReal} (hx : x = x') (hy : y = y') (hz : z = z') : Mix.by3 x y z = Mix.by3 x' y' z' := by
  rw [hx, hy, hz]

theorem head_at (a0 : FVec Ideal S256x640 .f32) (a1 : FVec Ideal S1x4x64x640 .f32) (a2 : FVec Ideal S1x16x16x640 .f32) (c o o' o'' : ℕ)
    (i0 : ∀ d, (![0, o'] : Fin 2 → ℕ) d + (![256, 1] : Fin 2 → ℕ) d ≤ S256x640.size d)
    (i1 : ∀ d, (![0, 4, 0, o] : Fin 4 → ℕ) d + (![1, 1, 256, 1] : Fin 4 → ℕ) d ≤ S2x5x256x128.size d)
    (i2 : ∀ d, (![1, 4, 0, o] : Fin 4 → ℕ) d + (![1, 1, 256, 1] : Fin 4 → ℕ) d ≤ S2x5x256x128.size d)
    (j0 : ∀ d, (![0, o''] : Fin 2 → ℕ) d + (![256, 128] : Fin 2 → ℕ) d ≤ S256x640.size d)
    (j1 : ∀ d, (![0, c, 0, 0] : Fin 4 → ℕ) d + (![1, 1, 256, 128] : Fin 4 → ℕ) d ≤ S2x5x256x128.size d)
    (j2 : ∀ d, (![1, c, 0, 0] : Fin 4 → ℕ) d + (![1, 1, 256, 128] : Fin 4 → ℕ) d ≤ S2x5x256x128.size d)
    (x : S256x128.Idx) (y : S256x512.Idx) (h0 : (y 0).val = (x 0).val) (h1 : (y 1).val = c * 128 + (x 1).val) (e : o = c * 32) (e' : o' = 512 + c * 32) (e'' : o'' = c * 128) :
    blend (View.ld (Val := Elt Ideal) (e' := .f32) a0 (Rect.unit (s := S256x640) ![0, o'] ![256, 1] i0))
      ((View.whole cc0_scratch1).readCov (stores2 a1 a2 16 (le_refl 16)) (Rect.unit (s := S2x5x256x128) ![0, 4, 0, o] ![1, 1, 256, 1] i1).toLoadRect)
      ((View.whole cc0_scratch1).readCov (stores2 a1 a2 16 (le_refl 16)) (Rect.unit (s := S2x5x256x128) ![1, 4, 0, o] ![1, 1, 256, 1] i2).toLoadRect)
      (View.ld (Val := Elt Ideal) (e' := .f32) a0 (Rect.unit (s := S256x640) ![0, o''] ![256, 128] j0))
      ((View.whole cc0_scratch1).readCov (stores2 a1 a2 16 (le_refl 16)) (Rect.unit (s := S2x5x256x128) ![0, c, 0, 0] ![1, 1, 256, 128] j1).toLoadRect)
      ((View.whole cc0_scratch1).readCov (stores2 a1 a2 16 (le_refl 16)) (Rect.unit (s := S2x5x256x128) ![1, c, 0, 0] ![1, 1, 256, 128] j2).toLoadRect) x
      = heads a0 a1 a2 (y 0) (y 1) := by
  obtain ⟨a, b, rfl⟩ : ∃ (a : Fin 256) (b : Fin 128), x = ix2 a b := ⟨x 0, x 1, by funext d; match d with | ⟨0, _⟩ => rfl | ⟨1, _⟩ => rfl⟩
  obtain ⟨a', j, rfl⟩ : ∃ (a' : Fin 256) (j : Fin 512), y = ix2 a' j := ⟨y 0, y 1, by funext d; match d with | ⟨0, _⟩ => rfl | ⟨1, _⟩ => rfl⟩
  obtain rfl : a' = a := Fin.ext h0
  have h1 : j.val = c * 128 + b.val := h1
  have hb := b.isLt
  refine (blend_at _ _ _ _ _ _ a' b).trans ?_
  show _ = heads a0 a1 a2 a' j
  unfold heads
  refine congrArg₂ Mix.mix (by3_congr ?_ ?_ ?_) (by3_congr ?_ ?_ ?_)
  · refine congrArg a0 ?_
    funext d; apply Fin.ext
    match d with
    | ⟨0, _⟩ => show 0 + 1 * a'.val = a'.val; omega
    | ⟨1, _⟩ => show o' + 1 * 0 = 512 + j.val / 128 * 32; omega
  · exact (load_at a1 a2 0 4 o 1 i1 a' 0 ⟨512 + j / 128 * 32, by omega⟩ (by show 512 + j.val / 128 * 32 = 4 * 128 + (o + 0); omega)).trans (if_pos rfl)
  · exact (load_at a1 a2 1 4 o 1 i2 a' 0 ⟨512 + j / 128 * 32, by omega⟩ (by show 512 + j.val / 128 * 32 = 4 * 128 + (o + 0); omega)).trans (if_neg Nat.one_ne_zero)
  · refine congrArg a0 ?_
    funext d; apply Fin.ext
    match d with
    | ⟨0, _⟩ => show 0 + 1 * a'.val = a'.val; omega
    | ⟨1, _⟩ => show o'' + 1 * b.val = j.val; omega
  · exact (load_at a1 a2 0 c 0 128 j1 a' b ⟨j, by omega⟩ (by show j.val = c * 128 + (0 + b.val); omega)).trans (if_pos rfl)
  · exact (load_at a1 a2 1 c 0 128 j2 a' b ⟨j, by omega⟩ (by show j.val = c * 128 + (0 + b.val); omega)).trans (if_neg Nat.one_ne_zero)

variable (m : (ℓ : Loc nD τ sig) → Buf (Elt Ideal) ℓ) (ρ : Dev nD → PrngReg)

/-! ### The arguments -/

abbrev near (c : Dev nD) : S4x1x4096x640.Idx → EReal := m ((c : Thread nD τ).loc main_arg0)
abbrev mid (c : Dev nD) : S4x4x1024x640.Idx → EReal := m ((c : Thread nD τ).loc main_arg1)
abbrev far (c : Dev nD) : S4x16x256x640.Idx → EReal := m ((c : Thread nD τ).loc main_arg2)
abbrev state (c : Dev nD) : S16384x1024.Idx → EReal := m ((c : Thread nD τ).loc main_arg3)
abbrev proj (c : Dev nD) : S16384x8192.Idx → EReal := m ((c : Thread nD τ).loc main_arg4)
abbrev wAtt (c : Dev nD) : S512x2048.Idx → EReal := m ((c : Thread nD τ).loc main_arg5)
abbrev wRec (c : Dev nD) : S1024x2048.Idx → EReal := m ((c : Thread nD τ).loc main_arg6)

/-- A token's mixed heads. -/
def mixed (c : Dev nD) (p : Fin 16384) (j : Fin 512) : EReal :=
  Mix.mix
    (Mix.by3 (near m c (ix4 ⟨p / 4096, by omega⟩ 0 ⟨p % 4096, by omega⟩ ⟨512 + j / 128 * 32, by omega⟩))
      (mid m c (ix4 ⟨p / 4096, by omega⟩ ⟨p % 4096 % 4, by omega⟩ ⟨p % 4096 / 4, by omega⟩ ⟨512 + j / 128 * 32, by omega⟩))
      (far m c (ix4 ⟨p / 4096, by omega⟩ ⟨p % 4096 % 16, by omega⟩ ⟨p % 4096 / 16, by omega⟩ ⟨512 + j / 128 * 32, by omega⟩)))
    (Mix.by3 (near m c (ix4 ⟨p / 4096, by omega⟩ 0 ⟨p % 4096, by omega⟩ ⟨j, by omega⟩))
      (mid m c (ix4 ⟨p / 4096, by omega⟩ ⟨p % 4096 % 4, by omega⟩ ⟨p % 4096 / 4, by omega⟩ ⟨j, by omega⟩))
      (far m c (ix4 ⟨p / 4096, by omega⟩ ⟨p % 4096 % 16, by omega⟩ ⟨p % 4096 / 16, by omega⟩ ⟨j, by omega⟩)))

/-- The whole result. -/
def whole (c : Dev nD) : S16384x2048.Idx → EReal := fun i =>
  have h : (i 1).val < 2048 := (i 1).isLt
  Ideal.logistic (proj m c (ix2 (i 0) ⟨4096 + (i 1).val, by omega⟩)) * (∑ j, mixed m c (i 0) j * wAtt m c (ix2 j (i 1)))
    + Ideal.logistic (proj m c (ix2 (i 0) ⟨6144 + (i 1).val, by omega⟩)) * (∑ j, state m c (ix2 (i 0) j) * wRec m c (ix2 j (i 1)))

theorem whole_at (c : Dev nD) (p : Fin 16384) (k : Fin 2048) : whole m c (ix2 p k)
    = Ideal.logistic (proj m c (ix2 p ⟨4096 + k, by omega⟩)) * (∑ j, mixed m c p j * wAtt m c (ix2 j k))
      + Ideal.logistic (proj m c (ix2 p ⟨6144 + k, by omega⟩)) * (∑ j, state m c (ix2 p j) * wRec m c (ix2 j k)) := rfl

/-! ### The blocks -/

theorem pos : ∀ t : Fin cfg0.N, t.val < 64
    ∧ (win0_0.index t 0 = t.val ∧ win0_0.index t 1 = 0)
    ∧ (win0_1.index t 0 = t.val / 16 ∧ win0_1.index t 1 = 0 ∧ win0_1.index t 2 = t.val % 16 ∧ win0_1.index t 3 = 0)
    ∧ (win0_2.index t 0 = t.val / 16 ∧ win0_2.index t 1 = 0 ∧ win0_2.index t 2 = t.val % 16 ∧ win0_2.index t 3 = 0)
    ∧ (win0_3.index t 0 = t.val ∧ win0_3.index t 1 = 0) ∧ (win0_4.index t 0 = t.val ∧ win0_4.index t 1 = 2) ∧ (win0_5.index t 0 = t.val ∧ win0_5.index t 1 = 3)
    ∧ (win0_6.index t 0 = 0 ∧ win0_6.index t 1 = 0) ∧ (win0_7.index t 0 = 0 ∧ win0_7.index t 1 = 0)
    ∧ (win0_8.index t 0 = t.val ∧ win0_8.index t 1 = 0) := by
  decide +kernel

theorem near_at (c : Dev nD) (p : Fin 16384) (k : Fin 640) : V m c main_v2 (ix2 p k) = near m c (ix4 ⟨p / 4096, by omega⟩ 0 ⟨p % 4096, by omega⟩ k) := by
  unfold V
  after_reads_at

theorem wAtt_at (c : Dev nD) (j : Fin 512) (k : Fin 2048) : V m c main_v0 (ix2 j k) = wAtt m c (ix2 j k) := by
  unfold V
  after_reads_at

theorem wRec_at (c : Dev nD) (j : Fin 1024) (k : Fin 2048) : V m c main_v1 (ix2 j k) = wRec m c (ix2 j k) := by
  unfold V
  after_reads_at

/-- The token of a block's row. -/
def tok (t : Fin cfg0.N) (a : Fin 256) : Fin 16384 := ⟨256 * t.val + a, by have := (pos t).1; omega⟩

theorem near_blk (c : Dev nD) (t : Fin cfg0.N) (a : Fin 256) (k : Fin 640) : iblk m c 0 t (ix2 a k)
    = near m c (ix4 ⟨(tok t a).val / 4096, by omega⟩ 0 ⟨(tok t a).val % 4096, by omega⟩ k) := by
  obtain ⟨h0, h1⟩ := (pos t).2.1
  refine (congrArg (V m c main_v2) (?_ : _ = ix2 (tok t a) k)).trans (near_at m c _ _)
  funext d; apply Fin.ext
  match d with
  | ⟨0, _⟩ => show win0_0.index t 0 * 256 + 1 * a.val = 256 * t.val + a; omega
  | ⟨1, _⟩ => show win0_0.index t 1 * 640 + 1 * k.val = k; omega

theorem mid_blk (c : Dev nD) (t : Fin cfg0.N) (a : Fin 256) (k : Fin 640) : iblk m c 1 t (ix4 0 ⟨a % 4, by omega⟩ ⟨a / 4, by omega⟩ k)
    = mid m c (ix4 ⟨(tok t a).val / 4096, by omega⟩ ⟨(tok t a).val % 4096 % 4, by omega⟩ ⟨(tok t a).val % 4096 / 4, by omega⟩ k) := by
  obtain ⟨h0, h1, h2, h3⟩ := (pos t).2.2.1
  refine (congrArg (V m c main_arg1) (?_ : _ = ix4 ⟨(tok t a).val / 4096, by omega⟩ ⟨(tok t a).val % 4096 % 4, by omega⟩ ⟨(tok t a).val % 4096 / 4, by omega⟩ k)).trans (congrFun (V_main_arg1 m c) _)
  funext d; apply Fin.ext
  match d with
  | ⟨0, _⟩ => show win0_1.index t 0 * 1 + 1 * 0 = (256 * t.val + a.val) / 4096; omega
  | ⟨1, _⟩ => show win0_1.index t 1 * 4 + 1 * (a.val % 4) = (256 * t.val + a.val) % 4096 % 4; omega
  | ⟨2, _⟩ => show win0_1.index t 2 * 64 + 1 * (a.val / 4) = (256 * t.val + a.val) % 4096 / 4; omega
  | ⟨3, _⟩ => show win0_1.index t 3 * 640 + 1 * k.val = k; omega

theorem far_blk (c : Dev nD) (t : Fin cfg0.N) (a : Fin 256) (k : Fin 640) : iblk m c 2 t (ix4 0 ⟨a % 16, by omega⟩ ⟨a / 16, by omega⟩ k)
    = far m c (ix4 ⟨(tok t a).val / 4096, by omega⟩ ⟨(tok t a).val % 4096 % 16, by omega⟩ ⟨(tok t a).val % 4096 / 16, by omega⟩ k) := by
  obtain ⟨h0, h1, h2, h3⟩ := (pos t).2.2.2.1
  refine (congrArg (V m c main_arg2) (?_ : _ = ix4 ⟨(tok t a).val / 4096, by omega⟩ ⟨(tok t a).val % 4096 % 16, by omega⟩ ⟨(tok t a).val % 4096 / 16, by omega⟩ k)).trans (congrFun (V_main_arg2 m c) _)
  funext d; apply Fin.ext
  match d with
  | ⟨0, _⟩ => show win0_2.index t 0 * 1 + 1 * 0 = (256 * t.val + a.val) / 4096; omega
  | ⟨1, _⟩ => show win0_2.index t 1 * 16 + 1 * (a.val % 16) = (256 * t.val + a.val) % 4096 % 16; omega
  | ⟨2, _⟩ => show win0_2.index t 2 * 16 + 1 * (a.val / 16) = (256 * t.val + a.val) % 4096 / 16; omega
  | ⟨3, _⟩ => show win0_2.index t 3 * 640 + 1 * k.val = k; omega

theorem rec_blk (c : Dev nD) (t : Fin cfg0.N) (a : Fin 256) (k : Fin 1024) : iblk m c 3 t (ix2 a k) = state m c (ix2 (tok t a) k) := by
  obtain ⟨h0, h1⟩ := (pos t).2.2.2.2.1
  refine (congrArg (V m c main_arg3) (?_ : _ = ix2 (tok t a) k)).trans (congrFun (V_main_arg3 m c) _)
  funext d; apply Fin.ext
  match d with
  | ⟨0, _⟩ => show win0_3.index t 0 * 256 + 1 * a.val = 256 * t.val + a; omega
  | ⟨1, _⟩ => show win0_3.index t 1 * 1024 + 1 * k.val = k; omega

theorem gateAtt_blk (c : Dev nD) (t : Fin cfg0.N) (a : Fin 256) (k : Fin 2048) : iblk m c 4 t (ix2 a k) = proj m c (ix2 (tok t a) ⟨4096 + k, by omega⟩) := by
  obtain ⟨h0, h1⟩ := (pos t).2.2.2.2.2.1
  refine (congrArg (V m c main_arg4) (?_ : _ = ix2 (tok t a) ⟨4096 + k, by omega⟩)).trans (congrFun (V_main_arg4 m c) _)
  funext d; apply Fin.ext
  match d with
  | ⟨0, _⟩ => show win0_4.index t 0 * 256 + 1 * a.val = 256 * t.val + a; omega
  | ⟨1, _⟩ => show win0_4.index t 1 * 2048 + 1 * k.val = 4096 + k; omega

theorem gateRec_blk (c : Dev nD) (t : Fin cfg0.N) (a : Fin 256) (k : Fin 2048) : iblk m c 5 t (ix2 a k) = proj m c (ix2 (tok t a) ⟨6144 + k, by omega⟩) := by
  obtain ⟨h0, h1⟩ := (pos t).2.2.2.2.2.2.1
  refine (congrArg (V m c main_arg4) (?_ : _ = ix2 (tok t a) ⟨6144 + k, by omega⟩)).trans (congrFun (V_main_arg4 m c) _)
  funext d; apply Fin.ext
  match d with
  | ⟨0, _⟩ => show win0_5.index t 0 * 256 + 1 * a.val = 256 * t.val + a; omega
  | ⟨1, _⟩ => show win0_5.index t 1 * 2048 + 1 * k.val = 6144 + k; omega

theorem wAtt_blk (c : Dev nD) (t : Fin cfg0.N) (j : Fin 512) (k : Fin 2048) : iblk m c 6 t (ix2 j k) = wAtt m c (ix2 j k) := by
  obtain ⟨h0, h1⟩ := (pos t).2.2.2.2.2.2.2.1
  refine (congrArg (V m c main_v0) (?_ : _ = ix2 j k)).trans (wAtt_at m c _ _)
  funext d; apply Fin.ext
  match d with
  | ⟨0, _⟩ => show win0_6.index t 0 * 512 + 1 * j.val = j; omega
  | ⟨1, _⟩ => show win0_6.index t 1 * 2048 + 1 * k.val = k; omega

theorem wRec_blk (c : Dev nD) (t : Fin cfg0.N) (j : Fin 1024) (k : Fin 2048) : iblk m c 7 t (ix2 j k) = wRec m c (ix2 j k) := by
  obtain ⟨h0, h1⟩ := (pos t).2.2.2.2.2.2.2.2.1
  refine (congrArg (V m c main_v1) (?_ : _ = ix2 j k)).trans (wRec_at m c _ _)
  funext d; apply Fin.ext
  match d with
  | ⟨0, _⟩ => show win0_7.index t 0 * 1024 + 1 * j.val = j; omega
  | ⟨1, _⟩ => show win0_7.index t 1 * 2048 + 1 * k.val = k; omega

theorem heads_blk (c : Dev nD) (t : Fin cfg0.N) (a : Fin 256) (j : Fin 512) : heads (iblk m c 0 t) (iblk m c 1 t) (iblk m c 2 t) a j = mixed m c (tok t a) j := by
  unfold heads mixed
  refine congrArg₂ Mix.mix (by3_congr (near_blk m c t a _) (mid_blk m c t a _) (far_blk m c t a _)) (by3_congr (near_blk m c t a _) (mid_blk m c t a _) (far_blk m c t a _))

/-! ### What a grid point leaves -/

/-- A block's result at a row and a column. -/
def point (a0 : FVec Ideal S256x640 .f32) (a1 : FVec Ideal S1x4x64x640 .f32) (a2 : FVec Ideal S1x16x16x640 .f32) (a3 : FVec Ideal S256x1024 .bf16)
    (a4 a5 : FVec Ideal S256x2048 .bf16) (a6 : FVec Ideal S512x2048 .bf16) (a7 : FVec Ideal S1024x2048 .bf16) (a : Fin 256) (k : Fin 2048) : EReal :=
  Ideal.logistic (a4 (ix2 a k)) * (∑ j, heads a0 a1 a2 a j * a6 (ix2 j k)) + Ideal.logistic (a5 (ix2 a k)) * (∑ i, a3 (ix2 a i) * a7 (ix2 i k))

set_option maxHeartbeats 0 in
theorem out_at (c : Dev nD) (t : Fin cfg0.N) (a : Fin 256) (k : Fin 2048) : outsAt0 m c t (ix2 a k)
    = point (iblk m c 0 t) (iblk m c 1 t) (iblk m c 2 t) (iblk m c 3 t) (iblk m c 4 t) (iblk m c 5 t) (iblk m c 6 t) (iblk m c 7 t) a k := by
  unfold outsAt0
  frame_out
  generalize iblk m c 0 t = a0
  generalize iblk m c 1 t = a1
  generalize iblk m c 2 t = a2
  generalize iblk m c 3 t = a3
  generalize iblk m c 4 t = a4
  generalize iblk m c 5 t = a5
  generalize iblk m c 6 t = a6
  generalize iblk m c 7 t = a7
  refine (merge_at _ _ _ _ _ a k).trans (congrArg (fun e => Ideal.logistic (a4 (ix2 a k)) * e + _) ?_)
  refine (product_at _ _ a k).trans (Finset.sum_congr rfl fun j _ => congrArg (· * a6 (ix2 j k)) ?_)
  rw [View.readCov_eq_canon']
  refine (congrArg (View.canon _) (?_ : _ = ix2 a j)).trans ?_
  · funext d; apply Fin.ext
    match d with
    | ⟨0, _⟩ => show 0 + 1 * a.val = a.val; omega
    | ⟨1, _⟩ => show 0 + 1 * j.val = j.val; omega
  canon_tiles x h
  · open_payloads; exact head_at a0 a1 a2 3 96 608 384 _ _ _ _ _ _ x (ix2 a j) (by omega) (by omega) rfl rfl rfl
  · open_payloads; exact head_at a0 a1 a2 2 64 576 256 _ _ _ _ _ _ x (ix2 a j) (by omega) (by omega) rfl rfl rfl
  · open_payloads; exact head_at a0 a1 a2 1 32 544 128 _ _ _ _ _ _ x (ix2 a j) (by omega) (by omega) rfl rfl rfl
  · open_payloads; exact head_at a0 a1 a2 0 0 512 0 _ _ _ _ _ _ x (ix2 a j) (by omega) (by omega) rfl rfl rfl

theorem final (c : Dev nD) : (dats m 0 c).arrAt 8 cfg0.N = whole m c := by
  refine (dats m 0 c).arrAt_eq_of_covers 8 _ (by decide +kernel) fun t hf y => ?_
  blk_simp
  obtain ⟨a, b, rfl⟩ : ∃ (a : Fin 256) (b : Fin 2048), y = ix2 a b := ⟨y 0, y 1, by funext d; match d with | ⟨0, _⟩ => rfl | ⟨1, _⟩ => rfl⟩
  rw [after0_8, out_at]
  obtain ⟨h0, h1⟩ := (pos t).2.2.2.2.2.2.2.2.2
  have e : (win0_8.blk t).view.emb (ix2 a b) = ix2 (tok t a) b := by
    funext d; apply Fin.ext
    match d with
    | ⟨0, _⟩ => show win0_8.index t 0 * 256 + 1 * a.val = 256 * t.val + a; omega
    | ⟨1, _⟩ => show win0_8.index t 1 * 2048 + 1 * b.val = b; omega
  rw [e, whole_at]
  unfold point
  simp only [heads_blk, gateAtt_blk, gateRec_blk, wAtt_blk, wRec_blk, rec_blk]

/-! ### The claims -/

theorem frame_ref : Cert.quiescent_MergeRefIdeal := fun m ρ _ =>
  (θ_run MergeRefIdeal.defs _ _).mono (fun r h => ⟨fun c => (h c).2, sem_eq_zero_of_no_sems (by decide) r.2⟩) (MergeRefIdeal.Value.run (F := Ideal) m ρ)

/-- The kernel's run with its result array named. -/
theorem runs : θ_run defs (onTc (τ := τ) (main (F := Ideal))) ⟨m, fun _ => 0, ρ⟩ (fun r => ∀ c : Dev nD,
    r.2.mem ((c.tc : Thread nD τ).loc main_v3) = whole m c) :=
  (θ_run defs _ _).mono (fun _ h c => ((h c).1 8).trans (final m c)) (run_main m ρ)

theorem equal : Cert.algebraic_MergeIdeal_MergeRefIdeal := fun m ρ m' ρ' _ hm =>
  ⟨whole m,
    (θ_run defs _ _).mono (fun r h c => ⟨h.1 c, h.2 c⟩) (θ_run_and (runs m ρ) (unchanged m ρ)),
    (θ_run MergeRefIdeal.defs _ _).mono (fun r h c => ⟨(h c).1.trans (by
        obtain ⟨e0, e1, e2, e3, e4, e5, e6⟩ := hm c
        rw [MergeRefIdeal.Value.res_eq, e0, e1, e2, e3, e4, e5, e6]
        funext i
        idx_vars i
        exact MergeRefIdeal.Value.merged_at _ _ _ _ _ _ _ _ _), (h c).2⟩)
      (MergeRefIdeal.Value.run (F := Ideal) m' ρ')⟩

end Cert.MergeIdeal.Value

end
-- ==== Proof.lean ====
/-
  The claims about the attention groups, the projections, the output projection and the merge, from the modules that prove them one call at a time.
-/
module

public import proofs.«01_k».proof.Defs
public import proofs.«01_k».proof.Proof.Gen.Attn0.Frame
public import proofs.«01_k».proof.Proof.Gen.Attn0Ideal.Value
public import proofs.«01_k».proof.Proof.Gen.AttnRef0Ideal.Run
public import proofs.«01_k».proof.Proof.Group0
public import proofs.«01_k».proof.Proof.Gen.Attn1.Frame
public import proofs.«01_k».proof.Proof.Gen.Attn1Ideal.Value
public import proofs.«01_k».proof.Proof.Gen.AttnRef1Ideal.Run
public import proofs.«01_k».proof.Proof.Group1
public import proofs.«01_k».proof.Proof.Gen.Attn2.Frame
public import proofs.«01_k».proof.Proof.Gen.Attn2Ideal.Value
public import proofs.«01_k».proof.Proof.Gen.AttnRef2Ideal.Run
public import proofs.«01_k».proof.Proof.Group2
public import proofs.«01_k».proof.Proof.Gen.Proj.Frame
public import proofs.«01_k».proof.Proof.Gen.ProjIdeal.Value
public import proofs.«01_k».proof.Proof.Gen.ProjRefIdeal.Run
public import proofs.«01_k».proof.Proof.Proj
public import proofs.«01_k».proof.Proof.Gen.Proj0.Frame
public import proofs.«01_k».proof.Proof.Gen.Proj0Ideal.Value
public import proofs.«01_k».proof.Proof.Gen.ProjRef0Ideal.Run
public import proofs.«01_k».proof.Proof.Proj0
public import proofs.«01_k».proof.Proof.Gen.Proj1.Frame
public import proofs.«01_k».proof.Proof.Gen.Proj1Ideal.Value
public import proofs.«01_k».proof.Proof.Gen.ProjRef1Ideal.Run
public import proofs.«01_k».proof.Proof.Proj1
public import proofs.«01_k».proof.Proof.Gen.Proj2.Frame
public import proofs.«01_k».proof.Proof.Gen.Proj2Ideal.Value
public import proofs.«01_k».proof.Proof.Gen.ProjRef2Ideal.Run
public import proofs.«01_k».proof.Proof.Proj2
public import proofs.«01_k».proof.Proof.Gen.Out.Frame
public import proofs.«01_k».proof.Proof.Gen.OutIdeal.Frame
public import proofs.«01_k».proof.Proof.Gen.OutRefIdeal.Run
public import proofs.«01_k».proof.Proof.Out
public import proofs.«01_k».proof.Proof.Gen.Merge.Frame
public import proofs.«01_k».proof.Proof.Gen.MergeIdeal.Frame
public import proofs.«01_k».proof.Proof.Gen.MergeRefIdeal.Run
public import proofs.«01_k».proof.Proof.Merge
public import proofs.«01_k».proof.Proof.Gen.Pre_finite_qk_0
public import proofs.«01_k».proof.Proof.Gen.Pre_finite_qk_1
public import proofs.«01_k».proof.Proof.Gen.Pre_finite_qk_2
public import Idealize.ShloMosaic.Adequacy
public import Idealize.ShloMosaic.Init

@[expose] public section

noncomputable section

namespace Cert.Proof

open Idealize.ShloMosaic Idealize.SL.Sem

theorem claim : Cert.Claim :=
  ⟨Cert.Attn0.Gen.facts, Cert.Attn0Ideal.Gen.facts, Cert.AttnRef0Ideal.Gen.facts, Cert.Attn1.Gen.facts, Cert.Attn1Ideal.Gen.facts, Cert.AttnRef1Ideal.Gen.facts, Cert.Attn2.Gen.facts, Cert.Attn2Ideal.Gen.facts, Cert.AttnRef2Ideal.Gen.facts, Cert.Proj.Gen.facts, Cert.ProjIdeal.Gen.facts, Cert.ProjRefIdeal.Gen.facts, Cert.Proj0.Gen.facts, Cert.Proj0Ideal.Gen.facts, Cert.ProjRef0Ideal.Gen.facts, Cert.Proj1.Gen.facts, Cert.Proj1Ideal.Gen.facts, Cert.ProjRef1Ideal.Gen.facts, Cert.Proj2.Gen.facts, Cert.Proj2Ideal.Gen.facts, Cert.ProjRef2Ideal.Gen.facts, Cert.Out.Gen.facts, Cert.OutIdeal.Gen.facts, Cert.OutRefIdeal.Gen.facts, Cert.Merge.Gen.facts, Cert.MergeIdeal.Gen.facts, Cert.MergeRefIdeal.Gen.facts, Cert.Pre_finite_qk_0.Gen.facts, Cert.Pre_finite_qk_1.Gen.facts, Cert.Pre_finite_qk_2.Gen.facts,
    fun m ρ _ => Cert.Attn0.Gen.frame m ρ, fun m ρ _ => Cert.Attn0Ideal.Gen.frame m ρ, fun m ρ _ => Cert.Attn0Ideal.Gen.frame m ρ, fun m ρ _ => Cert.Attn0Ideal.Value.frame_ref m ρ, fun m ρ _ => Cert.Attn0Ideal.Value.frame_ref m ρ,
    fun m ρ _ => Cert.Attn1.Gen.frame m ρ, fun m ρ _ => Cert.Attn1Ideal.Gen.frame m ρ, fun m ρ _ => Cert.Attn1Ideal.Gen.frame m ρ, fun m ρ _ => Cert.Attn1Ideal.Value.frame_ref m ρ, fun m ρ _ => Cert.Attn1Ideal.Value.frame_ref m ρ,
    fun m ρ _ => Cert.Attn2.Gen.frame m ρ, fun m ρ _ => Cert.Attn2Ideal.Gen.frame m ρ, fun m ρ _ => Cert.Attn2Ideal.Gen.frame m ρ, fun m ρ _ => Cert.Attn2Ideal.Value.frame_ref m ρ, fun m ρ _ => Cert.Attn2Ideal.Value.frame_ref m ρ,
    fun m ρ _ => Cert.Proj.Gen.frame m ρ, fun m ρ _ => Cert.ProjIdeal.Gen.frame m ρ, Cert.ProjIdeal.Value.frame_ref,
    fun m ρ _ => Cert.Proj0.Gen.frame m ρ, fun m ρ _ => Cert.Proj0Ideal.Gen.frame m ρ, Cert.Proj0Ideal.Value.frame_ref,
    fun m ρ _ => Cert.Proj1.Gen.frame m ρ, fun m ρ _ => Cert.Proj1Ideal.Gen.frame m ρ, Cert.Proj1Ideal.Value.frame_ref,
    fun m ρ _ => Cert.Proj2.Gen.frame m ρ, fun m ρ _ => Cert.Proj2Ideal.Gen.frame m ρ, Cert.Proj2Ideal.Value.frame_ref,
    fun m ρ _ => Cert.Out.Gen.frame m ρ, fun m ρ _ => Cert.OutIdeal.Gen.frame m ρ, Cert.OutIdeal.Value.frame_ref,
    fun m ρ _ => Cert.Merge.Gen.frame m ρ, fun m ρ _ => Cert.MergeIdeal.Gen.frame m ρ, Cert.MergeIdeal.Value.frame_ref,
    trivial, Cert.Attn0Ideal.Value.equal, trivial, Cert.Attn1Ideal.Value.equal, trivial, Cert.Attn2Ideal.Value.equal, trivial, Cert.ProjIdeal.Value.equal, trivial, Cert.Proj0Ideal.Value.equal, trivial, Cert.Proj1Ideal.Value.equal, trivial, Cert.Proj2Ideal.Value.equal, trivial, Cert.OutIdeal.Value.equal, trivial, Cert.MergeIdeal.Value.equal⟩

end Cert.Proof

end
